-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 1024]⟩ ⟨2, ![8192, 4096]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x1024 : Shape := ⟨2, ![8192, 1024]⟩
abbrev S4x8192x1024 : Shape := ⟨3, ![4, 8192, 1024]⟩
abbrev S2x256x8192 : Shape := ⟨3, ![2, 256, 8192]⟩
abbrev S2x256x1024 : Shape := ⟨3, ![2, 256, 1024]⟩
abbrev S_ : Shape := ⟨0, ![]⟩
abbrev S2 : Shape := ⟨1, ![2]⟩
abbrev S4 : Shape := ⟨1, ![4]⟩
abbrev S3 : Shape := ⟨1, ![3]⟩
abbrev S1 : Shape := ⟨1, ![1]⟩
abbrev S1x4096x1024 : Shape := ⟨3, ![1, 4096, 1024]⟩
abbrev S4096x1024 : Shape := ⟨2, ![4096, 1024]⟩
abbrev S1x256x8192 : Shape := ⟨3, ![1, 256, 8192]⟩
abbrev S256x8192 : Shape := ⟨2, ![256, 8192]⟩
abbrev S256x1024 : Shape := ⟨2, ![256, 1024]⟩
abbrev S1x256x1024 : Shape := ⟨3, ![1, 256, 1024]⟩
abbrev S1x8192x1024 : Shape := ⟨3, ![1, 8192, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x8192, .f32⟩
  | .hbm, ⟨1, _⟩ => ⟨S8192x1024, .f32⟩
  | .hbm, ⟨2, _⟩ => ⟨S8192x1024, .f32⟩
  | .hbm, ⟨3, _⟩ => ⟨S4x8192x1024, .f32⟩
  | .local _ .vmem, ⟨0, _⟩ => ⟨S8192x1024, .f32⟩
  | .local _ .vmem, ⟨1, _⟩ => ⟨S2x256x8192, .f32⟩
  | .local _ .vmem, ⟨2, _⟩ => ⟨S2x256x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_7 : BitVec 32 := 1#32
  let v11 : BitVec 32 := Scalar.muli v7 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_9 : BitVec 32 := 1#32
  let v13 : BitVec 32 := Scalar.muli v4 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_18 : BitVec 32 := 0#32
  let c0_i32_19 : BitVec 32 := 0#32
  ![v2.toNat, 0, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_16 : BitVec 32 := 1#32
  let v17 : BitVec 32 := Scalar.muli v4 c1_i32_16
  let v18 : BitVec 32 := Scalar.addi c0_i32_17 v17
  v18.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32 : BitVec 32 := 4096#32
  let c0_i32_26 : BitVec 32 := 0#32
  ![v2.toNat, 4096, 0]
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_24 : BitVec 32 := 1#32
  let v26 : BitVec 32 := Scalar.muli v7 c1_i32_24
  let v27 : BitVec 32 := Scalar.addi c0_i32_25 v26
  v27.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_31 : BitVec 32 := 1#32
  let v35 : BitVec 32 := Scalar.muli v4 c1_i32_31
  let v36 : BitVec 32 := Scalar.addi c0_i32_32 v35
  v36.toNat
def k0_dev7 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_39 : BitVec 32 := 1#32
  let v44 : BitVec 32 := Scalar.muli v7 c1_i32_39
  let v45 : BitVec 32 := Scalar.addi c0_i32_40 v44
  v45.toNat
@[reducible] def k0_t1_loop : Scf.Loop 32 :=
  let c0_i32_56 : BitVec 32 := 0#32
  let c4_i32_57 : BitVec 32 := 4#32
  let v63 : BitVec 32 := Scalar.addi c0_i32_56 c4_i32_57
  let c1_i32_58 : BitVec 32 := 1#32
  ⟨c0_i32_56, v63, c1_i32_58⟩
def k0_cond2 (k0_t1 : Fin k0_t1_loop.trips) : BitVec 1 :=
  let c0_i32_56 : BitVec 32 := 0#32
  let c1_i32_58 : BitVec 32 := 1#32
  let arg16 : BitVec 32 := Scf.iv c0_i32_56 c1_i32_58 k0_t1
  let c3_i32_510 : BitVec 32 := 3#32
  let v482 : BitVec 1 := Scalar.cmpi .slt arg16 c3_i32_510
  let v483 : BitVec 32 := Scalar.extui v482
  let c0_i32_511 : BitVec 32 := 0#32
  let v484 : BitVec 1 := Scalar.cmpi .ne v483 c0_i32_511
  v484

def k0_off3 (k0_t1 : Fin k0_t1_loop.trips) : Fin 2 → Nat :=
  let c2_i32_548 : BitVec 32 := 2#32
  let c0_i32_56 : BitVec 32 := 0#32
  let c1_i32_58 : BitVec 32 := 1#32
  let arg16 : BitVec 32 := Scf.iv c0_i32_56 c1_i32_58 k0_t1
  let v523 : BitVec 32 := Scalar.muli c2_i32_548 arg16
  let c2_i32_549 : BitVec 32 := 2#32
  let v524 : BitVec 32 := Scalar.addi v523 c2_i32_549
  let c0_i32_550 : BitVec 32 := 0#32
  let v525 : BitVec 32 := Scalar.addi v524 c0_i32_550
  let c256_i32_551 : BitVec 32 := 256#32
  let v526 : BitVec 32 := Scalar.muli v525 c256_i32_551
  let c0_i32_556 : BitVec 32 := 0#32
  ![v526.toNat, 0]
def k0_off4 (d0 : Dev nD) (k0_t1 : Fin k0_t1_loop.trips) (c0_i32_514 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_512 : BitVec 32 := 2048#32
  let v485 : BitVec 32 := Scalar.muli v2 c2048_i32_512
  let c2_i32_513 : BitVec 32 := 2#32
  let c0_i32_56 : BitVec 32 := 0#32
  let c1_i32_58 : BitVec 32 := 1#32
  let arg16 : BitVec 32 := Scf.iv c0_i32_56 c1_i32_58 k0_t1
  let v486 : BitVec 32 := Scalar.muli c2_i32_513 arg16
  let v487 : BitVec 32 := Scalar.addi v486 c0_i32_514
  let c256_i32_515 : BitVec 32 := 256#32
  let v488 : BitVec 32 := Scalar.muli v487 c256_i32_515
  let v489 : BitVec 32 := Scalar.addi v485 v488
  let c0_i32_518 : BitVec 32 := 0#32
  ![v489.toNat, 0]
def k0_cond4 (k0_t1 : Fin k0_t1_loop.trips) : BitVec 1 :=
  let c0_i32_56 : BitVec 32 := 0#32
  let c1_i32_58 : BitVec 32 := 1#32
  let arg16 : BitVec 32 := Scf.iv c0_i32_56 c1_i32_58 k0_t1
  let c3_i32_537 : BitVec 32 := 3#32
  let v510 : BitVec 1 := Scalar.cmpi .slt arg16 c3_i32_537
  let v511 : BitVec 32 := Scalar.extui v510
  let c0_i32_538 : BitVec 32 := 0#32
  let v512 : BitVec 1 := Scalar.cmpi .ne v511 c0_i32_538
  v512

def k0_off5 (k0_t1 : Fin k0_t1_loop.trips) : Fin 2 → Nat :=
  let c2_i32_548 : BitVec 32 := 2#32
  let c0_i32_56 : BitVec 32 := 0#32
  let c1_i32_58 : BitVec 32 := 1#32
  let arg16 : BitVec 32 := Scf.iv c0_i32_56 c1_i32_58 k0_t1
  let v523 : BitVec 32 := Scalar.muli c2_i32_548 arg16
  let c2_i32_549 : BitVec 32 := 2#32
  let v524 : BitVec 32 := Scalar.addi v523 c2_i32_549
  let c1_i32_550 : BitVec 32 := 1#32
  let v525 : BitVec 32 := Scalar.addi v524 c1_i32_550
  let c256_i32_551 : BitVec 32 := 256#32
  let v526 : BitVec 32 := Scalar.muli v525 c256_i32_551
  let c0_i32_556 : BitVec 32 := 0#32
  ![v526.toNat, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c0_i32_92 : BitVec 32 := 0#32
  let c0_i32_93 : BitVec 32 := 0#32
  ![v7.toNat, 0, 0]
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_90 : BitVec 32 := 1#32
  let v88 : BitVec 32 := Scalar.muli v4 c1_i32_90
  let v89 : BitVec 32 := Scalar.addi c0_i32_91 v88
  v89.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c4096_i32_100 : BitVec 32 := 4096#32
  let c0_i32_101 : BitVec 32 := 0#32
  ![v4.toNat, 4096, 0]
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_98 : BitVec 32 := 1#32
  let v98 : BitVec 32 := Scalar.muli v7 c1_i32_98
  let v99 : BitVec 32 := Scalar.addi c0_i32_99 v98
  v99.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c0_i32_120 : BitVec 32 := 0#32
  let c0_i32_121 : BitVec 32 := 0#32
  ![v7.toNat, 0, 0]
@[reducible] def k0_t2_loop : Scf.Loop 32 :=
  let c0_i32_136 : BitVec 32 := 0#32
  let c4_i32_137 : BitVec 32 := 4#32
  let v136 : BitVec 32 := Scalar.addi c0_i32_136 c4_i32_137
  let c1_i32_138 : BitVec 32 := 1#32
  ⟨c0_i32_136, v136, c1_i32_138⟩
def k0_cond6 (k0_t2 : Fin k0_t2_loop.trips) : BitVec 1 :=
  let c0_i32_136 : BitVec 32 := 0#32
  let c1_i32_138 : BitVec 32 := 1#32
  let arg16 : BitVec 32 := Scf.iv c0_i32_136 c1_i32_138 k0_t2
  let c3_i32_510 : BitVec 32 := 3#32
  let v482 : BitVec 1 := Scalar.cmpi .slt arg16 c3_i32_510
  let v483 : BitVec 32 := Scalar.extui v482
  let c0_i32_511 : BitVec 32 := 0#32
  let v484 : BitVec 1 := Scalar.cmpi .ne v483 c0_i32_511
  v484

def k0_off9 (k0_t2 : Fin k0_t2_loop.trips) : Fin 2 → Nat :=
  let c2_i32_552 : BitVec 32 := 2#32
  let c0_i32_136 : BitVec 32 := 0#32
  let c1_i32_138 : BitVec 32 := 1#32
  let arg16 : BitVec 32 := Scf.iv c0_i32_136 c1_i32_138 k0_t2
  let v531 : BitVec 32 := Scalar.muli c2_i32_552 arg16
  let c2_i32_553 : BitVec 32 := 2#32
  let v532 : BitVec 32 := Scalar.addi v531 c2_i32_553
  let c0_i32_554 : BitVec 32 := 0#32
  let v533 : BitVec 32 := Scalar.addi v532 c0_i32_554
  let c256_i32_555 : BitVec 32 := 256#32
  let v534 : BitVec 32 := Scalar.muli v533 c256_i32_555
  let c0_i32_560 : BitVec 32 := 0#32
  ![v534.toNat, 0]
def k0_off10 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off11 (d0 : Dev nD) (k0_t2 : Fin k0_t2_loop.trips) (c0_i32_514 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_512 : BitVec 32 := 2048#32
  let v485 : BitVec 32 := Scalar.muli v2 c2048_i32_512
  let c2_i32_513 : BitVec 32 := 2#32
  let c0_i32_136 : BitVec 32 := 0#32
  let c1_i32_138 : BitVec 32 := 1#32
  let arg16 : BitVec 32 := Scf.iv c0_i32_136 c1_i32_138 k0_t2
  let v486 : BitVec 32 := Scalar.muli c2_i32_513 arg16
  let v487 : BitVec 32 := Scalar.addi v486 c0_i32_514
  let c256_i32_515 : BitVec 32 := 256#32
  let v488 : BitVec 32 := Scalar.muli v487 c256_i32_515
  let v489 : BitVec 32 := Scalar.addi v485 v488
  let c0_i32_520 : BitVec 32 := 0#32
  ![v489.toNat, 0]
def k0_dev10 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_518 : BitVec 32 := 1#32
  let v490 : BitVec 32 := Scalar.muli v7 c1_i32_518
  let v491 : BitVec 32 := Scalar.addi c0_i32_519 v490
  v491.toNat
def k0_cond8 (k0_t2 : Fin k0_t2_loop.trips) : BitVec 1 :=
  let c0_i32_136 : BitVec 32 := 0#32
  let c1_i32_138 : BitVec 32 := 1#32
  let arg16 : BitVec 32 := Scf.iv c0_i32_136 c1_i32_138 k0_t2
  let c3_i32_539 : BitVec 32 := 3#32
  let v514 : BitVec 1 := Scalar.cmpi .slt arg16 c3_i32_539
  let v515 : BitVec 32 := Scalar.extui v514
  let c0_i32_540 : BitVec 32 := 0#32
  let v516 : BitVec 1 := Scalar.cmpi .ne v515 c0_i32_540
  v516

def k0_off12 (k0_t2 : Fin k0_t2_loop.trips) : Fin 2 → Nat :=
  let c2_i32_552 : BitVec 32 := 2#32
  let c0_i32_136 : BitVec 32 := 0#32
  let c1_i32_138 : BitVec 32 := 1#32
  let arg16 : BitVec 32 := Scf.iv c0_i32_136 c1_i32_138 k0_t2
  let v531 : BitVec 32 := Scalar.muli c2_i32_552 arg16
  let c2_i32_553 : BitVec 32 := 2#32
  let v532 : BitVec 32 := Scalar.addi v531 c2_i32_553
  let c1_i32_554 : BitVec 32 := 1#32
  let v533 : BitVec 32 := Scalar.addi v532 c1_i32_554
  let c256_i32_555 : BitVec 32 := 256#32
  let v534 : BitVec 32 := Scalar.muli v533 c256_i32_555
  let c0_i32_560 : BitVec 32 := 0#32
  ![v534.toNat, 0]
def k0_dev11 (d0 : Dev nD) : Nat :=
  let c0_i32_548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_547 : BitVec 32 := 1#32
  let v522 : BitVec 32 := Scalar.muli v7 c1_i32_547
  let v523 : BitVec 32 := Scalar.addi c0_i32_548 v522
  v523.toNat
def k0_off13 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c0_i32_154 : BitVec 32 := 0#32
  let c0_i32_155 : BitVec 32 := 0#32
  ![v4.toNat, 0, 0]
@[reducible] def k0_t3_loop : Scf.Loop 32 :=
  let c0_i32_170 : BitVec 32 := 0#32
  let c4_i32_171 : BitVec 32 := 4#32
  let v161 : BitVec 32 := Scalar.addi c0_i32_170 c4_i32_171
  let c1_i32_172 : BitVec 32 := 1#32
  ⟨c0_i32_170, v161, c1_i32_172⟩
def k0_cond10 (k0_t3 : Fin k0_t3_loop.trips) : BitVec 1 :=
  let c0_i32_170 : BitVec 32 := 0#32
  let c1_i32_172 : BitVec 32 := 1#32
  let arg16 : BitVec 32 := Scf.iv c0_i32_170 c1_i32_172 k0_t3
  let c3_i32_510 : BitVec 32 := 3#32
  let v482 : BitVec 1 := Scalar.cmpi .slt arg16 c3_i32_510
  let v483 : BitVec 32 := Scalar.extui v482
  let c0_i32_511 : BitVec 32 := 0#32
  let v484 : BitVec 1 := Scalar.cmpi .ne v483 c0_i32_511
  v484

def k0_off14 (k0_t3 : Fin k0_t3_loop.trips) : Fin 2 → Nat :=
  let c2_i32_552 : BitVec 32 := 2#32
  let c0_i32_170 : BitVec 32 := 0#32
  let c1_i32_172 : BitVec 32 := 1#32
  let arg16 : BitVec 32 := Scf.iv c0_i32_170 c1_i32_172 k0_t3
  let v531 : BitVec 32 := Scalar.muli c2_i32_552 arg16
  let c2_i32_553 : BitVec 32 := 2#32
  let v532 : BitVec 32 := Scalar.addi v531 c2_i32_553
  let c0_i32_554 : BitVec 32 := 0#32
  let v533 : BitVec 32 := Scalar.addi v532 c0_i32_554
  let c256_i32_555 : BitVec 32 := 256#32
  let v534 : BitVec 32 := Scalar.muli v533 c256_i32_555
  let c0_i32_560 : BitVec 32 := 0#32
  ![v534.toNat, 0]
def k0_off15 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off16 (d0 : Dev nD) (k0_t3 : Fin k0_t3_loop.trips) (c0_i32_514 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_512 : BitVec 32 := 2048#32
  let v485 : BitVec 32 := Scalar.muli v2 c2048_i32_512
  let c2_i32_513 : BitVec 32 := 2#32
  let c0_i32_170 : BitVec 32 := 0#32
  let c1_i32_172 : BitVec 32 := 1#32
  let arg16 : BitVec 32 := Scf.iv c0_i32_170 c1_i32_172 k0_t3
  let v486 : BitVec 32 := Scalar.muli c2_i32_513 arg16
  let v487 : BitVec 32 := Scalar.addi v486 c0_i32_514
  let c256_i32_515 : BitVec 32 := 256#32
  let v488 : BitVec 32 := Scalar.muli v487 c256_i32_515
  let v489 : BitVec 32 := Scalar.addi v485 v488
  let c0_i32_520 : BitVec 32 := 0#32
  ![v489.toNat, 0]
def k0_dev12 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_518 : BitVec 32 := 1#32
  let v490 : BitVec 32 := Scalar.muli v4 c1_i32_518
  let v491 : BitVec 32 := Scalar.addi c0_i32_519 v490
  v491.toNat
def k0_cond12 (k0_t3 : Fin k0_t3_loop.trips) : BitVec 1 :=
  let c0_i32_170 : BitVec 32 := 0#32
  let c1_i32_172 : BitVec 32 := 1#32
  let arg16 : BitVec 32 := Scf.iv c0_i32_170 c1_i32_172 k0_t3
  let c3_i32_539 : BitVec 32 := 3#32
  let v514 : BitVec 1 := Scalar.cmpi .slt arg16 c3_i32_539
  let v515 : BitVec 32 := Scalar.extui v514
  let c0_i32_540 : BitVec 32 := 0#32
  let v516 : BitVec 1 := Scalar.cmpi .ne v515 c0_i32_540
  v516

def k0_off17 (k0_t3 : Fin k0_t3_loop.trips) : Fin 2 → Nat :=
  let c2_i32_552 : BitVec 32 := 2#32
  let c0_i32_170 : BitVec 32 := 0#32
  let c1_i32_172 : BitVec 32 := 1#32
  let arg16 : BitVec 32 := Scf.iv c0_i32_170 c1_i32_172 k0_t3
  let v531 : BitVec 32 := Scalar.muli c2_i32_552 arg16
  let c2_i32_553 : BitVec 32 := 2#32
  let v532 : BitVec 32 := Scalar.addi v531 c2_i32_553
  let c1_i32_554 : BitVec 32 := 1#32
  let v533 : BitVec 32 := Scalar.addi v532 c1_i32_554
  let c256_i32_555 : BitVec 32 := 256#32
  let v534 : BitVec 32 := Scalar.muli v533 c256_i32_555
  let c0_i32_560 : BitVec 32 := 0#32
  ![v534.toNat, 0]
def k0_dev13 (d0 : Dev nD) : Nat :=
  let c0_i32_548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_547 : BitVec 32 := 1#32
  let v522 : BitVec 32 := Scalar.muli v4 c1_i32_547
  let v523 : BitVec 32 := Scalar.addi c0_i32_548 v522
  v523.toNat
@[reducible] def k0_t4_loop : Scf.Loop 32 :=
  let c0_i32_220 : BitVec 32 := 0#32
  let c4_i32_221 : BitVec 32 := 4#32
  let v202 : BitVec 32 := Scalar.addi c0_i32_220 c4_i32_221
  let c1_i32_222 : BitVec 32 := 1#32
  ⟨c0_i32_220, v202, c1_i32_222⟩
def k0_cond14 (k0_t4 : Fin k0_t4_loop.trips) : BitVec 1 :=
  let c0_i32_220 : BitVec 32 := 0#32
  let c1_i32_222 : BitVec 32 := 1#32
  let arg16 : BitVec 32 := Scf.iv c0_i32_220 c1_i32_222 k0_t4
  let c3_i32_510 : BitVec 32 := 3#32
  let v482 : BitVec 1 := Scalar.cmpi .slt arg16 c3_i32_510
  let v483 : BitVec 32 := Scalar.extui v482
  let c0_i32_511 : BitVec 32 := 0#32
  let v484 : BitVec 1 := Scalar.cmpi .ne v483 c0_i32_511
  v484

def k0_off18 (k0_t4 : Fin k0_t4_loop.trips) : Fin 2 → Nat :=
  let c2_i32_552 : BitVec 32 := 2#32
  let c0_i32_220 : BitVec 32 := 0#32
  let c1_i32_222 : BitVec 32 := 1#32
  let arg16 : BitVec 32 := Scf.iv c0_i32_220 c1_i32_222 k0_t4
  let v531 : BitVec 32 := Scalar.muli c2_i32_552 arg16
  let c2_i32_553 : BitVec 32 := 2#32
  let v532 : BitVec 32 := Scalar.addi v531 c2_i32_553
  let c0_i32_554 : BitVec 32 := 0#32
  let v533 : BitVec 32 := Scalar.addi v532 c0_i32_554
  let c256_i32_555 : BitVec 32 := 256#32
  let v534 : BitVec 32 := Scalar.muli v533 c256_i32_555
  let c0_i32_560 : BitVec 32 := 0#32
  ![v534.toNat, 0]
def k0_off19 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off20 (d0 : Dev nD) (k0_t4 : Fin k0_t4_loop.trips) (c0_i32_514 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_512 : BitVec 32 := 2048#32
  let v485 : BitVec 32 := Scalar.muli v2 c2048_i32_512
  let c2_i32_513 : BitVec 32 := 2#32
  let c0_i32_220 : BitVec 32 := 0#32
  let c1_i32_222 : BitVec 32 := 1#32
  let arg16 : BitVec 32 := Scf.iv c0_i32_220 c1_i32_222 k0_t4
  let v486 : BitVec 32 := Scalar.muli c2_i32_513 arg16
  let v487 : BitVec 32 := Scalar.addi v486 c0_i32_514
  let c256_i32_515 : BitVec 32 := 256#32
  let v488 : BitVec 32 := Scalar.muli v487 c256_i32_515
  let v489 : BitVec 32 := Scalar.addi v485 v488
  let c0_i32_520 : BitVec 32 := 0#32
  ![v489.toNat, 0]
def k0_dev14 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_518 : BitVec 32 := 1#32
  let v490 : BitVec 32 := Scalar.muli v9 c1_i32_518
  let v491 : BitVec 32 := Scalar.addi c0_i32_519 v490
  v491.toNat
def k0_cond16 (k0_t4 : Fin k0_t4_loop.trips) : BitVec 1 :=
  let c0_i32_220 : BitVec 32 := 0#32
  let c1_i32_222 : BitVec 32 := 1#32
  let arg16 : BitVec 32 := Scf.iv c0_i32_220 c1_i32_222 k0_t4
  let c3_i32_539 : BitVec 32 := 3#32
  let v514 : BitVec 1 := Scalar.cmpi .slt arg16 c3_i32_539
  let v515 : BitVec 32 := Scalar.extui v514
  let c0_i32_540 : BitVec 32 := 0#32
  let v516 : BitVec 1 := Scalar.cmpi .ne v515 c0_i32_540
  v516

def k0_off21 (k0_t4 : Fin k0_t4_loop.trips) : Fin 2 → Nat :=
  let c2_i32_552 : BitVec 32 := 2#32
  let c0_i32_220 : BitVec 32 := 0#32
  let c1_i32_222 : BitVec 32 := 1#32
  let arg16 : BitVec 32 := Scf.iv c0_i32_220 c1_i32_222 k0_t4
  let v531 : BitVec 32 := Scalar.muli c2_i32_552 arg16
  let c2_i32_553 : BitVec 32 := 2#32
  let v532 : BitVec 32 := Scalar.addi v531 c2_i32_553
  let c1_i32_554 : BitVec 32 := 1#32
  let v533 : BitVec 32 := Scalar.addi v532 c1_i32_554
  let c256_i32_555 : BitVec 32 := 256#32
  let v534 : BitVec 32 := Scalar.muli v533 c256_i32_555
  let c0_i32_560 : BitVec 32 := 0#32
  ![v534.toNat, 0]
def k0_dev15 (d0 : Dev nD) : Nat :=
  let c0_i32_548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_547 : BitVec 32 := 1#32
  let v522 : BitVec 32 := Scalar.muli v9 c1_i32_547
  let v523 : BitVec 32 := Scalar.addi c0_i32_548 v522
  v523.toNat
def k0_off22 (d0 : Dev nD) (c1_i32_280 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v245 : BitVec 32 := Scalar.addi v2 c1_i32_280
  let c4_i32_281 : BitVec 32 := 4#32
  let v246 : BitVec 32 := Scalar.remsi v245 c4_i32_281
  ![v246.toNat]
def k0_off23 (d0 : Dev nD) (c1_i32_280 : BitVec 32) (c0_i32_282 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v245 : BitVec 32 := Scalar.addi v2 c1_i32_280
  let c4_i32_281 : BitVec 32 := 4#32
  let v246 : BitVec 32 := Scalar.remsi v245 c4_i32_281
  let c2048_i32 : BitVec 32 := 2048#32
  let v247 : BitVec 32 := Scalar.muli v246 c2048_i32
  let v248 : BitVec 32 := Scalar.addi v247 c0_i32_282
  let c0_i32_287 : BitVec 32 := 0#32
  ![v248.toNat, 0]
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Common.lean ====
/-
  The mesh, the buffers' pieces, the contents they hold, the schedule of the semaphore cells, what a device owes at
  launch and the cells' levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.MemrefSat
public import Idealize.ShloMosaic.Lib.Tactic

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The user algebra: the pipeline's rounds, the kernel's rounds, the counters of the local copies -/

/-- The kernel's rounds: cells are semaphores, duties are numbers. -/
abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  (Emb.inl : Emb UB (UB × Counters)).trans (embR : Emb (UB × Counters) (MT nD τ sig Unit (Elt F) ℕ UU ℕ))
abbrev EC : UEmb Counters (MT nD τ sig Unit (Elt F) ℕ UU ℕ) := countersEmb

instance ER_landsIn : (ER (F := F)).LandsIn (upEmb : UEmb _ 𝕄) := by unfold ER; infer_instance
instance EC_landsIn : (EC (F := F)).LandsIn (upEmb : UEmb _ 𝕄) := by unfold EC; infer_instance

/-! ## Pieces of the buffers -/

/-- The whole argument `x`. -/
abbrev xA : Memref sig .tc .hbm S2048x8192 .f32 := Memref.whole main_arg0
/-- The whole argument `w`. -/
abbrev wA : Memref sig .tc .hbm S8192x1024 .f32 := Memref.whole main_arg1
/-- The whole result `y`. -/
abbrev yA : Memref sig .tc .hbm S8192x1024 .f32 := Memref.whole main_v1_0
/-- The whole gathered `w`. -/
abbrev gA : Memref sig .tc .hbm S4x8192x1024 .f32 := Memref.whole main_v1_1
/-- The window of `w` the products read. -/
abbrev wB : Memref sig .tc .vmem S8192x1024 .f32 := Memref.whole cc0_scratch0
/-- The two slots of `x` rows. -/
abbrev xB : Memref sig .tc .vmem S2x256x8192 .f32 := Memref.whole cc0_scratch1
/-- The two slots of products. -/
abbrev yB : Memref sig .tc .vmem S2x256x1024 .f32 := Memref.whole cc0_scratch2

/-- The piece lies inside its buffer. -/
theorem xR_inb (p : Fin 8) : ∀ a, (![256 * p.val, 0] : Fin 2 → ℕ) a + S256x8192.size a ≤ S2048x8192.size a := by
  revert p; decide
/-- The piece lies inside its buffer. -/
theorem wR_inb (b : Fin 2) : ∀ a, (![4096 * b.val, 0] : Fin 2 → ℕ) a + S4096x1024.size a ≤ S8192x1024.size a := by
  revert b; decide
/-- The piece lies inside its buffer. -/
theorem yR_inb (s : Dev nD) (p : Fin 8) : ∀ a, (![2048 * s.val + 256 * p.val, 0] : Fin 2 → ℕ) a + S256x1024.size a ≤ S8192x1024.size a := by
  revert s p; decide
/-- The piece lies inside its buffer. -/
theorem gR_inb (s : Dev nD) (b : Fin 2) : ∀ a, (![s.val, 4096 * b.val, 0] : Fin 3 → ℕ) a + S1x4096x1024.size a ≤ S4x8192x1024.size a := by
  revert s b; decide
/-- The piece lies inside its buffer. -/
theorem gW_inb (s : Dev nD) : ∀ a, (![s.val, 0, 0] : Fin 3 → ℕ) a + S1x8192x1024.size a ≤ S4x8192x1024.size a := by
  revert s; decide
/-- The piece lies inside its buffer. -/
theorem xsR_inb (s : Fin 2) : ∀ a, (![s.val, 0, 0] : Fin 3 → ℕ) a + S1x256x8192.size a ≤ S2x256x8192.size a := by
  revert s; decide
/-- The piece lies inside its buffer. -/
theorem ysR_inb (s : Fin 2) : ∀ a, (![s.val, 0, 0] : Fin 3 → ℕ) a + S1x256x1024.size a ≤ S2x256x1024.size a := by
  revert s; decide

/-- Rows `256 p ..` of `x`. -/
abbrev xR (p : Fin 8) : Rect S2048x8192 := Rect.unit ![256 * p.val, 0] S256x8192.size (xR_inb p)
/-- The upper (`b = 0`) or lower half of `w`. -/
abbrev wR (b : Fin 2) : Rect S8192x1024 := Rect.unit ![4096 * b.val, 0] S4096x1024.size (wR_inb b)
/-- Block `p` of device `s`'s rows of `y`. -/
abbrev yR (s : Dev nD) (p : Fin 8) : Rect S8192x1024 := Rect.unit ![2048 * s.val + 256 * p.val, 0] S256x1024.size (yR_inb s p)
/-- Half `b` of device `s`'s part of the gathered `w`. -/
abbrev gR (s : Dev nD) (b : Fin 2) : Rect S4x8192x1024 := Rect.unit ![s.val, 4096 * b.val, 0] S1x4096x1024.size (gR_inb s b)
/-- Device `s`'s part of the gathered `w`. -/
abbrev gW (s : Dev nD) : Rect S4x8192x1024 := Rect.unit ![s.val, 0, 0] S1x8192x1024.size (gW_inb s)
/-- Slot `s` of the `x` rows. -/
abbrev xsR (s : Fin 2) : Rect S2x256x8192 := Rect.unit ![s.val, 0, 0] S1x256x8192.size (xsR_inb s)
/-- Slot `s` of the products. -/
abbrev ysR (s : Fin 2) : Rect S2x256x1024 := Rect.unit ![s.val, 0, 0] S1x256x1024.size (ysR_inb s)

abbrev xM (p : Fin 8) : Memref sig .tc .hbm S256x8192 .f32 := xA.slice (xR p) (fun _ => rfl)
abbrev wM (b : Fin 2) : Memref sig .tc .hbm S4096x1024 .f32 := wA.slice (wR b) (fun _ => rfl)
abbrev yM (s : Dev nD) (p : Fin 8) : Memref sig .tc .hbm S256x1024 .f32 := yA.slice (yR s p) (fun _ => rfl)
abbrev gM (s : Dev nD) (b : Fin 2) : Memref sig .tc .hbm S4096x1024 .f32 :=
  (gA.slice (gR s b) (fun _ => rfl)).squeeze S4096x1024 squeezes_S1x4096x1024_S4096x1024
abbrev gMW (s : Dev nD) : Memref sig .tc .hbm S8192x1024 .f32 :=
  (gA.slice (gW s) (fun _ => rfl)).squeeze S8192x1024 squeezes_S1x8192x1024_S8192x1024
abbrev xS (s : Fin 2) : Memref sig .tc .vmem S256x8192 .f32 :=
  (xB.slice (xsR s) (fun _ => rfl)).squeeze S256x8192 squeezes_S1x256x8192_S256x8192
abbrev yS (s : Fin 2) : Memref sig .tc .vmem S256x1024 .f32 :=
  (yB.slice (ysR s) (fun _ => rfl)).squeeze S256x1024 squeezes_S1x256x1024_S256x1024

/-! ## Contents -/

/-- Rows `256 p ..` of contents of `x`. -/
def xBlk (X : S2048x8192.Idx → Elt F .f32) (p : Fin 8) : S256x8192.Idx → Elt F .f32 := fun j => X ((xR p).emb j)
/-- Half `b` of contents of `w`. -/
def wHalf (W : S8192x1024.Idx → Elt F .f32) (b : Fin 2) : S4096x1024.Idx → Elt F .f32 := fun j => W ((wR b).emb j)
/-- The product of 256 rows with contents of `w`, as the kernel computes it. -/
def yBlk (X : S256x8192.Idx → Elt F .f32) (W : S8192x1024.Idx → Elt F .f32) : S256x1024.Idx → Elt F .f32 :=
  matmul (F := F) dot_S256x8192_S8192x1024_S256x1024_1_0_0_1_n_n none X W (constant S256x1024 .f32 0x00000000#32)

/-! ## Cells -/

/-- The runtime's barrier semaphore. -/
abbrev barS : Sem sig := (SemArray.scalar (sig.barrier 0 rfl) : Sems sig S_).sem

/-- A semaphore's number: 0 for the barrier, the scratch semaphores from 1. -/
def smIx : SemLoc sig → ℕ
  | .reg _ => 0
  | .dma d => d.val + 1

/-- The nineteen semaphores whose cells run by rounds: the barrier, and the copies' between devices. -/
def csem (k : Fin 19) : SemLoc sig :=
  if h : k.val = 0 then .reg barS else .dma ⟨k.val + 4, by have := k.isLt; show k.val + 4 < 23; omega⟩

abbrev dsem (n : ℕ) (h : n < 23) : DmaSem sig := ⟨n, h⟩

abbrev cell (c : Dev nD) (sm : SemLoc sig) : GSem nD τ sig := ((c : Thread nD τ), sm)

/-- The units a copy of half of a `w` counts on its semaphores. -/
abbrev Nh : ℕ := (gM 0 0).view.dmaCredit
/-- The units a copy of a 256-row block of products counts. -/
abbrev Ny : ℕ := (yM 0 0).view.dmaCredit
/-- A copy of half of a `w` counts something. -/
theorem Nh_pos : 0 < Nh := View.dmaCredit_pos _ (by decide)
/-- A copy of a block of products counts something. -/
theorem Ny_pos : 0 < Ny := View.dmaCredit_pos _ (by decide)

/-! ## What a device pays on other devices, in the order it pays: three signals, six copies of halves of `w`, the
products of three devices' columns, eight blocks each -/

/-- How far round the ring payment `j` goes. -/
def rot (j : ℕ) : Dev nD :=
  if j = 0 then 3 else if j = 1 then 1 else if j = 2 then 2
  else if j = 3 ∨ j = 5 ∨ j = 7 then 1 else if j = 4 ∨ j = 6 ∨ j = 8 then 3
  else if j < 17 then 3 else if j < 25 then 1 else 2

/-- The semaphore payment `j` of device `c` raises. -/
def paySm (c : Dev nD) (j : ℕ) : SemLoc sig :=
  if j < 3 then .reg barS
  else if j = 3 then .dma (dsem 14 (by decide)) else if j = 4 then .dma (dsem 20 (by decide))
  else if j = 5 then .dma (dsem 15 (by decide)) else if j = 6 then .dma (dsem 21 (by decide))
  else if j = 7 then .dma (dsem 16 (by decide)) else if j = 8 then .dma (dsem 22 (by decide))
  else .dma (dsem (7 + c.val) (by have : c.val < 4 := c.isLt; omega))

/-- By how much. -/
def payAmt (j : ℕ) : ℕ := if j < 3 then 1 else if j < 9 then Nh else Ny

/-- The duty of the raised cell's round 0 that payment `j` is. -/
def payD (j : ℕ) : ℕ := if j = 1 then 2 else if j = 2 then 1 else if j < 9 then 0 else (j - 9) % 8

abbrev payCell (c : Dev nD) (j : ℕ) : GSem nD τ sig := cell (c + rot j) (paySm c j)

/-- Whose part of the gathered `w` payment `j` (a copy of half of a `w`) writes. -/
def gOwn (c : Dev nD) (j : ℕ) : Dev nD := if j = 7 then c + 3 else if j = 8 then c + 1 else c
/-- Which half. -/
def gHalf (j : ℕ) : Fin 2 := if j = 4 ∨ j = 5 ∨ j = 8 then 1 else 0
/-- Which block of rows payment `j` (a copy of products) writes. -/
def yIx (j : ℕ) : Fin 8 := ⟨(j - 9) % 8, Nat.mod_lt _ (by decide)⟩

/-- The elements payment `j` of device `c` overwrites, at any contents. -/
def dest (c : Dev nD) (j : ℕ) : sProp 𝕄 :=
  if j < 9 then iprop(∃ Y, owns ((c + rot j : Dev nD) : Thread nD τ) (gM (gOwn c j) (gHalf j)) fullShare Y)
  else iprop(∃ Y, owns ((c + rot j : Dev nD) : Thread nD τ) (yM c (yIx j)) fullShare Y)

instance dest_storable (c : Dev nD) (j : ℕ) : BI.Storable (upEmb : UEmb _ 𝕄) (dest (F := F) c j) := by
  unfold dest; split <;> infer_instance

/-- The payments of device `c` that go `d + 1` round the ring, beyond the signals. -/
def barIx (d : ℕ) : Finset ℕ := (Finset.Ico 3 33).filter fun j => (rot j).val = d + 1

/-- What the signal of the device `d + 1` round the ring hands device `c`: everything `c` will overwrite there. -/
def barPay (c : Dev nD) (d : ℕ) : sProp 𝕄 := bigSep (barIx d) fun j => dest c j

instance barPay_storable (c : Dev nD) (d : ℕ) : BI.Storable (upEmb : UEmb _ 𝕄) (barPay (F := F) c d) := by
  unfold barPay; infer_instance

/-! ## The schedule -/

variable (X : Dev nD → S2048x8192.Idx → Elt F .f32) (W : Dev nD → S8192x1024.Idx → Elt F .f32)

/-- The half of device `s`'s `w` that has arrived in device `o`'s gathered `w`. -/
def gFull (o s : Dev nD) (b : Fin 2) : sProp 𝕄 := owns (o : Thread nD τ) (gM s b) fullShare (wHalf (W s) b)
/-- The block of products of device `s`'s rows with `o`'s `w` that stands in device `o`'s result. -/
def yFull (o s : Dev nD) (p : Fin 8) : sProp 𝕄 := owns (o : Thread nD τ) (yM s p) fullShare (yBlk (xBlk (X s) p) (W o))

instance gFull_storable (o s : Dev nD) (b : Fin 2) : BI.Storable (upEmb : UEmb _ 𝕄) (gFull (F := F) W o s b) := by
  unfold gFull; infer_instance
instance yFull_storable (o s : Dev nD) (p : Fin 8) : BI.Storable (upEmb : UEmb _ 𝕄) (yFull (F := F) X W o s p) := by
  unfold yFull; infer_instance

/-- Duties of round `r` of the cell of device `c`'s semaphore number `i`. -/
def dut (c : Dev nD) (i r : ℕ) : Finset ℕ :=
  if i = 0 then (if r = 0 then Finset.range 3 else ∅)
  else if i < 6 then ∅
  else if i < 8 then (if r < 12 then {0} else ∅)
  else if i < 12 then (if r = 0 ∧ i ≠ 8 + c.val then Finset.range 8 else ∅)
  else (if r = 0 then {0} else ∅)

/-- Their amounts. -/
def amt (i : ℕ) : ℕ := if i = 0 then 1 else if i < 12 then Ny else Nh
/-- Every semaphore counts something per payment. -/
theorem amt_pos (i : ℕ) : 0 < amt i := by
  unfold amt; (repeat' split)
  · exact Nat.one_pos
  · exact Ny_pos
  · exact Nh_pos

/-- Their payloads. -/
def pay (c : Dev nD) (i d : ℕ) : sProp 𝕄 :=
  if i = 0 then barPay c d
  else if i = 6 then iprop(∃ Y, owns (c : Thread nD τ) (yS 0) fullShare Y)
  else if i = 7 then iprop(∃ Y, owns (c : Thread nD τ) (yS 1) fullShare Y)
  else if h : 8 ≤ i ∧ i < 12 ∧ d < 8 then yFull X W c ⟨i - 8, by show i - 8 < 4; omega⟩ ⟨d, h.2.2⟩
  else if i = 15 then gFull W c (c + 3) 0
  else if i = 16 then gFull W c (c + 3) 1
  else if i = 17 then gFull W c (c + 2) 0
  else if i = 21 then gFull W c (c + 1) 1
  else if i = 22 then gFull W c (c + 1) 0
  else if i = 23 then gFull W c (c + 2) 1
  else iprop(emp)

/-- The schedule of the cells: one round of three unit signals on a barrier cell; twelve rounds of one copy on the
    products' send cells; one round of eight copies on the products' receive cells of the three other devices; one
    round of one copy on the `w` halves' cells. -/
def Rd : Rounds.Schedule (GSem nD τ sig) ℕ 𝕄 where
  duties g r := dut g.1.1 (smIx g.2) r
  unitless _ := False
  amount g _ _ := amt (smIx g.2)
  payload g _ d := pay X W g.1.1 (smIx g.2) d
  amount_pos g _ _ _ := amt_pos _

instance pay_storable (c : Dev nD) (i d : ℕ) : BI.Storable (upEmb : UEmb _ 𝕄) (pay (F := F) X W c i d) := by
  unfold pay; (repeat' split) <;> infer_instance
instance Rd_storable (g : GSem nD τ sig) (r d : ℕ) : BI.Storable (upEmb : UEmb _ 𝕄) ((Rd (F := F) X W).payload g r d) :=
  pay_storable X W g.1.1 (smIx g.2) d

/-- The payments the schedule expects in a round, -/
theorem Rd_duties (c : Dev nD) (sm : SemLoc sig) (r : ℕ) : (Rd (F := F) X W).duties (cell c sm) r = dut c (smIx sm) r := rfl
/-- how much each counts, -/
theorem Rd_amount (c : Dev nD) (sm : SemLoc sig) (r d : ℕ) : (Rd (F := F) X W).amount (cell c sm) r d = amt (smIx sm) := rfl
/-- what each hands over, -/
theorem Rd_payload (c : Dev nD) (sm : SemLoc sig) (r d : ℕ) : (Rd (F := F) X W).payload (cell c sm) r d = pay X W c (smIx sm) d := rfl
/-- and how much a round counts in all. -/
theorem Rd_expect (c : Dev nD) (sm : SemLoc sig) (r : ℕ) :
    (Rd (F := F) X W).expect (cell c sm) r = (dut c (smIx sm) r).card * amt (smIx sm) := by
  unfold Schedule.expect Schedule.amountOf
  rw [Finset.sum_congr rfl fun d _ => Rd_amount X W c sm r d, Finset.sum_const, smul_eq_mul]; rfl

/-! ## Levels and dues -/

/-- Every TensorCore cell's waits are ranked. -/
def L (g : GSem nD τ sig) : Finset Unit := if g.1.2 = .tc then {()} else ∅
/-- The rank of a semaphore by its number: the barrier 1, the hops' receive cells 2, 3, 4, the products' receive cells 5,
    the others 0. -/
def lvN (i : ℕ) : ℕ :=
  if i = 0 then 1 else if 8 ≤ i ∧ i < 12 then 5 else if 15 ≤ i ∧ i < 18 then i - 13 else if 21 ≤ i ∧ i < 24 then i - 19 else 0
def lv (g : GSem nD τ sig) (_ : Unit) : ℕ := lvN (smIx g.2)

/-- Only the devices' main threads have levels. -/
theorem L_of_ne (g : GSem nD τ sig) (h : g.1.2 ≠ .tc) : L g = ∅ := if_neg h
/-- A main thread's semaphores have one level each. -/
theorem L_tc (c : Dev nD) (sm : SemLoc sig) : L ((c : Thread nD τ), sm) = {()} := if_pos rfl

/-- The numbers from `i` on are `i` and those from `i + 1` on. -/
theorem Ico_insert {i n : ℕ} (hi : i < n) : insert i (Finset.Ico (i + 1) n) = Finset.Ico i n := by
  ext j; rw [Finset.mem_insert, Finset.mem_Ico, Finset.mem_Ico]; omega

/-- What device `c` still owes once it has made its first `i` payments. -/
def Orem (c : Dev nD) (i : ℕ) : CellTallies nD τ sig Unit := ∑ j ∈ Finset.Ico i 33, tallyAt (payCell c j) () (payAmt j)

/-- What is owed from payment `i` on is payment `i` and what is owed from `i + 1` on. -/
theorem Orem_step (c : Dev nD) (i : ℕ) (hi : i < 33) : Orem c i = Orem c (i + 1) + tallyAt (payCell c i) () (payAmt i) := by
  unfold Orem
  rw [← Ico_insert hi, Finset.sum_insert (by rw [Finset.mem_Ico]; omega), add_comm]

/-- After the last payment nothing is owed. -/
theorem Orem_end (c : Dev nD) : Orem c 33 = 0 := by unfold Orem; rw [Finset.Ico_self, Finset.sum_empty]

/-- A sum of tallies that counts somewhere has a summand that counts there. -/
theorem sum_pos {α : Type} [DecidableEq α] (s : Finset α) (f : α → CellTallies nD τ sig Unit) (g : GSem nD τ sig) (u : Unit)
    (h : 0 < (∑ j ∈ s, f j) g u) : ∃ j ∈ s, 0 < f j g u := by
  induction s using Finset.induction_on with
  | empty => rw [Finset.sum_empty] at h; exact absurd h (Nat.lt_irrefl 0)
  | insert a s ha ih =>
    rw [Finset.sum_insert ha, Pi.add_apply, Finsupp.add_apply] at h
    rcases Nat.add_pos_iff_pos_or_pos.mp h with h | h
    · exact ⟨a, Finset.mem_insert_self _ _, h⟩
    · obtain ⟨j, hj, e⟩ := ih h; exact ⟨j, Finset.mem_insert_of_mem hj, e⟩

/-- Where something is owed, one of the payments to come goes. -/
theorem Orem_pos {c : Dev nD} {i : ℕ} {g : GSem nD τ sig} {u : Unit} (h : 0 < Orem c i g u) : ∃ j, i ≤ j ∧ j < 33 ∧ g = payCell c j := by
  obtain ⟨j, hj, e⟩ := sum_pos _ _ g u h
  rw [Finset.mem_Ico] at hj
  rw [tallyAt_apply] at e
  by_cases hg : g = payCell c j ∧ u = ()
  · exact ⟨j, hj.1, hj.2, hg.1⟩
  · rw [if_neg hg] at e; exact absurd e (Nat.lt_irrefl 0)

/-- A wait is allowed where its cell ranks below every cell the device still owes. -/
theorem mayWait (c : Dev nD) (sm : SemLoc sig) (i : ℕ) (h : ∀ j, i ≤ j → j < 33 → lvN (smIx sm) < lvN (smIx (paySm c j))) :
    (levAts L lv : sProp 𝕄) ⊢ MayWait (c : Thread nD τ) sm () (Orem c i) :=
  Pipeline.mayWait_of_levAts (L := L) (lev := lv) (by rw [L_tc]; exact Finset.mem_singleton_self _)
    (fun g u hg => by
      obtain ⟨j, h1, h2, rfl⟩ := Orem_pos hg
      exact ⟨by rw [L_tc]; exact Finset.mem_singleton_self _, h j h1 h2⟩)

/-- Every payment goes to a semaphore of positive level. -/
theorem pay_ranked : ∀ (c : Dev nD) (j : Fin 33), 0 < lvN (smIx (paySm c j)) := by decide

/-- A wait on a cell of rank 0 is always allowed. -/
theorem mayWait_low (c : Dev nD) (sm : SemLoc sig) (i : ℕ) (h : lvN (smIx sm) = 0) :
    (levAts L lv : sProp 𝕄) ⊢ MayWait (c : Thread nD τ) sm () (Orem c i) :=
  mayWait c sm i fun j _ h2 => by rw [h]; exact pay_ranked c ⟨j, h2⟩

end Cert.Proof.K
-- ==== Proof.Steps.lean ====
/-
  One rule per operation of the body, stated over pieces of buffers at contents: a copy inside a device and its wait, a
  signal, a copy to another device, the wait on a cell of one duty, the loads and the store through a slot.
-/
module

public import proofs.«01_k».proof.Proof.Common

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev wpK (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (X : Dev nD → S2048x8192.Idx → Elt F .f32) (W : Dev nD → S8192x1024.Idx → Elt F .f32)
variable (K : Dev nD × Fin 19 → ℕ)

/-- The cell of device `c`'s `k`-th semaphore of the rounds. -/
abbrev kcell (ck : Dev nD × Fin 19) : GSem nD τ sig := cell ck.1 (csem ck.2)

/-- The facts every device shares: the cells' invariants, that round 0 of each is reached, the levels. -/
def recs : sProp 𝕄 :=
  iprop((bigSep Finset.univ fun ck => cellInv ER (Rd X W) (K ck) (kcell ck))
    ∗ (bigSep Finset.univ fun ck => reached ER (kcell ck) 0) ∗ levAts L lv)

instance recs_persistent : BI.Persistent (recs (F := F) X W K) := by unfold recs; infer_instance

/-- The invariant of any cell is among the lasting facts, -/
theorem recs_inv (c : Dev nD) (k : Fin 19) : recs (F := F) X W K ⊢ cellInv ER (Rd X W) (K (c, k)) (cell c (csem k)) := by
  unfold recs
  iintro ⟨H, -, -⟩
  iapply (show (bigSep Finset.univ fun ck => cellInv ER (Rd X W) (K ck) (kcell ck) : sProp 𝕄) ⊢ cellInv ER (Rd X W) (K (c, k)) (kcell (c, k))
    from bigSep_elim (Finset.mem_univ (c, k))) $$ H
/-- and so is that its first round is open, -/
theorem recs_reached (c : Dev nD) (k : Fin 19) : recs (F := F) X W K ⊢ reached ER (cell c (csem k)) 0 := by
  unfold recs
  iintro ⟨-, H, -⟩
  iapply (show (bigSep Finset.univ fun ck => reached ER (kcell ck) 0 : sProp 𝕄) ⊢ reached ER (kcell (c, k)) 0
    from bigSep_elim (Finset.mem_univ (c, k))) $$ H
/-- and the levels. -/
theorem recs_lev : recs (F := F) X W K ⊢ levAts L lv := by
  unfold recs
  iintro ⟨-, -, H⟩
  iexact H

/-- A piece held at contents that read `Xs`. -/
theorem owns_of (c : Thread nD τ) {sp : Space} {s : Shape} {e : EltTy} (m : Memref sig c.2.kind sp s e) (q : PosShare TreeShare)
    {f : Buf (Elt F) (m.view.loc c)} {Xs : s.Idx → Elt F e} (h : m.view.read (Elt F) f = Xs) :
    (m.view.loc c ↦[m.view.set]{q} f : sProp 𝕄) ⊢ owns c m q Xs := by
  unfold owns
  iintro H
  iexists f; isplitr; · ipureintro; exact h
  iexact H

/-- Device `c` owes what is left after `i` payments. -/
def ow (c : Dev nD) (i : ℕ) : sProp 𝕄 := iprop(∃ Ws, owes (c : Thread nD τ) (Orem c i) Ws)

/-- The right to make payment `j`. -/
def ptok (c : Dev nD) (j : ℕ) : sProp 𝕄 := dutyTok ER (payCell c j) 0 (payD j)

/-- What a signal on the barrier hands over. -/
theorem pay_bar (c : Dev nD) (d : ℕ) : pay (F := F) X W c 0 d = barPay c d := by unfold pay; rw [if_pos rfl]

/-! ## Tables of the payments -/

def amtC (i : ℕ) : Fin 3 := if i = 0 then 0 else if i < 12 then 1 else 2
def payC (j : ℕ) : Fin 3 := if j < 3 then 0 else if j < 9 then 2 else 1

/-- The amount of a semaphore by its kind, -/
theorem amt_eq (i : ℕ) : amt i = ![1, Ny, Nh] (amtC i) := by
  unfold amt amtC; (repeat' split) <;> rfl
/-- that of a payment by its kind, -/
theorem payAmt_eq (j : ℕ) : payAmt j = ![1, Ny, Nh] (payC j) := by
  unfold payAmt payC; (repeat' split) <;> rfl

/-- and the kinds agree: -/
theorem payC_amtC : ∀ (c : Dev nD) (j : Fin 33), amtC (smIx (paySm c j)) = payC j := by decide
/-- a payment counts what its semaphore expects. -/
theorem pay_amt (c : Dev nD) (j : ℕ) (hj : j < 33) : amt (smIx (paySm c j)) = payAmt j := by
  rw [amt_eq, payAmt_eq, payC_amtC c ⟨j, hj⟩]
/-- Every payment is among those that its semaphore expects. -/
theorem pay_mem : ∀ (c : Dev nD) (j : Fin 33), payD j ∈ dut (c + rot j) (smIx (paySm c j)) 0 := by decide
/-- Which of the nineteen cells payment `j` raises. -/
def payK (c : Dev nD) (j : ℕ) : Fin 19 :=
  if j < 3 then 0 else if j = 3 then 10 else if j = 4 then 16 else if j = 5 then 11 else if j = 6 then 17
  else if j = 7 then 12 else if j = 8 then 18 else ⟨3 + c.val, by have : c.val < 4 := c.isLt; omega⟩
/-- The cell so numbered is the one that the payment raises. -/
theorem payK_eq : ∀ (c : Dev nD) (j : Fin 33), csem (payK c j) = paySm c j := by decide

/-! ## Pieces under another name -/

section Slice
variable {sp : Space} {s : Shape} {e : EltTy}

/-- A slice at an equal offset is the same piece. -/
theorem slice_at (m : Memref sig .tc sp s e) {o o' : Fin s.rank → ℕ} {sz : Fin s.rank → ℕ} (h : o = o')
    (i : ∀ a, o a + sz a ≤ s.size a) (i' : ∀ a, o' a + sz a ≤ s.size a) :
    m.slice (Rect.unit o sz i) (fun _ => rfl) = m.slice (Rect.unit o' sz i') (fun _ => rfl) := by
  subst h; rfl

end Slice

section Ops
variable {c : Dev nD} {α : Type} {Q : α → sProp (MT nD τ sig Unit (Elt F) ℕ UU ℕ)}
variable {sp sp' : Space} {s : Shape}

/-- A copy inside the device: the copy is in flight, its wait to hand the destination back at the source's contents,
    and the source. -/
theorem copy_step {src src' : Memref sig .tc sp s .f32} {dst dst' : Memref sig .tc sp' s .f32} {sm sm' : DmaSem sig}
    (es : src' = src) (ed : dst' = dst) (em : sm' = sm) {q : PosShare TreeShare} {Xs : s.Idx → Elt F .f32} {N : ℕ}
    (hN : dst.view.dmaCredit = N) (hN0 : 0 < N)
    {h1 : src'.view.WordExact} {h2 : dst'.view.WordExact}
    {h3 : DmaTarget.Typed (nD := nD) (τ := τ) (p := .tc) sp (.dma sm') (.here dst')}
    {k : PUnit → Prog (TpuEff nD τ sig (Elt F) Λ₀ .tc) α} :
    iprop(owns (c : Thread nD τ) src q Xs ∗ (∃ Y, owns (c : Thread nD τ) dst fullShare Y) ∗ semVal (cell c (.dma sm)) 0)
      ⊢ iprop((Transfers.Flight EC (c : Thread nD τ) (.dma sm) () N iprop(owns (c : Thread nD τ) dst fullShare Xs ∗ owns (c : Thread nD τ) src q Xs)
            -∗ wpK c (k ⟨⟩) Q)
          -∗ wpK c (.op (.enqueueDma src' (.here dst') (.dma sm') h1 h2 h3) k) Q) := by
  subst es ed em
  unfold owns
  iintro ⟨⟨%fs, %hfs, Hs⟩, ⟨%Y, %fd, %hfd, Hd⟩, Hv⟩ Hk
  iapply (Transfers.wp_dmaLocal EC 𝒱₀ (c : Thread nD τ) none (via := .same) (sm := .dma sm') (dst := dst') () N hN hN0 (Finset.Subset.refl _)) $$ [Hs Hd Hv]
  · isplitl [Hs]; · iexact Hs
    isplitl [Hd]; · iexact Hd
    iexact Hv
  iintro Hf
  iapply Hk
  iapply (Transfers.Flight_mono EC (c : Thread nD τ) (BIBase.Entails.trans
    (BIClass.sep_mono (owns_of (c : Thread nD τ) dst' fullShare (f := dst'.view.write (Elt F) fd (src'.view.read (Elt F) fs) Finset.univ)
      ((View.read_write_univ _ _).trans hfs)) (owns_of (c : Thread nD τ) src' q hfs))
    (by unfold owns; exact .rfl))) $$ Hf

/-- The wait for a copy inside the device. -/
theorem flight_wait {sm sm' : DmaSem sig} (em : sm' = sm) {N i : ℕ} {D : sProp 𝕄}
    {s' : Shape} {e' : EltTy} {sp₁ sp₂ : Space} {s₂ : Shape} {e₂ : EltTy}
    {srcw : Memref sig .tc sp₁ s' e'} {dstw : Memref sig .tc sp₂ s₂ e₂} {h1 : srcw.view.WordExact} {h2 : dstw.view.WordExact}
    (hN : dstw.view.dmaCredit = N) (hl : lvN (smIx (.dma sm)) = 0)
    {k : PUnit → Prog (TpuEff nD τ sig (Elt F) Λ₀ .tc) α} :
    iprop(recs X W K ∗ Transfers.Flight EC (c : Thread nD τ) (.dma sm) () N D ∗ ow c i)
      ⊢ iprop((iprop(D ∗ semVal (cell c (.dma sm)) 0 ∗ ow c i) -∗ wpK c (k ⟨⟩) Q)
          -∗ wpK c (.op (.waitDma2 sm' srcw dstw h1 h2) k) Q) := by
  subst em
  unfold ow
  iintro ⟨#HR, Hf, ⟨%Ws, HO⟩⟩ Hk
  iapply (Transfers.wp_waitLocalO EC 𝒱₀ (c : Thread nD τ) none () hN (O := Orem c i) (W := Ws)) $$ [Hf HO]
  · isplitl [Hf]; · iexact Hf
    isplitl [HO]; · iexact HO
    iapply (mayWait_low c (.dma sm') i hl)
    iapply (recs_lev X W K); iexact HR
  iintro ⟨HD, Hv, HO⟩
  iapply Hk
  isplitl [HD]; · iexact HD
  isplitl [Hv]; · iexact Hv
  iexists _; iexact HO

/-- A signal on another device's barrier cell. -/
theorem signal_step {n : Dev nD} (j : ℕ) (hj : j < 3) (hn : n = c + rot j)
    {k : PUnit → Prog (TpuEff nD τ sig (Elt F) Λ₀ .tc) α} :
    iprop(recs X W K ∗ ow c j ∗ ptok c j ∗ barPay (c + rot j) (payD j))
      ⊢ iprop((ow c (j + 1) -∗ wpK c (k ⟨⟩) Q) -∗ wpK c (.op (.semSignal (Dev.tc n : Thread nD τ) barS 1) k) Q) := by
  subst hn
  have hsm : paySm c j = .reg barS := by unfold paySm; rw [if_pos hj]
  unfold ow ptok
  iintro ⟨#HR, ⟨%Ws, HO⟩, Ht, Hp⟩ Hk
  iapply (Rounds.wp_signal 𝒱₀ ER (Rd X W) (c : Thread nD τ) none (dst := ((c + rot j : Dev nD) : Thread nD τ)) (κ := K (c + rot j, 0))
      (r := 0) (d := payD j) (sem := barS) (by have := pay_mem c ⟨j, by omega⟩; rw [hsm] at this; exact this) rfl () (O₀ := Orem c j) (Orem c (j + 1))
      (by rw [Orem_step c j (by omega), payCell, hsm, ← pay_amt c j (by omega), hsm]; rfl) (W := Ws)) $$ [HO Ht Hp]
  · isplitr; · iapply (recs_inv X W K (c + rot j) 0); iexact HR
    isplitl [HO]; · iexact HO
    isplitl [Ht]; · rw [payCell, hsm]; iexact Ht
    isplitl [Hp]; · rw [Rd_payload, show smIx (SemLoc.reg barS : SemLoc sig) = 0 from rfl, pay_bar]; iexact Hp
    iapply (recs_reached X W K (c + rot j) 0); iexact HR
  iintro HO
  iapply Hk
  iexists _; iexact HO

/-- A copy to another device, payment `j`: it lands there at the source's contents. -/
theorem send_step {n : Dev nD} (j : ℕ) (hj : j < 33) (hn : n = c + rot j) (kS : Fin 19) (rS : ℕ)
    {src src' : Memref sig .tc sp s .f32} {dst dst' : Memref sig .tc sp' s .f32} {sS sm : DmaSem sig}
    (es : src' = src) (ed : dst' = dst) (eS : SemLoc.dma sS = csem kS) (em : SemLoc.dma sm = paySm c j)
    {q : PosShare TreeShare} {Xs : s.Idx → Elt F .f32}
    (hN : dst.view.dmaCredit = payAmt j) (hdS : 0 ∈ dut c (smIx (csem kS)) rS) (hNS : amt (smIx (csem kS)) = payAmt j)
    (hpS : owns (c : Thread nD τ) src q Xs ⊢ pay X W c (smIx (csem kS)) 0)
    (hpR : owns ((c + rot j : Dev nD) : Thread nD τ) dst fullShare Xs ⊢ pay X W (c + rot j) (smIx (paySm c j)) (payD j))
    {hsc : dst'.view.ref.isScScratch = false} {h1 : src'.view.WordExact} {h2 : dst'.view.WordExact}
    {h3 : DmaTarget.Typed (nD := nD) (τ := τ) (p := .tc) sp (.dma sm) (.remote (Dev.tc n : Thread nD τ) dst' (.dma sS) hsc)}
    {k : PUnit → Prog (TpuEff nD τ sig (Elt F) Λ₀ .tc) α} :
    iprop(recs X W K ∗ owns (c : Thread nD τ) src q Xs ∗ (∃ Y, owns ((c + rot j : Dev nD) : Thread nD τ) dst fullShare Y)
        ∗ ow c j ∗ ptok c j ∗ dutyTok ER (cell c (csem kS)) rS 0 ∗ reached ER (cell c (csem kS)) rS)
      ⊢ iprop((iprop(cred (tallyAt (cell c (csem kS)) () (payAmt j)) ∗ ow c (j + 1)) -∗ wpK c (k ⟨⟩) Q)
          -∗ wpK c (.op (.enqueueDma src' (.remote (Dev.tc n : Thread nD τ) dst' (.dma sS) hsc) (.dma sm) h1 h2 h3) k) Q) := by
  subst es ed hn
  unfold ow ptok
  iintro ⟨#HR, Hs, ⟨%Y, Hd⟩, ⟨%Ws, HO⟩, Ht, HtS, #HrS⟩ Hk
  unfold owns
  icases Hs with ⟨%fs, %hfs, Hs⟩
  icases Hd with ⟨%fd, %hfd, Hd⟩
  ihave #HIS := (recs_inv X W K c kS) $$ HR
  ihave #HIR := (recs_inv X W K (c + rot j) (payK c j)) $$ HR
  ihave #HrR := (recs_reached X W K (c + rot j) (payK c j)) $$ HR
  rw [payK_eq c ⟨j, hj⟩]
  dsimp only
  iapply (Rounds.wp_send_pointsTo 𝒱₀ ER (Rd X W) (c : Thread nD τ) none (c' := ((c + rot j : Dev nD) : Thread nD τ))
      (sS := .dma sS) (sem := .dma sm) (κ₁ := K (c, kS)) (κ₂ := K (c + rot j, payK c j)) (r₁ := rS) (r₂ := 0) (d₁ := 0) (d₂ := payD j) (q := q) (fs := fs) (fd := fd)
      (by rw [eS]; exact hdS) (by rw [em]; exact pay_mem c ⟨j, hj⟩) () () (payAmt j) hN
      (by rw [eS]; exact hNS) (by rw [em]; exact pay_amt c j hj) (O₀ := Orem c j) (Orem c (j + 1))
      (by rw [em]; exact Orem_step c j hj) (W := Ws)
      (by
        rw [eS]; exact BIBase.Entails.trans (owns_of (c : Thread nD τ) src' q hfs) hpS)
      (by
        rw [em]; exact BIBase.Entails.trans (owns_of ((c + rot j : Dev nD) : Thread nD τ) dst' fullShare ((View.read_write_univ _ _).trans hfs)) hpR)) $$ [Hs Hd HO Ht HtS]
  · rw [eS, em]
    isplitr; · iexact HIS
    isplitr; · iexact HIR
    isplitl [Hs]; · iexact Hs
    isplitl [Hd]; · iexact Hd
    isplitl [HO]; · iexact HO
    isplitl [HtS]; · iexact HtS
    isplitr; · iexact HrS
    isplitl [Ht]; · iexact Ht
    iexact HrR
  iintro ⟨Hc, HO⟩
  iapply Hk
  isplitl [Hc]; · rw [eS]; iexact Hc
  iexists _; iexact HO

/-- The wait for a cell's round of one duty. -/
theorem wait_step (i : ℕ) (kS : Fin 19) (r : ℕ) {sm : DmaSem sig} (em : SemLoc.dma sm = csem kS)
    {s' : Shape} {e' : EltTy} {sp₁ sp₂ : Space} {s₂ : Shape} {e₂ : EltTy}
    {srcw : Memref sig .tc sp₁ s' e'} {dstw : Memref sig .tc sp₂ s₂ e₂} {h1 : srcw.view.WordExact} {h2 : dstw.view.WordExact}
    (hd : dut c (smIx (csem kS)) r = {0}) (hN : dstw.view.dmaCredit = amt (smIx (csem kS)))
    (hl : ∀ j, i ≤ j → j < 33 → lvN (smIx (csem kS)) < lvN (smIx (paySm c j)))
    {k : PUnit → Prog (TpuEff nD τ sig (Elt F) Λ₀ .tc) α} :
    iprop(recs X W K ∗ cred (tallyAt (cell c (csem kS)) () (amt (smIx (csem kS)))) ∗ ow c i ∗ atPos ER (cell c (csem kS)) r ∅ 0)
      ⊢ iprop((iprop(ow c i ∗ atPos ER (cell c (csem kS)) (r + 1) ∅ 0 ∗ reached ER (cell c (csem kS)) (r + 1) ∗ pay X W c (smIx (csem kS)) 0)
            -∗ wpK c (k ⟨⟩) Q)
          -∗ wpK c (.op (.waitDma2 sm srcw dstw h1 h2) k) Q) := by
  unfold ow
  iintro ⟨#HR, Hc, ⟨%Ws, HO⟩, Hat⟩ Hk
  iapply (Rounds.wp_wait_rest_token 𝒱₀ ER (Rd X W) (c : Thread nD τ) none (κ := K (c, kS)) (sm := csem kS) (k' := amt (smIx (csem kS)))
      (by rw [← hN, ← em]; exact wpE_waitDma2_eq 𝒱₀ (c : Thread nD τ) none Set.univ) (Set.mem_univ _) () (O := Orem c i) (W := Ws) (R := r) (m := 0) (T := ∅)
      (by rw [Rd_expect, hd, Finset.card_singleton, one_mul, zero_add])) $$ [Hc HO Hat]
  · isplitr; · iapply (recs_inv X W K c kS); iexact HR
    isplitl [Hc]; · iexact Hc
    isplitl [HO]; · iexact HO
    isplitr; · iapply (mayWait c (csem kS) i hl); iapply (recs_lev X W K); iexact HR
    iexact Hat
  iintro ⟨HO, Hat, Hr, Hp⟩
  iapply Hk
  isplitl [HO]; · iexists _; iexact HO
  isplitl [Hat]; · iexact Hat
  isplitl [Hr]; · iexact Hr
  iapply (BIBase.Entails.of_eq (show bigSep ((Rd X W).duties (cell c (csem kS)) r \ ∅) (fun d => (Rd X W).payload (cell c (csem kS)) r d)
      = pay X W c (smIx (csem kS)) 0 by rw [Finset.sdiff_empty, Rd_duties, hd, bigSep_singleton, Rd_payload])) $$ Hp

end Ops

end Cert.Proof.K
-- ==== Proof.Access.lean ====
/-
  Loads and stores through the two slots of `x` rows and of products.
-/
module

public import proofs.«01_k».proof.Proof.Steps
public import Idealize.ShloMosaic.Lib.Pipeline.Value

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Access
variable {c : Dev nD} {α : Type} {Q : α → sProp (MT nD τ sig Unit (Elt F) ℕ UU ℕ)}
variable {cs : CoreSpace} {s s' : Shape}

/-- A slot's elements are those of the slice it drops the unit axis of. -/
theorem pts_slot (c : Dev nD) (m : Memref sig .tc cs s .f32) (r : Rect s) (hr : ∀ a, r.stride a = 1) (h : r.shape.Squeezes s')
    (q : PosShare TreeShare) (f : Buf (Elt F) (View.loc (c : Thread nD τ) (m.access r))) :
    (View.loc (c : Thread nD τ) ((m.slice r hr).squeeze s' h).view ↦[((m.slice r hr).squeeze s' h).view.set]{q} f : sProp 𝕄)
      = (View.loc (c : Thread nD τ) (m.access r) ↦[(m.access r).set]{q} f) :=
  congrArg (fun S => (View.loc (c : Thread nD τ) (m.access r) ↦[S]{q} f : sProp 𝕄)) (View.set_reshape _ _)

/-- A load of a whole slot: what is read, with the unit axis dropped, is the slot's contents. -/
theorem load_slot {m : Memref sig .tc cs s .f32} {r : Rect s} {hr : ∀ a, r.stride a = 1} {sl : Memref sig .tc cs s' .f32}
    (h : r.shape.Squeezes s') (esl : sl = (m.slice r hr).squeeze s' h) (hc : r.shape.ShapeCasts s')
    {q : PosShare TreeShare} {Xs : s'.Idx → Elt F .f32} {hl : m.view.LoadsAt r.toLoadRect}
    {k : (r.shape.Idx → Elt F .f32) → Prog (TpuEff nD τ sig (Elt F) Λ₀ .tc) α} :
    owns (c : Thread nD τ) sl q Xs
      ⊢ iprop((∀ v, ⌜shapeCast s' v hc = Xs⌝ -∗ owns (c : Thread nD τ) sl q Xs -∗ wpK c (k v) Q)
          -∗ wpK c (.op (.load m r.toLoadRect hl) k) Q) := by
  subst esl
  unfold owns
  iintro ⟨%f, %hf, H⟩ Hk
  iapply (wp_load_rect 𝒱₀ (c : Thread nD τ) none Set.univ (m := m) (r := r) (S := (m.access r).set) (Finset.Subset.refl _)) $$ [H]
  · iapply (BIBase.Entails.of_eq (pts_slot c m r hr h q f)) $$ H
  iintro H
  ispecialize Hk $$ %((m.access r).read (Elt F) f)
  iapply Hk
  · ipureintro; exact hf
  · iexists f; isplitr; · ipureintro; exact hf
    iapply (BIBase.Entails.of_eq (pts_slot c m r hr h q f).symm) $$ H

/-- A store to a whole slot: the slot holds the stored value, the unit axis dropped. -/
theorem store_slot {m : Memref sig .tc cs s .f32} {r : Rect s} {hr : ∀ a, r.stride a = 1} {sl : Memref sig .tc cs s' .f32}
    (h : r.shape.Squeezes s') (esl : sl = (m.slice r hr).squeeze s' h) (hc : r.shape.ShapeCasts s')
    {v : r.shape.Idx → Elt F .f32} {hx : (m.access r).Stores Finset.univ} {hm : (Finset.univ : Finset r.shape.Idx) = Finset.univ ∨ ∀ a, r.stride a = 1}
    {k : PUnit → Prog (TpuEff nD τ sig (Elt F) Λ₀ .tc) α} :
    iprop(∃ Y, owns (c : Thread nD τ) sl fullShare Y)
      ⊢ iprop((owns (c : Thread nD τ) sl fullShare (shapeCast s' v hc) -∗ wpK c (k ⟨⟩) Q)
          -∗ wpK c (.op (.store m r v Finset.univ hx hm) k) Q) := by
  subst esl
  unfold owns
  iintro ⟨%Y, %f, %hf, H⟩ Hk
  iapply (wp_store 𝒱₀ (c : Thread nD τ) none Set.univ (m := m) (r := r) (Mk := Finset.univ) (S := (m.access r).set) (Finset.Subset.refl _)) $$ [H]
  · iapply (BIBase.Entails.of_eq (pts_slot c m r hr h fullShare f)) $$ H
  iintro H
  iapply Hk
  iexists ((m.access r).write (Elt F) f v Finset.univ); isplitr
  · ipureintro
    exact congrArg (fun g : r.shape.Idx → Elt F .f32 => shapeCast s' g hc) (View.read_write_univ (v := m.access r) f v)
  iapply (BIBase.Entails.of_eq (pts_slot c m r hr h fullShare ((m.access r).write (Elt F) f v Finset.univ)).symm) $$ H

/-- A load of the whole window of `w`. -/
theorem load_w {q : PosShare TreeShare} {Wc : S8192x1024.Idx → Elt F .f32} {o : Fin 2 → ℕ} (ho : o = ![0, 0])
    {ib : ∀ a, o a + S8192x1024.size a ≤ S8192x1024.size a} {hl : wB.view.LoadsAt (Rect.unit o S8192x1024.size ib).toLoadRect}
    {k : (S8192x1024.Idx → Elt F .f32) → Prog (TpuEff nD τ sig (Elt F) Λ₀ .tc) α} :
    owns (c : Thread nD τ) wB q Wc
      ⊢ iprop((owns (c : Thread nD τ) wB q Wc -∗ wpK c (k Wc) Q)
          -∗ wpK c (.op (.load wB (Rect.unit o S8192x1024.size ib).toLoadRect hl) k) Q) := by
  unfold owns
  iintro ⟨%f, %hf, H⟩ Hk
  iapply (wp_load 𝒱₀ (c : Thread nD τ) none Set.univ (m := wB) (by rw [View.set_whole]; exact Finset.subset_univ _)) $$ H
  iintro H
  have e : wB.view.readAt (Elt F) (Rect.unit o S8192x1024.size ib).toLoadRect f = Wc := by
    subst ho
    exact (Memref.readAt_unit_zero (Elt F) cc0_scratch0 (funext fun a => by fin_cases a <;> rfl) ib f).trans hf
  rw [e]
  iapply Hk
  iexists f; isplitr; · ipureintro; exact hf
  iexact H

end Access

/-- The kernel's stored value through a slot is the product of the loaded rows. -/
theorem pay_slot (v : Vec F S1x256x8192 .f32) (Wc : Vec F S8192x1024 .f32) {Xs : S256x8192.Idx → Elt F .f32}
    (h : shapeCast S256x8192 v shapeCasts_S1x256x8192_S256x8192 = Xs) :
    shapeCast S256x1024 (k0_pay1 v Wc) (by decide) = yBlk Xs Wc := by
  unfold k0_pay1 yBlk
  dsimp only
  rw [h]
  exact shapeCast_shapeCast _ _ _

end Cert.Proof.K
-- ==== Proof.Half.lean ====
/-
  Half a trip of the loops over blocks of rows: a block of `x` arrives in a slot, the products leave the slot of `y`
  that the previous trip used, and the next block of `x` is sent for.
-/
module

public import proofs.«01_k».proof.Proof.Access

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x8192.Idx → Elt F .f32) (W : Dev nD → S8192x1024.Idx → Elt F .f32)
variable (K : Dev nD × Fin 19 → ℕ)

/-- One thing more beside several. -/
theorem bigSep_ins {ι : Type} [DecidableEq ι] {a : ι} {s : Finset ι} (f : ι → sProp 𝕄) (h : a ∉ s) :
    bigSep (insert a s) f = iprop(f a ∗ bigSep s f) := bigSep_insert h

/-! ## A slot of `x` rows -/

/-- The semaphore of the copies into slot `s` of the `x` rows. -/
abbrev xsem (s : Fin 2) : DmaSem sig := dsem (1 + s.val) (by omega)
/-- The units such a copy counts. -/
abbrev Nx : ℕ := (xS 0).view.dmaCredit
/-- A copy of a block of rows of `x` counts something. -/
theorem Nx_pos : 0 < Nx := View.dmaCredit_pos _ (by decide)

/-- Both slots count alike. -/
theorem xS_credit : ∀ s : Fin 2, (xS s).view.dmaCredit = Nx := fun _ => rfl
/-- The semaphores of the fetches of `x` have level 0. -/
theorem xsem_low : ∀ s : Fin 2, lvN (smIx (.dma (xsem s))) = 0 := by decide

/-- A block of the rows of `x` taken out, and the way back. -/
theorem x_lend (c : Dev nD) (q : PosShare TreeShare) (Xc : S2048x8192.Idx → Elt F .f32) (p : Fin 8) :
    (owns (c : Thread nD τ) xA q Xc : sProp 𝕄)
      ⊢ iprop(owns (c : Thread nD τ) (xM p) q (xBlk Xc p) ∗ (owns (c : Thread nD τ) (xM p) q (xBlk Xc p) -∗ owns (c : Thread nD τ) xA q Xc)) := by
  iintro H
  ihave H' := (owns_slice_split (c : Thread nD τ) xA q (xR p) (fun _ => rfl) Xc) $$ H
  icases H' with ⟨Hs, ⟨%f, %hf, Hr⟩⟩
  isplitl [Hs]; · iexact Hs
  iintro Hs
  ihave H := (owns_slice_join (c : Thread nD τ) xA q (xR p) (fun _ => rfl) (xBlk Xc p) f) $$ [Hs Hr]
  · isplitl [Hs]; · iexact Hs
    iexact Hr
  have e : (xR p).overlay (xA.view.read (Elt F) f) (xBlk Xc p) = Xc := by
    rw [hf]
    funext j
    by_cases hj : j ∈ (xR p).set
    · obtain ⟨t, rfl⟩ := (xR p).exists_idx_of_mem hj
      exact Rect.overlay_emb _ _ _ _
    · exact Rect.overlay_of_not_mem _ _ _ hj
  iapply (BIBase.Entails.of_eq (show (owns (c : Thread nD τ) xA q ((xR p).overlay (xA.view.read (Elt F) f) (xBlk Xc p)) : sProp 𝕄)
    = owns (c : Thread nD τ) xA q Xc by rw [e])) $$ H

/-- Slot `s` with block `p` of `x` on its way. -/
def xfl (c : Dev nD) (q : PosShare TreeShare) (Xc : S2048x8192.Idx → Elt F .f32) (s : Fin 2) (p : Fin 8) : sProp 𝕄 :=
  iprop(Transfers.Flight EC (c : Thread nD τ) (.dma (xsem s)) () Nx
      iprop(owns (c : Thread nD τ) (xS s) fullShare (xBlk Xc p) ∗ owns (c : Thread nD τ) (xM p) q (xBlk Xc p))
    ∗ (owns (c : Thread nD τ) (xM p) q (xBlk Xc p) -∗ owns (c : Thread nD τ) xA q Xc))

/-- Slot `s` with nothing on its way. -/
def xid (c : Dev nD) (q : PosShare TreeShare) (Xc : S2048x8192.Idx → Elt F .f32) (s : Fin 2) : sProp 𝕄 :=
  iprop((∃ Y, owns (c : Thread nD τ) (xS s) fullShare Y) ∗ semVal (cell c (.dma (xsem s))) 0 ∗ owns (c : Thread nD τ) xA q Xc)

section Ops
variable {c : Dev nD} {α : Type} {Q : α → sProp (MT nD τ sig Unit (Elt F) ℕ UU ℕ)}

/-- A program that only yields a value. -/
theorem wpK_ret {a : α} : Q a ⊢ wpK c (.ret a) Q := by
  rw [wpK, wp_ret]; exact BI.fupd_intro

/-- Sending for a block of `x`. -/
theorem x_start {q : PosShare TreeShare} {Xc : S2048x8192.Idx → Elt F .f32} (s : Fin 2) (p : Fin 8)
    {src' : Memref sig .tc .hbm S256x8192 .f32} {dst' : Memref sig .tc .vmem S256x8192 .f32} {sm' : DmaSem sig}
    (es : src' = xM p) (ed : dst' = xS s) (em : sm' = xsem s)
    {h1 : src'.view.WordExact} {h2 : dst'.view.WordExact}
    {h3 : DmaTarget.Typed (nD := nD) (τ := τ) (p := .tc) .hbm (.dma sm') (.here dst')}
    {k : PUnit → Prog (TpuEff nD τ sig (Elt F) Λ₀ .tc) α} :
    xid c q Xc s
      ⊢ iprop((xfl c q Xc s p -∗ wpK c (k ⟨⟩) Q) -∗ wpK c (.op (.enqueueDma src' (.here dst') (.dma sm') h1 h2 h3) k) Q) := by
  unfold xid xfl
  iintro ⟨Hd, Hv, Hx⟩ Hk
  ihave H' := (x_lend c q Xc p) $$ Hx
  icases H' with ⟨Hs, Hb⟩
  iapply (copy_step es ed em (N := Nx) (xS_credit s) Nx_pos) $$ [Hd Hv Hs]
  · isplitl [Hs]; · iexact Hs
    isplitl [Hd]; · iexact Hd
    iexact Hv
  iintro Hf
  iapply Hk
  isplitl [Hf]; · iexact Hf
  iexact Hb

/-- The arrival of a block of `x`. -/
theorem x_wait {q : PosShare TreeShare} {Xc : S2048x8192.Idx → Elt F .f32} {s : Fin 2} {p : Fin 8} {i : ℕ} {sm' : DmaSem sig}
    (em : sm' = xsem s)
    {s' : Shape} {e' : EltTy} {sp₁ sp₂ : Space} {s₂ : Shape} {e₂ : EltTy}
    {srcw : Memref sig .tc sp₁ s' e'} {dstw : Memref sig .tc sp₂ s₂ e₂} {h1 : srcw.view.WordExact} {h2 : dstw.view.WordExact}
    (hN : dstw.view.dmaCredit = Nx)
    {k : PUnit → Prog (TpuEff nD τ sig (Elt F) Λ₀ .tc) α} :
    iprop(recs X W K ∗ xfl c q Xc s p ∗ ow c i)
      ⊢ iprop((iprop(owns (c : Thread nD τ) (xS s) fullShare (xBlk Xc p) ∗ semVal (cell c (.dma (xsem s))) 0 ∗ owns (c : Thread nD τ) xA q Xc ∗ ow c i)
            -∗ wpK c (k ⟨⟩) Q)
          -∗ wpK c (.op (.waitDma2 sm' srcw dstw h1 h2) k) Q) := by
  unfold xfl
  iintro ⟨#HR, ⟨Hf, Hb⟩, HO⟩ Hk
  iapply (flight_wait X W K em hN (xsem_low s)) $$ [Hf HO]
  · isplitr; · iexact HR
    isplitl [Hf]; · iexact Hf
    iexact HO
  iintro ⟨⟨Hs, Hx⟩, Hv, HO⟩
  iapply Hk
  isplitl [Hs]; · iexact Hs
  isplitl [Hv]; · iexact Hv
  isplitl [Hb Hx]; · iapply Hb; iexact Hx
  iexact HO

/-- Half a trip. The block of `x` in flight arrives; if `b1`, the slot of products is waited for by a copy whose rule is
    `hyw`; the product is stored there; if `b2`, the next block is sent for. -/
theorem half_rule {q : PosShare TreeShare} {Xc : S2048x8192.Idx → Elt F .f32} {Wc : S8192x1024.Idx → Elt F .f32}
    (s : Fin 2) (p : Fin 8) (p' : Fin 8) (i : ℕ) (yPre yPost : sProp 𝕄)
    {sx sx' sy : DmaSem sig} {m1 : Memref sig .tc .hbm S256x8192 .f32} {m2 m2' : Memref sig .tc .vmem S256x8192 .f32}
    {spa spb : Space} {sha shb : Shape} {m3 : Memref sig .tc spa sha .f32} {m4 : Memref sig .tc spb shb .f32}
    {h1 : m1.view.WordExact} {h2 : m2.view.WordExact} {h3 : m3.view.WordExact} {h4 : m4.view.WordExact}
    {b1 b2 : BitVec 1} {o5 o6 : Fin 3 → ℕ} {o4 : Fin 2 → ℕ}
    {i5 : ∀ a, o5 a + S1x256x8192.size a ≤ S2x256x8192.size a} {i6 : ∀ a, o6 a + S1x256x1024.size a ≤ S2x256x1024.size a}
    {i4 : ∀ a, o4 a + S8192x1024.size a ≤ S8192x1024.size a}
    {l5 : xB.view.LoadsAt (Rect.unit (s := S2x256x8192) o5 S1x256x8192.size i5).toLoadRect}
    {l4 : wB.view.LoadsAt (Rect.unit (s := S8192x1024) o4 S8192x1024.size i4).toLoadRect}
    {l6 : yB.view.LoadsAt (Rect.unit (s := S2x256x1024) o6 S1x256x1024.size i6).toLoadRect}
    {pf : Vec F S1x256x8192 .f32 → Vec F S8192x1024 .f32 → Vec F S1x256x1024 .f32}
    {hx : (yB.access (Rect.unit (s := S2x256x1024) o6 S1x256x1024.size i6)).Stores Finset.univ}
    {hm : (Finset.univ : Finset (Rect.unit (s := S2x256x1024) o6 S1x256x1024.size i6).shape.Idx) = Finset.univ ∨ ∀ a, (Rect.unit (s := S2x256x1024) o6 S1x256x1024.size i6).stride a = 1}
    {sf : b2 = 1#1 → Memref sig .tc .hbm S256x8192 .f32} {w1 : ∀ h, (sf h).view.WordExact} {w2 : m2'.view.WordExact}
    {w3 : DmaTarget.Typed (nD := nD) (τ := τ) (p := .tc) .hbm (.dma sx') (.here m2')} {a : α}
    (esx : sx = xsem s) (hNx : m2.view.dmaCredit = Nx) (ho5 : o5 = ![s.val, 0, 0]) (ho4 : o4 = ![0, 0]) (ho6 : o6 = ![s.val, 0, 0])
    (hpf : pf = k0_pay1) (esf : ∀ h, sf h = xM p') (em2 : m2' = xS s) (esx' : sx' = xsem s)
    (hyw : b1 = 1#1 → ∀ k : PUnit → Prog (TpuEff nD τ sig (Elt F) Λ₀ .tc) α, iprop(recs X W K ∗ ow c i ∗ yPre)
      ⊢ iprop((iprop((∃ Y, owns (c : Thread nD τ) (yS s) fullShare Y) ∗ ow c i ∗ yPost) -∗ wpK c (k ⟨⟩) Q)
          -∗ wpK c (.op (.waitDma2 sy m3 m4 h3 h4) k) Q))
    (hyn : b1 ≠ 1#1 → yPre ⊢ iprop((∃ Y, owns (c : Thread nD τ) (yS s) fullShare Y) ∗ yPost)) :
    iprop(ow c i ∗ recs X W K ∗ xfl c q Xc s p ∗ yPre ∗ owns (c : Thread nD τ) wB fullShare Wc)
      ⊢ iprop((iprop(owns (c : Thread nD τ) (yS s) fullShare (yBlk (xBlk Xc p) Wc) ∗ ow c i ∗ yPost
              ∗ owns (c : Thread nD τ) wB fullShare Wc ∗ (if b2 = 1#1 then xfl c q Xc s p' else xid c q Xc s)) -∗ Q a)
          -∗ wpK c (do
            Prog.lift (.waitDma2 sx m1 m2 h1 h2)
            if k0_h1 : b1 = 1#1 then do
              Prog.lift (.waitDma2 sy m3 m4 h3 h4)
              pure ⟨⟩
            else do
              pure ⟨⟩
            let v475 : Vec F S1x256x8192 .f32 ← Prog.lift (.load xB (Rect.unit (s := S2x256x8192) o5 S1x256x8192.size i5).toLoadRect l5)
            let v477 : Vec F S8192x1024 .f32 ← Prog.lift (.load wB (Rect.unit (s := S8192x1024) o4 S8192x1024.size i4).toLoadRect l4)
            let v479 : Vec F S1x256x1024 .f32 ← Prog.lift (.load yB (Rect.unit (s := S2x256x1024) o6 S1x256x1024.size i6).toLoadRect l6)
            Prog.lift (.store yB (Rect.unit (s := S2x256x1024) o6 S1x256x1024.size i6) (pf v475 v477) Finset.univ hx hm)
            if k0_h2 : b2 = 1#1 then do
              Prog.lift (.enqueueDma (sf k0_h2) (.here m2') (.dma sx') (w1 k0_h2) w2 w3)
              pure ⟨⟩
            else do
              pure ⟨⟩
            pure a) Q) := by
  subst ho5 ho6 hpf
  simp only [Prog.lift, Prog.bind_op, Prog.bind_ret, Prog.pure_eq_ret]
  have fin : iprop(recs X W K ∗ owns (c : Thread nD τ) (xS s) fullShare (xBlk Xc p) ∗ semVal (cell c (.dma (xsem s))) 0 ∗ owns (c : Thread nD τ) xA q Xc
        ∗ (∃ Y, owns (c : Thread nD τ) (yS s) fullShare Y) ∗ ow c i ∗ yPost ∗ owns (c : Thread nD τ) wB fullShare Wc)
      ⊢ iprop((iprop(owns (c : Thread nD τ) (yS s) fullShare (yBlk (xBlk Xc p) Wc) ∗ ow c i ∗ yPost
              ∗ owns (c : Thread nD τ) wB fullShare Wc ∗ (if b2 = 1#1 then xfl c q Xc s p' else xid c q Xc s)) -∗ Q a)
          -∗ wpK c (.op (.load xB (Rect.unit (s := S2x256x8192) ![s.val, 0, 0] S1x256x8192.size i5).toLoadRect l5) fun v475 =>
            .op (.load wB (Rect.unit (s := S8192x1024) o4 S8192x1024.size i4).toLoadRect l4) fun v477 =>
            .op (.load yB (Rect.unit (s := S2x256x1024) ![s.val, 0, 0] S1x256x1024.size i6).toLoadRect l6) fun v479 =>
            .op (.store yB (Rect.unit (s := S2x256x1024) ![s.val, 0, 0] S1x256x1024.size i6) (k0_pay1 v475 v477) Finset.univ hx hm) fun _ =>
            if k0_h2 : b2 = 1#1 then
              .op (.enqueueDma (sf k0_h2) (.here m2') (.dma sx') (w1 k0_h2) w2 w3) fun _ => .ret a
            else .ret a) Q) := by
    iintro ⟨#HR, Hxs, Hxv, Hx, Hys, HO, Hp, Hw⟩ Hk
    iapply (load_slot (r := xsR s) (hr := fun _ => rfl) squeezes_S1x256x8192_S256x8192 rfl shapeCasts_S1x256x8192_S256x8192) $$ Hxs
    iintro %v %hv Hxs
    iapply (load_w ho4) $$ Hw
    iintro Hw
    icases Hys with ⟨%Y, Hys⟩
    iapply (load_slot (r := ysR s) (hr := fun _ => rfl) squeezes_S1x256x1024_S256x1024 rfl shapeCasts_S1x256x1024_S256x1024) $$ Hys
    iintro %v2 %hv2 Hys
    iapply (store_slot (r := ysR s) (hr := fun _ => rfl) squeezes_S1x256x1024_S256x1024 rfl shapeCasts_S1x256x1024_S256x1024) $$ [Hys]
    · iexists Y; iexact Hys
    iintro Hys
    rw [pay_slot v Wc hv]
    by_cases hb : b2 = 1#1
    · rw [dif_pos hb, if_pos hb]
      iapply (x_start (q := q) (Xc := Xc) s p' (esf hb) em2 esx') $$ [Hxs Hxv Hx]
      · unfold xid
        isplitl [Hxs]; · iexists _; iexact Hxs
        isplitl [Hxv]; · iexact Hxv
        iexact Hx
      iintro Hf
      iapply wpK_ret
      iapply Hk
      isplitl [Hys]; · iexact Hys
      isplitl [HO]; · iexact HO
      isplitl [Hp]; · iexact Hp
      isplitl [Hw]; · iexact Hw
      iexact Hf
    · rw [dif_neg hb, if_neg hb]
      iapply wpK_ret
      iapply Hk
      isplitl [Hys]; · iexact Hys
      isplitl [HO]; · iexact HO
      isplitl [Hp]; · iexact Hp
      isplitl [Hw]; · iexact Hw
      unfold xid
      isplitl [Hxs]; · iexists _; iexact Hxs
      isplitl [Hxv]; · iexact Hxv
      iexact Hx
  iintro ⟨HO, #HR, Hf, Hp, Hw⟩ Hk
  iapply (x_wait X W K esx hNx) $$ [Hf HO]
  · isplitr; · iexact HR
    isplitl [Hf]; · iexact Hf
    iexact HO
  iintro ⟨Hxs, Hxv, Hx, HO⟩
  by_cases hb : b1 = 1#1
  · rw [dif_pos hb]
    iapply (hyw hb _) $$ [HO Hp]
    · isplitr; · iexact HR
      isplitl [HO]; · iexact HO
      iexact Hp
    iintro ⟨Hys, HO, Hp⟩
    iapply fin $$ [Hxs Hxv Hx Hys HO Hp Hw] [Hk]
    · isplitr; · iexact HR
      isplitl [Hxs]; · iexact Hxs
      isplitl [Hxv]; · iexact Hxv
      isplitl [Hx]; · iexact Hx
      isplitl [Hys]; · iexact Hys
      isplitl [HO]; · iexact HO
      isplitl [Hp]; · iexact Hp
      iexact Hw
    iexact Hk
  · rw [dif_neg hb]
    ihave H' := (hyn hb) $$ Hp
    icases H' with ⟨Hys, Hp⟩
    iapply fin $$ [Hxs Hxv Hx Hys HO Hp Hw] [Hk]
    · isplitr; · iexact HR
      isplitl [Hxs]; · iexact Hxs
      isplitl [Hxv]; · iexact Hxv
      isplitl [Hx]; · iexact Hx
      isplitl [Hys]; · iexact Hys
      isplitl [HO]; · iexact HO
      isplitl [Hp]; · iexact Hp
      iexact Hw
    iexact Hk

end Ops

end Cert.Proof.K
-- ==== Proof.TripL.lean ====
/-
  One trip of the loop that multiplies the device's own `w`: the products go to the device's own rows of `y`.
-/
module

public import proofs.«01_k».proof.Proof.Half

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x8192.Idx → Elt F .f32) (W : Dev nD → S8192x1024.Idx → Elt F .f32)
variable (K : Dev nD × Fin 19 → ℕ)

/-! ## Blocks and slots by trip -/

/-- The block of rows slot `s` carries on trip `k`. -/
def pIx (k : ℕ) (s : Fin 2) : Fin 8 := ⟨(2 * k + s.val) % 8, Nat.mod_lt _ (by decide)⟩

/-- Slot `s` of the `x` rows before trip `k`. -/
def xst (c : Dev nD) (q : PosShare TreeShare) (Xc : S2048x8192.Idx → Elt F .f32) (s : Fin 2) (k : ℕ) : sProp 𝕄 :=
  if k < 4 then xfl c q Xc s (pIx k s) else xid c q Xc s

/-- Before a trip the trip's rows are on their way. -/
theorem xst_lt {c : Dev nD} {q : PosShare TreeShare} {Xc : S2048x8192.Idx → Elt F .f32} {s : Fin 2} {k : ℕ} (h : k < 4) :
    xst c q Xc s k = xfl c q Xc s (pIx k s) := if_pos h

/-- After it the next trip's are, if there is one. -/
theorem xst_next {c : Dev nD} {q : PosShare TreeShare} {Xc : S2048x8192.Idx → Elt F .f32} {s : Fin 2} {k : ℕ} {b : BitVec 1}
    (h : b = 1#1 ↔ k < 3) : (if b = 1#1 then xfl c q Xc s (pIx (k + 1) s) else xid c q Xc s) = xst c q Xc s (k + 1) := by
  unfold xst
  by_cases hk : k < 3
  · rw [if_pos (h.mpr hk), if_pos (by omega)]
  · rw [if_neg (fun e => hk (h.mp e)), if_neg (by omega)]

/-- The semaphore of slot `s` of the products' copies into the device's own `y`. -/
abbrev lsem (s : Fin 2) : DmaSem sig := dsem (3 + s.val) (by omega)

/-- All blocks of products count alike. -/
theorem yM_credit : ∀ (s : Dev nD) (p : Fin 8), (yM s p).view.dmaCredit = Ny := fun _ _ => rfl
/-- Both slots count alike. -/
theorem yS_credit : ∀ s : Fin 2, (yS s).view.dmaCredit = Ny := fun _ => rfl
/-- The semaphores of the copies inside the device have level 0. -/
theorem lsem_low : ∀ s : Fin 2, lvN (smIx (.dma (lsem s))) = 0 := by decide

/-- Slot `s` of the products before trip `k` of the device's own loop: free, or on its way to `y`. -/
def ylF (c : Dev nD) (s : Fin 2) (k : ℕ) : sProp 𝕄 :=
  if k = 0 then iprop((∃ Y, owns (c : Thread nD τ) (yS s) fullShare Y) ∗ semVal (cell c (.dma (lsem s))) 0)
  else Transfers.Flight EC (c : Thread nD τ) (.dma (lsem s)) () Ny
    iprop(yFull X W c c (pIx (k - 1) s) ∗ ∃ Y, owns (c : Thread nD τ) (yS s) fullShare Y)

/-- The blocks of the device's own rows of `y` that have come through slot `s`, and those that are to come. -/
def ylD (c : Dev nD) (s : Fin 2) (n k : ℕ) : sProp 𝕄 :=
  iprop((bigSep (Finset.range n) fun t => yFull X W c c (pIx t s))
    ∗ bigSep (Finset.Ico k 4) fun t => iprop(∃ Y, owns (c : Thread nD τ) (yM c (pIx t s)) fullShare Y))

def ylS (c : Dev nD) (s : Fin 2) (k : ℕ) : sProp 𝕄 := iprop(ylF X W c s k ∗ ylD X W c s (k - 1) k)

/-- The same between the product's storing and its sending. -/
def ylP (c : Dev nD) (s : Fin 2) (k : ℕ) : sProp 𝕄 := iprop(semVal (cell c (.dma (lsem s))) 0 ∗ ylD X W c s k k)

/-- Before the first trip a slot of products is free. -/
theorem ylS_zero (c : Dev nD) (s : Fin 2) : ylS (F := F) X W c s 0 ⊢ iprop((∃ Y, owns (c : Thread nD τ) (yS s) fullShare Y) ∗ ylP X W c s 0) := by
  unfold ylS ylP ylF
  rw [if_pos rfl]
  iintro ⟨⟨HY, Hv⟩, HD⟩
  isplitl [HY]; · iexact HY
  isplitl [Hv]; · iexact Hv
  iexact HD

section Ops
variable {c : Dev nD} {α : Type} {Q : α → sProp (MT nD τ sig Unit (Elt F) ℕ UU ℕ)}

/-- The wait for the previous trip's copy of slot `s`. -/
theorem yl_wait (s : Fin 2) (k i : ℕ) (hk : 0 < k) {sm' : DmaSem sig} (em : sm' = lsem s)
    {s' : Shape} {e' : EltTy} {sp₁ sp₂ : Space} {s₂ : Shape} {e₂ : EltTy}
    {srcw : Memref sig .tc sp₁ s' e'} {dstw : Memref sig .tc sp₂ s₂ e₂} {h1 : srcw.view.WordExact} {h2 : dstw.view.WordExact}
    (hN : dstw.view.dmaCredit = Ny)
    {kk : PUnit → Prog (TpuEff nD τ sig (Elt F) Λ₀ .tc) α} :
    iprop(recs X W K ∗ ow c i ∗ ylS X W c s k)
      ⊢ iprop((iprop((∃ Y, owns (c : Thread nD τ) (yS s) fullShare Y) ∗ ow c i ∗ ylP X W c s k) -∗ wpK c (kk ⟨⟩) Q)
          -∗ wpK c (.op (.waitDma2 sm' srcw dstw h1 h2) kk) Q) := by
  obtain ⟨k, rfl⟩ : ∃ k', k = k' + 1 := ⟨k - 1, by omega⟩
  unfold ylS ylP ylF ylD
  rw [if_neg (Nat.succ_ne_zero k), Nat.add_sub_cancel, Finset.range_add_one, bigSep_ins _ Finset.notMem_range_self]
  iintro ⟨#HR, HO, ⟨Hf, HD, HE⟩⟩ Hk
  iapply (flight_wait X W K em hN (lsem_low s)) $$ [Hf HO]
  · isplitr; · iexact HR
    isplitl [Hf]; · iexact Hf
    iexact HO
  iintro ⟨⟨Hb, HY⟩, Hv, HO⟩
  iapply Hk
  isplitl [HY]; · iexact HY
  isplitl [HO]; · iexact HO
  isplitl [Hv]; · iexact Hv
  isplitl [Hb HD]
  · isplitl [Hb]; · iexact Hb
    iexact HD
  iexact HE

/-- Sending slot `s`'s product to the device's own rows of `y`. -/
theorem yl_start (s : Fin 2) (k : ℕ) (hk : k < 4)
    {src' : Memref sig .tc .vmem S256x1024 .f32} {dst' : Memref sig .tc .hbm S256x1024 .f32} {sm' : DmaSem sig}
    (es : src' = yS s) (ed : dst' = yM c (pIx k s)) (em : sm' = lsem s)
    {h1 : src'.view.WordExact} {h2 : dst'.view.WordExact}
    {h3 : DmaTarget.Typed (nD := nD) (τ := τ) (p := .tc) .vmem (.dma sm') (.here dst')}
    {kk : PUnit → Prog (TpuEff nD τ sig (Elt F) Λ₀ .tc) α} :
    iprop(owns (c : Thread nD τ) (yS s) fullShare (yBlk (xBlk (X c) (pIx k s)) (W c)) ∗ ylP X W c s k)
      ⊢ iprop((ylS X W c s (k + 1) -∗ wpK c (kk ⟨⟩) Q) -∗ wpK c (.op (.enqueueDma src' (.here dst') (.dma sm') h1 h2 h3) kk) Q) := by
  unfold ylS ylP ylF ylD
  rw [if_neg (Nat.succ_ne_zero k), Nat.add_sub_cancel, ← Ico_insert hk, bigSep_ins _ (by rw [Finset.mem_Ico]; omega)]
  iintro ⟨HY, Hv, HD, Hb, HE⟩ Hk
  iapply (copy_step es ed em (N := Ny) (yM_credit c _) Ny_pos) $$ [HY Hv Hb]
  · isplitl [HY]; · iexact HY
    isplitl [Hb]; · iexact Hb
    iexact Hv
  iintro Hf
  iapply Hk
  isplitl [Hf]
  · iapply (Transfers.Flight_mono EC (c : Thread nD τ) (show iprop(owns (c : Thread nD τ) (yM c (pIx k s)) fullShare (yBlk (xBlk (X c) (pIx k s)) (W c))
        ∗ owns (c : Thread nD τ) (yS s) fullShare (yBlk (xBlk (X c) (pIx k s)) (W c)))
      ⊢ iprop(yFull X W c c (pIx k s) ∗ ∃ Y, owns (c : Thread nD τ) (yS s) fullShare Y) from by
        unfold yFull
        iintro ⟨H1, H2⟩
        isplitl [H1]; · iexact H1
        iexists _; iexact H2)) $$ Hf
  isplitl [HD]; · iexact HD
  iexact HE

/-- A lifted operation at the head of a program. -/
theorem wpK_lift {β : Type} {e : TpuEff nD τ sig (Elt F) Λ₀ .tc β} {f : β → Prog (TpuEff nD τ sig (Elt F) Λ₀ .tc) α} :
    wpK c (.op e f) Q ⊢ wpK c (Prog.lift e >>= f) Q := .rfl

/-- A program followed by another. -/
theorem wpK_bind {β : Type} {p : Prog (TpuEff nD τ sig (Elt F) Λ₀ .tc) β} {f : β → Prog (TpuEff nD τ sig (Elt F) Λ₀ .tc) α} :
    wpK c p (fun a => wpK c (f a) Q) ⊢ wpK c (p >>= f) Q := BIBase.Entails.of_eq (wp_bind ..).symm

/-- One operation's rule and the rule of what follows it. -/
theorem step_then {e : TpuEff nD τ sig (Elt F) Λ₀ .tc PUnit} {f : PUnit → Prog (TpuEff nD τ sig (Elt F) Λ₀ .tc) α} {P P' R R' : sProp 𝕄} {a : α}
    (h : ∀ Q' : PUnit → sProp 𝕄, P ⊢ iprop((R -∗ wpK c (.ret ⟨⟩) Q') -∗ wpK c (.op e .ret) Q'))
    (h' : P' ⊢ iprop((R' -∗ Q a) -∗ wpK c (f ⟨⟩) Q)) :
    iprop(P ∗ P') ⊢ iprop((iprop(R ∗ R') -∗ Q a) -∗ wpK c (Prog.lift e >>= f) Q) := by
  rw [show wpK c (Prog.lift e >>= f) Q = wpK c (.op e .ret) (fun a => wpK c (f a) Q) from wp_bind ..]
  iintro ⟨H, H'⟩ Hk
  iapply (h fun a => wpK c (f a) Q) $$ H
  iintro HR
  iapply wpK_ret
  iapply h' $$ H'
  iintro HR'
  iapply Hk
  isplitl [HR]; · iexact HR
  iexact HR'

/-- A loop of four trips, from what holds before each. -/
theorem loop_rule {lp : Scf.Loop 32} {ok : lp.OK} {body : Fin lp.trips → Unit → Prog (TpuEff nD τ sig (Elt F) Λ₀ .tc) Unit} (h4 : lp.trips = 4) (I : ℕ → sProp 𝕄)
    (hb : ∀ (k : Fin lp.trips) (a : Unit), I k.val ⊢ wpK c (body k a) (fun _ => I (k.val + 1))) {Q : Unit → sProp 𝕄} :
    I 0 ⊢ iprop((I 4 -∗ Q ⟨⟩) -∗ wpK c (Scf.Loop.for lp ok ⟨⟩ body) Q) := by
  iintro H Hk
  iapply (Scf.wp_for frame (wpE (defs₀ (F := F)) 𝒱₀ (c : Thread nD τ) none) Set.univ lp.lb lp.ub lp.st ok ⟨⟩ body (fun k _ => I k) hb)
  isplitl [H]; · iexact H
  iintro %a H
  iapply Hk
  rw [← h4]
  iexact H

/-- The same, where what follows takes `T` from the operation. -/
theorem step_then_with {e : TpuEff nD τ sig (Elt F) Λ₀ .tc PUnit} {f : PUnit → Prog (TpuEff nD τ sig (Elt F) Λ₀ .tc) α} {P P' R R' T : sProp 𝕄} {a : α}
    (h : ∀ Q' : PUnit → sProp 𝕄, P ⊢ iprop((iprop(R ∗ T) -∗ wpK c (.ret ⟨⟩) Q') -∗ wpK c (.op e .ret) Q'))
    (h' : iprop(T ∗ P') ⊢ iprop((R' -∗ Q a) -∗ wpK c (f ⟨⟩) Q)) :
    iprop(P ∗ P') ⊢ iprop((iprop(R ∗ R') -∗ Q a) -∗ wpK c (Prog.lift e >>= f) Q) := by
  iintro ⟨H, H'⟩ Hk
  iapply wpK_bind
  iapply (h fun a => wpK c (f a) Q) $$ H
  iintro ⟨HR, HT⟩
  iapply wpK_ret
  iapply h' $$ [H' HT]
  · isplitl [HT]; · iexact HT
    iexact H'
  iintro HR'
  iapply Hk
  isplitl [HR]; · iexact HR
  iexact HR'

end Ops

/-! ## The trip -/

/-- The guard of a wait for the previous trip's copy, in the words of the program. -/
abbrev gdW (a : BitVec 32) : BitVec 1 := Scalar.cmpi .ne (Scalar.extui (Scalar.cmpi .sgt a 0#32) : BitVec 32) 0#32

/-- A slot's last copy is waited for from the second trip on. -/
theorem gd1 : ∀ k : Fin k0_t1_loop.trips, gdW (Scf.iv 0#32 1#32 k) = 1#1 ↔ 0 < k.val := by decide
/-- The next rows of `x` are fetched in every trip but the last. -/
theorem cond2_iff : ∀ k : Fin k0_t1_loop.trips, k0_cond2 k = 1#1 ↔ k.val < 3 := by decide
/-- The next rows of `x` are fetched in every trip but the last. -/
theorem cond4_iff : ∀ k : Fin k0_t1_loop.trips, k0_cond4 k = 1#1 ↔ k.val < 3 := by decide
/-- The rows fetched for the next trip. -/
theorem off3_at : ∀ k : Fin k0_t1_loop.trips, k.val < 3 → ![512 * k.val + 512, 0] = (![256 * (pIx (k.val + 1) 0).val, 0] : Fin 2 → ℕ) := by decide
/-- The rows fetched for the next trip. -/
theorem off5_at : ∀ k : Fin k0_t1_loop.trips, k.val < 3 → ![512 * k.val + 768, 0] = (![256 * (pIx (k.val + 1) 1).val, 0] : Fin 2 → ℕ) := by decide
/-- The block of the result where a trip's product goes. -/
theorem off4_at : ∀ (c : Dev nD) (k : Fin k0_t1_loop.trips) (s : Fin 2),
    ![2048 * c.val + 512 * k.val + 256 * s.val, 0] = (![2048 * c.val + 256 * (pIx k.val s).val, 0] : Fin 2 → ℕ) := by decide

section Parts
variable {c : Dev nD} {q0 q1 : PosShare TreeShare} {i : ℕ}
variable (h0 : xA.IsWhole) (h1 : wA.IsWhole) (h2 : yA.IsWhole) (h3 : gA.IsWhole) (h4 : wB.IsWhole) (h5 : xB.IsWhole) (h6 : yB.IsWhole)

/-- The first half of the trip makes slot 0's product. -/
theorem part1_spec (k : Fin k0_t1_loop.trips) (v2 : BitVec 32) {Q : BitVec 32 → sProp (MT nD τ sig Unit (Elt F) ℕ UU ℕ)} :
    iprop(ow c i ∗ recs X W K ∗ xst c q0 (X c) 0 k.val ∗ ylS X W c 0 k.val ∗ owns (c : Thread nD τ) wB fullShare (W c))
      ⊢ iprop((iprop(owns (c : Thread nD τ) (yS 0) fullShare (yBlk (xBlk (X c) (pIx k.val 0)) (W c)) ∗ ow c i ∗ ylP X W c 0 k.val
              ∗ owns (c : Thread nD τ) wB fullShare (W c) ∗ xst c q0 (X c) 0 (k.val + 1)) -∗ Q (Scf.iv 0#32 1#32 k))
          -∗ wpK c (k0_part1 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 0#32 1#32 k) Q) := by
  rw [k0_part1_eq_skeleton, xst_lt (show k.val < 4 from k.isLt), ← xst_next (cond2_iff k)]
  exact half_rule X W K 0 (pIx k.val 0) (pIx (k.val + 1) 0) i (ylS X W c 0 k.val) (ylP X W c 0 k.val) (b1 := gdW (Scf.iv 0#32 1#32 k)) (b2 := k0_cond2 k)
    rfl rfl rfl rfl rfl rfl (fun h => slice_at xA ((k0_off3_eq k).trans (off3_at k ((cond2_iff k).mp h))) _ _) rfl rfl
    (fun h kk => yl_wait X W K 0 k.val i ((gd1 k).mp h) rfl rfl)
    (fun h => by
      have e : k.val = 0 := by have := mt (gd1 k).mpr h; omega
      rw [e]; exact ylS_zero X W c 0)

/-- The second half copies it out and makes slot 1's. -/
theorem part2_spec (k : Fin k0_t1_loop.trips) (v2 : BitVec 32) {Q : PUnit → sProp (MT nD τ sig Unit (Elt F) ℕ UU ℕ)} :
    iprop((owns (c : Thread nD τ) (yS 0) fullShare (yBlk (xBlk (X c) (pIx k.val 0)) (W c)) ∗ ylP X W c 0 k.val)
        ∗ ow c i ∗ recs X W K ∗ xst c q1 (X c) 1 k.val ∗ ylS X W c 1 k.val ∗ owns (c : Thread nD τ) wB fullShare (W c))
      ⊢ iprop((iprop(ylS X W c 0 (k.val + 1) ∗ owns (c : Thread nD τ) (yS 1) fullShare (yBlk (xBlk (X c) (pIx k.val 1)) (W c)) ∗ ow c i ∗ ylP X W c 1 k.val
              ∗ owns (c : Thread nD τ) wB fullShare (W c) ∗ xst c q1 (X c) 1 (k.val + 1)) -∗ Q ⟨⟩)
          -∗ wpK c (k0_part2 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 k (Scf.iv 0#32 1#32 k)) Q) := by
  have hk4 : k.val < 4 := k.isLt
  rw [k0_part2_eq_skeleton, xst_lt hk4, ← xst_next (cond4_iff k)]
  refine step_then (fun Q' => yl_start (kk := .ret) X W 0 k.val hk4 rfl (slice_at yA ((k0_off4_eq c k 0).trans (off4_at c k 0)) _ _) rfl) ?_
  exact (half_rule X W K 1 (pIx k.val 1) (pIx (k.val + 1) 1) i (ylS X W c 1 k.val) (ylP X W c 1 k.val) (b1 := gdW (Scf.iv 0#32 1#32 k)) (b2 := k0_cond4 k)
      rfl rfl rfl rfl rfl rfl (fun h => slice_at xA ((k0_off5_eq k).trans (off5_at k ((cond4_iff k).mp h))) _ _) rfl rfl
      (fun h kk => yl_wait X W K 1 k.val i ((gd1 k).mp h) rfl rfl)
      (fun h => by
        have e : k.val = 0 := by have := mt (gd1 k).mpr h; omega
        rw [e]; exact ylS_zero X W c 1))

/-- What the device holds before trip `k` of its own loop. -/
def inv1 (c : Dev nD) (q0 q1 : PosShare TreeShare) (i k : ℕ) : sProp 𝕄 :=
  iprop(recs X W K ∗ ow c i ∗ owns (c : Thread nD τ) wB fullShare (W c) ∗ xst c q0 (X c) 0 k ∗ xst c q1 (X c) 1 k ∗ ylS X W c 0 k ∗ ylS X W c 1 k)

/-- A trip of the loop keeps its invariant. -/
theorem trip1 (k : Fin k0_t1_loop.trips) (v2 v4 : BitVec 32) (a : Unit) :
    inv1 X W K c q0 q1 i k.val ⊢ wpK c (k0_t1_body (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v4 k a) (fun _ => inv1 X W K c q0 q1 i (k.val + 1)) := by
  have hk4 : k.val < 4 := k.isLt
  unfold inv1 k0_t1_body
  iintro ⟨#HR, HO, Hw, Hx0, Hx1, Hy0, Hy1⟩
  iapply wpK_bind
  iapply (part1_spec X W K h0 h1 h2 h3 h4 h5 h6 k v2) $$ [HO Hw Hx0 Hy0]
  · isplitl [HO]; · iexact HO
    isplitr; · iexact HR
    isplitl [Hx0]; · iexact Hx0
    isplitl [Hy0]; · iexact Hy0
    iexact Hw
  iintro ⟨Hys, HO, Hy0, Hw, Hx0⟩
  iapply wpK_bind
  iapply (part2_spec X W K h0 h1 h2 h3 h4 h5 h6 k v2) $$ [HO Hw Hx1 Hys Hy0 Hy1]
  · isplitl [Hys Hy0]
    · isplitl [Hys]; · iexact Hys
      iexact Hy0
    isplitl [HO]; · iexact HO
    isplitr; · iexact HR
    isplitl [Hx1]; · iexact Hx1
    isplitl [Hy1]; · iexact Hy1
    iexact Hw
  iintro ⟨Hy0, Hys, HO, Hy1, Hw, Hx1⟩
  iapply wpK_bind
  iapply (yl_start (kk := .ret) X W 1 k.val hk4 rfl (slice_at yA ((k0_off4_eq c k 1).trans (off4_at c k 1)) _ _) rfl) $$ [Hys Hy1]
  · isplitl [Hys]; · iexact Hys
    iexact Hy1
  iintro Hy1
  iapply wpK_ret
  iapply wpK_ret
  isplitr; · iexact HR
  isplitl [HO]; · iexact HO
  isplitl [Hw]; · iexact Hw
  isplitl [Hx0]; · iexact Hx0
  isplitl [Hx1]; · iexact Hx1
  isplitl [Hy0]; · iexact Hy0
  iexact Hy1

/-- The device's own loop: its eight blocks of products, sixteen copies out and in. -/
theorem loop1 (v2 v4 : BitVec 32) {Q : Unit → sProp (MT nD τ sig Unit (Elt F) ℕ UU ℕ)} :
    inv1 X W K c q0 q1 i 0 ⊢ iprop((inv1 X W K c q0 q1 i 4 -∗ Q ⟨⟩)
      -∗ wpK c (Scf.Loop.for k0_t1_loop k0_t1_ok ⟨⟩ (k0_t1_body (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v4)) Q) :=
  loop_rule rfl (inv1 X W K c q0 q1 i) fun k a => trip1 X W K h0 h1 h2 h3 h4 h5 h6 k v2 v4 a

end Parts

end Cert.Proof.K
-- ==== Proof.TripR.lean ====
/-
  One trip of the loops that multiply the `w` of another device: the products go to that device's `y`.
-/
module

public import proofs.«01_k».proof.Proof.TripL

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x8192.Idx → Elt F .f32) (W : Dev nD → S8192x1024.Idx → Elt F .f32)
variable (K : Dev nD × Fin 19 → ℕ)

/-! ## The products' send cells -/

/-- The cell of the sends from slot `s` of the products. -/
abbrev ks (s : Fin 2) : Fin 19 := ⟨1 + s.val, by omega⟩

/-- It has one payment in each of its twelve rounds, -/
theorem ks_dut : ∀ (c : Dev nD) (s : Fin 2) (r : Fin 12), dut c (smIx (csem (ks s))) r.val = {0} := by decide
/-- level 0, -/
theorem ks_low : ∀ s : Fin 2, lvN (smIx (csem (ks s))) = 0 := by decide
/-- counts blocks of products, -/
theorem ks_amt : ∀ s : Fin 2, amt (smIx (csem (ks s))) = Ny := by
  intro s; fin_cases s <;> exact if_neg (by decide)
/-- and hands the slot back. -/
theorem ks_pay (c : Dev nD) : ∀ s : Fin 2, pay (F := F) X W c (smIx (csem (ks s))) 0 = iprop(∃ Y, owns (c : Thread nD τ) (yS s) fullShare Y) := by
  intro s; fin_cases s
  · unfold pay; rw [if_neg (by decide), if_pos (by decide)]; rfl
  · unfold pay; rw [if_neg (by decide), if_neg (by decide), if_pos (by decide)]; rfl

/-- The sends of slot `s` that are to come. -/
def ytok (c : Dev nD) (s : Fin 2) (n : ℕ) : sProp 𝕄 := bigSep (Finset.Ico n 12) fun r => dutyTok ER (cell c (csem (ks s))) r 0

/-- Slot `s` after `n` sends, the last of them on its way. -/
def yrW (c : Dev nD) (s : Fin 2) (n : ℕ) : sProp 𝕄 :=
  iprop(cred (tallyAt (cell c (csem (ks s))) () Ny) ∗ atPos ER (cell c (csem (ks s))) (n - 1) ∅ 0 ∗ ytok c s n)
/-- Slot `s` after `n` sends, all of them over. -/
def yrP (c : Dev nD) (s : Fin 2) (n : ℕ) : sProp 𝕄 :=
  iprop(atPos ER (cell c (csem (ks s))) n ∅ 0 ∗ reached ER (cell c (csem (ks s))) n ∗ ytok c s n)
/-- Slot `s` before trip `k` of loop `l`. -/
def yrS (c : Dev nD) (s : Fin 2) (l k : ℕ) : sProp 𝕄 :=
  if k = 0 then iprop((∃ Y, owns (c : Thread nD τ) (yS s) fullShare Y) ∗ yrP c s (4 * l)) else yrW c s (4 * l + k)

/-- Before a loop's first trip a slot is free. -/
theorem yrS_zero (c : Dev nD) (s : Fin 2) (l : ℕ) : yrS (F := F) c s l 0 ⊢ iprop((∃ Y, owns (c : Thread nD τ) (yS s) fullShare Y) ∗ yrP c s (4 * l + 0)) := by
  unfold yrS; rw [if_pos rfl]; exact .rfl

/-- The rights to the payments from the `i`-th on, and what they overwrite. -/
def pd (c : Dev nD) (i : ℕ) : sProp 𝕄 := iprop((bigSep (Finset.Ico i 33) fun j => ptok c j) ∗ bigSep (Finset.Ico i 33) fun j => dest c j)

/-- The rights from the `i`-th on are the `i`-th and those after it. -/
theorem pd_step (c : Dev nD) (i : ℕ) (hi : i < 33) : pd (F := F) c i = iprop((ptok c i ∗ bigSep (Finset.Ico (i + 1) 33) fun j => ptok c j)
    ∗ (dest c i ∗ bigSep (Finset.Ico (i + 1) 33) fun j => dest c j)) := by
  unfold pd
  rw [← Ico_insert hi, bigSep_ins _ (by rw [Finset.mem_Ico]; omega), bigSep_ins _ (by rw [Finset.mem_Ico]; omega)]

/-! ## The receive cells -/

/-- A copy of products raises the semaphore with its sender's number, -/
theorem paySm_y (c : Dev nD) (j : ℕ) (hj : 9 ≤ j) : paySm c j = .dma (dsem (7 + c.val) (by have : c.val < 4 := c.isLt; omega)) := by
  unfold paySm
  rw [if_neg (by omega), if_neg (by omega), if_neg (by omega), if_neg (by omega), if_neg (by omega), if_neg (by omega), if_neg (by omega)]
/-- counts one block, -/
theorem payAmt_y (j : ℕ) (hj : 9 ≤ j) : payAmt j = Ny := by
  unfold payAmt; rw [if_neg (by omega), if_neg (by omega)]
/-- is numbered by the block, -/
theorem payD_y (j : ℕ) (hj : 9 ≤ j) : payD j = (yIx j).val := by
  unfold payD; rw [if_neg (by omega), if_neg (by omega), if_neg (by omega)]; rfl
/-- overwrites that block, -/
theorem dest_y (c : Dev nD) (j : ℕ) (hj : 9 ≤ j) : dest (F := F) c j = iprop(∃ Y, owns ((c + rot j : Dev nD) : Thread nD τ) (yM c (yIx j)) fullShare Y) := by
  unfold dest; rw [if_neg (by omega)]
/-- and hands it over. -/
theorem pay_y (o s : Dev nD) (p : Fin 8) : pay (F := F) X W o (8 + s.val) p.val = yFull X W o s p := by
  have h4 : s.val < 4 := s.isLt
  unfold pay
  rw [if_neg (by omega), if_neg (by omega), if_neg (by omega), dif_pos ⟨by omega, by omega, p.isLt⟩]
  congr 1
  exact Fin.ext (by show 8 + s.val - 8 = s.val; omega)

section Ops
variable {c : Dev nD} {α : Type} {Q : α → sProp (MT nD τ sig Unit (Elt F) ℕ UU ℕ)}

/-- The wait for slot `s`'s last send. -/
theorem yr_wait (s : Fin 2) (n i : ℕ) (hn : 0 < n) (hn' : n ≤ 12) {sm : DmaSem sig} (em : SemLoc.dma sm = csem (ks s))
    {s' : Shape} {e' : EltTy} {sp₁ sp₂ : Space} {s₂ : Shape} {e₂ : EltTy}
    {srcw : Memref sig .tc sp₁ s' e'} {dstw : Memref sig .tc sp₂ s₂ e₂} {h1 : srcw.view.WordExact} {h2 : dstw.view.WordExact}
    (hN : dstw.view.dmaCredit = Ny)
    {kk : PUnit → Prog (TpuEff nD τ sig (Elt F) Λ₀ .tc) α} :
    iprop(recs X W K ∗ ow c i ∗ yrW c s n)
      ⊢ iprop((iprop((∃ Y, owns (c : Thread nD τ) (yS s) fullShare Y) ∗ ow c i ∗ yrP c s n) -∗ wpK c (kk ⟨⟩) Q)
          -∗ wpK c (.op (.waitDma2 sm srcw dstw h1 h2) kk) Q) := by
  obtain ⟨m, rfl⟩ : ∃ m, n = m + 1 := ⟨n - 1, by omega⟩
  unfold yrW yrP
  rw [Nat.add_sub_cancel]
  iintro ⟨#HR, HO, Hc, Hat, Ht⟩ Hk
  iapply (wait_step X W K i (ks s) m em (ks_dut c s ⟨m, by omega⟩) (hN.trans (ks_amt s).symm)
    (fun j _ h2 => by rw [ks_low]; exact pay_ranked c ⟨j, h2⟩)) $$ [HO Hc Hat]
  · isplitr; · iexact HR
    isplitl [Hc]; · rw [ks_amt]; iexact Hc
    isplitl [HO]; · iexact HO
    iexact Hat
  iintro ⟨HO, Hat, Hr, Hp⟩
  iapply Hk
  isplitl [Hp]; · iapply (BIBase.Entails.of_eq (ks_pay X W c s)) $$ Hp
  isplitl [HO]; · iexact HO
  isplitl [Hat]; · iexact Hat
  isplitl [Hr]; · iexact Hr
  iexact Ht

/-- Sending slot `s`'s product to the device `ρ` round the ring. -/
theorem yr_send {nd : Dev nD} (s : Fin 2) (j n : ℕ) (p : Fin 8) (ρ : Dev nD) (hj9 : 9 ≤ j) (hj : j < 33) (hn : n < 12) (hρ : rot j = ρ) (hp : yIx j = p)
    (hnd : nd = c + ρ)
    {src' : Memref sig .tc .vmem S256x1024 .f32} {dst' : Memref sig .tc .hbm S256x1024 .f32} {sS sm : DmaSem sig}
    (es : src' = yS s) (ed : dst' = yM c p) (eS : SemLoc.dma sS = csem (ks s)) (em : sm = dsem (7 + c.val) (by have : c.val < 4 := c.isLt; omega))
    {hsc : dst'.view.ref.isScScratch = false} {h1 : src'.view.WordExact} {h2 : dst'.view.WordExact}
    {h3 : DmaTarget.Typed (nD := nD) (τ := τ) (p := .tc) .vmem (.dma sm) (.remote (Dev.tc nd : Thread nD τ) dst' (.dma sS) hsc)}
    {kk : PUnit → Prog (TpuEff nD τ sig (Elt F) Λ₀ .tc) α} :
    iprop(owns (c : Thread nD τ) (yS s) fullShare (yBlk (xBlk (X c) p) (W (c + ρ))) ∗ recs X W K ∗ yrP c s n ∗ ow c j ∗ pd c j)
      ⊢ iprop((iprop((yrW c s (n + 1) ∗ pd c (j + 1)) ∗ ow c (j + 1)) -∗ wpK c (kk ⟨⟩) Q)
          -∗ wpK c (.op (.enqueueDma src' (.remote (Dev.tc nd : Thread nD τ) dst' (.dma sS) hsc) (.dma sm) h1 h2 h3) kk) Q) := by
  subst hρ hp
  unfold yrP yrW
  rw [pd_step c j hj, dest_y c j hj9, ytok, ← Ico_insert hn, bigSep_ins _ (by rw [Finset.mem_Ico]; omega)]
  iintro ⟨Hy, #HR, ⟨Hat, #Hr, HtS, Hts⟩, HO, ⟨Ht, Htt⟩, ⟨Hd, Hdd⟩⟩ Hk
  iapply (send_step X W K j hj hnd (ks s) n es ed eS (by rw [em, paySm_y c j hj9]) (q := fullShare) (Xs := yBlk (xBlk (X c) (yIx j)) (W (c + rot j)))
    (payAmt_y j hj9).symm (by rw [ks_dut c s ⟨n, hn⟩]; exact Finset.mem_singleton_self _) ((ks_amt s).trans (payAmt_y j hj9).symm)
    (by
      rw [ks_pay]; iintro H; iexists _; iexact H)
    (by
      rw [paySm_y c j hj9, payD_y j hj9]
      exact BIBase.Entails.of_eq ((show yFull X W (c + rot j) c (yIx j) = pay X W (c + rot j) (8 + c.val) (yIx j).val from (pay_y X W (c + rot j) c (yIx j)).symm).trans
        (by rw [show smIx (SemLoc.dma (dsem (7 + c.val) (by have : c.val < 4 := c.isLt; omega))) = 8 + c.val from by show 7 + c.val + 1 = 8 + c.val; omega])))) $$ [Hy HO Ht Hd HtS]
  · isplitr; · iexact HR
    isplitl [Hy]; · iexact Hy
    isplitl [Hd]; · iexact Hd
    isplitl [HO]; · iexact HO
    isplitl [Ht]; · iexact Ht
    isplitl [HtS]; · iexact HtS
    iexact Hr
  iintro ⟨Hc, HO⟩
  iapply Hk
  isplitr [HO]
  · isplitl [Hc Hat Hts]
    · isplitl [Hc]; · rw [payAmt_y j hj9]; iexact Hc
      isplitl [Hat]; · rw [Nat.add_sub_cancel]; iexact Hat
      unfold ytok; iexact Hts
    unfold pd
    isplitl [Htt]; · iexact Htt
    iexact Hdd
  iexact HO

end Ops

end Cert.Proof.K
-- ==== Proof.LoopsR.lean ====
/-
  The three loops that multiply the `w` of the other devices.
-/
module

public import proofs.«01_k».proof.Proof.TripR

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x8192.Idx → Elt F .f32) (W : Dev nD → S8192x1024.Idx → Elt F .f32)
variable (K : Dev nD × Fin 19 → ℕ)

/-- What the device holds before trip `k` of loop `l`, which serves the device `ρ` round the ring. -/
def inv2 (c : Dev nD) (q0 q1 : PosShare TreeShare) (ρ : Dev nD) (l k : ℕ) : sProp 𝕄 :=
  iprop(recs X W K ∗ ow c (9 + 8 * l + 2 * k) ∗ pd c (9 + 8 * l + 2 * k) ∗ owns (c : Thread nD τ) wB fullShare (W (c + ρ))
    ∗ xst c q0 (X c) 0 k ∗ xst c q1 (X c) 1 k ∗ yrS c 0 l k ∗ yrS c 1 l k)

/-! ### One trip, whichever loop it is in -/

/-- After a loop's first trip a slot's last send is on its way. -/
theorem yrS_pos (c : Dev nD) (s : Fin 2) (l k : ℕ) (h : 0 < k) : yrS (F := F) c s l k = yrW c s (4 * l + k) := if_neg (by omega)

/-- Payment `9 + 8 l + 2 k + s` is the block of products that slot `s` holds at trip `k`, -/
theorem yIx_at : ∀ (l : Fin 3) (k : Fin 4) (s : Fin 2), yIx (9 + 8 * l.val + 2 * k.val + s.val) = pIx k.val s := by decide
/-- and the loops serve the devices 3, 1 and 2 round the ring. -/
theorem rot_at : ∀ (l : Fin 3) (k : Fin 4) (s : Fin 2), rot (9 + 8 * l.val + 2 * k.val + s.val) = (![3, 1, 2] : Fin 3 → Dev nD) l := by decide
/-- A slot's last send is waited for from the second trip on. -/
theorem gd_iff : ∀ k : Fin 4, gdW (Scf.iv 0#32 1#32 k) = 1#1 ↔ 0 < k.val := by decide

section Trip
variable {c : Dev nD} {q0 q1 : PosShare TreeShare} {α : Type}

/-- Freeing slot `s` by the wait for its last send, when there was one in this loop. -/
theorem yr_free_wait {Q : α → sProp (MT nD τ sig Unit (Elt F) ℕ UU ℕ)} (s : Fin 2) (l : Fin 3) (k : Fin 4) (i : ℕ) (hb : gdW (Scf.iv 0#32 1#32 k) = 1#1)
    {sm : DmaSem sig} (em : SemLoc.dma sm = csem (ks s))
    {s' : Shape} {e' : EltTy} {sp₁ sp₂ : Space} {s₂ : Shape} {e₂ : EltTy}
    {srcw : Memref sig .tc sp₁ s' e'} {dstw : Memref sig .tc sp₂ s₂ e₂} {h1 : srcw.view.WordExact} {h2 : dstw.view.WordExact}
    (hN : dstw.view.dmaCredit = Ny)
    {kk : PUnit → Prog (TpuEff nD τ sig (Elt F) Λ₀ .tc) α} :
    iprop(recs X W K ∗ ow c i ∗ yrS c s l.val k.val)
      ⊢ iprop((iprop((∃ Y, owns (c : Thread nD τ) (yS s) fullShare Y) ∗ ow c i ∗ yrP c s (4 * l.val + k.val)) -∗ wpK c (kk ⟨⟩) Q)
          -∗ wpK c (.op (.waitDma2 sm srcw dstw h1 h2) kk) Q) := by
  have hk := (gd_iff k).mp hb
  rw [yrS_pos c s l.val k.val hk]
  exact yr_wait X W K s (4 * l.val + k.val) i (by omega) (by omega) em hN

/-- Slot `s` is free when there was none. -/
theorem yr_free (s : Fin 2) (l : Fin 3) (k : Fin 4) (hb : gdW (Scf.iv 0#32 1#32 k) ≠ 1#1) :
    yrS (F := F) c s l.val k.val ⊢ iprop((∃ Y, owns (c : Thread nD τ) (yS s) fullShare Y) ∗ yrP c s (4 * l.val + k.val)) := by
  have e : k.val = 0 := by have := mt (gd_iff k).mpr hb; omega
  rw [e]; exact yrS_zero c s l.val

/-- `A` makes slot 0's product of trip `k` of loop `l`, and yields `v`. -/
def FirstHalf (c : Dev nD) (q0 : PosShare TreeShare) (ρ : Dev nD) (l k : ℕ) (v : BitVec 32) (A : Prog (TpuEff nD τ sig (Elt F) Λ₀ .tc) (BitVec 32)) : Prop :=
  ∀ Q : BitVec 32 → sProp (MT nD τ sig Unit (Elt F) ℕ UU ℕ),
    iprop(ow c (9 + 8 * l + 2 * k) ∗ recs X W K ∗ xst c q0 (X c) 0 k ∗ yrS c 0 l k ∗ owns (c : Thread nD τ) wB fullShare (W (c + ρ)))
      ⊢ iprop((iprop(owns (c : Thread nD τ) (yS 0) fullShare (yBlk (xBlk (X c) (pIx k 0)) (W (c + ρ))) ∗ ow c (9 + 8 * l + 2 * k) ∗ yrP c 0 (4 * l + k)
              ∗ owns (c : Thread nD τ) wB fullShare (W (c + ρ)) ∗ xst c q0 (X c) 0 (k + 1)) -∗ Q v)
          -∗ wpK c A Q)

/-- `B` sends slot 0's product of trip `k` of loop `l`, and makes slot 1's. -/
def SecondHalf (c : Dev nD) (q1 : PosShare TreeShare) (ρ : Dev nD) (l k : ℕ) (B : Prog (TpuEff nD τ sig (Elt F) Λ₀ .tc) PUnit) : Prop :=
  ∀ Q : PUnit → sProp (MT nD τ sig Unit (Elt F) ℕ UU ℕ),
    iprop((owns (c : Thread nD τ) (yS 0) fullShare (yBlk (xBlk (X c) (pIx k 0)) (W (c + ρ))) ∗ recs X W K ∗ yrP c 0 (4 * l + k)
          ∗ ow c (9 + 8 * l + 2 * k) ∗ pd c (9 + 8 * l + 2 * k))
        ∗ recs X W K ∗ xst c q1 (X c) 1 k ∗ yrS c 1 l k ∗ owns (c : Thread nD τ) wB fullShare (W (c + ρ)))
      ⊢ iprop((iprop((yrW c 0 (4 * l + k + 1) ∗ pd c (9 + 8 * l + 2 * k + 1))
              ∗ owns (c : Thread nD τ) (yS 1) fullShare (yBlk (xBlk (X c) (pIx k 1)) (W (c + ρ))) ∗ ow c (9 + 8 * l + 2 * k + 1) ∗ yrP c 1 (4 * l + k)
              ∗ owns (c : Thread nD τ) wB fullShare (W (c + ρ)) ∗ xst c q1 (X c) 1 (k + 1)) -∗ Q ⟨⟩)
          -∗ wpK c B Q)

/-- A trip of any of the three loops: slot 0's product is made and sent, then slot 1's. -/
theorem trip_rule (l : Fin 3) (k : Fin 4) (ρ : Dev nD) (hρ : (![3, 1, 2] : Fin 3 → Dev nD) l = ρ) {v : BitVec 32}
    {A : Prog (TpuEff nD τ sig (Elt F) Λ₀ .tc) (BitVec 32)} {B : BitVec 32 → Prog (TpuEff nD τ sig (Elt F) Λ₀ .tc) PUnit}
    (hA : FirstHalf X W K c q0 ρ l.val k.val v A) (hB : SecondHalf X W K c q1 ρ l.val k.val (B v))
    {nd : Dev nD} (hnd : nd = c + ρ) {src' : Memref sig .tc .vmem S256x1024 .f32} {dst' : Memref sig .tc .hbm S256x1024 .f32} {sS sm : DmaSem sig}
    (es : src' = yS 1) (ed : dst' = yM c (pIx k.val 1)) (eS : SemLoc.dma sS = csem (ks 1)) (em : sm = dsem (7 + c.val) (by have : c.val < 4 := c.isLt; omega))
    {hsc : dst'.view.ref.isScScratch = false} {h1 : src'.view.WordExact} {h2 : dst'.view.WordExact}
    {h3 : DmaTarget.Typed (nD := nD) (τ := τ) (p := .tc) .vmem (.dma sm) (.remote (Dev.tc nd : Thread nD τ) dst' (.dma sS) hsc)} :
    inv2 X W K c q0 q1 ρ l.val k.val
      ⊢ wpK c (do
          let a ← A
          B a
          Prog.lift (.enqueueDma src' (.remote (Dev.tc nd : Thread nD τ) dst' (.dma sS) hsc) (.dma sm) h1 h2 h3)
          pure ⟨⟩) (fun _ : Unit => inv2 X W K c q0 q1 ρ l.val (k.val + 1)) := by
  unfold inv2
  rw [yrS_pos c 0 l.val (k.val + 1) (Nat.succ_pos _), yrS_pos c 1 l.val (k.val + 1) (Nat.succ_pos _)]
  iintro ⟨#HR, HO, Hd, Hw, Hx0, Hx1, Hy0, Hy1⟩
  iapply wpK_bind
  iapply (hA _) $$ [HO Hw Hx0 Hy0]
  · isplitl [HO]; · iexact HO
    isplitr; · iexact HR
    isplitl [Hx0]; · iexact Hx0
    isplitl [Hy0]; · iexact Hy0
    iexact Hw
  iintro ⟨Hys, HO, Hy0, Hw, Hx0⟩
  iapply wpK_bind
  iapply (hB _) $$ [HO Hd Hw Hx1 Hys Hy0 Hy1]
  · isplitl [Hys Hy0 HO Hd]
    · isplitl [Hys]; · iexact Hys
      isplitr; · iexact HR
      isplitl [Hy0]; · iexact Hy0
      isplitl [HO]; · iexact HO
      iexact Hd
    isplitr; · iexact HR
    isplitl [Hx1]; · iexact Hx1
    isplitl [Hy1]; · iexact Hy1
    iexact Hw
  iintro ⟨⟨Hy0, Hd⟩, Hys, HO, Hy1, Hw, Hx1⟩
  iapply wpK_bind
  iapply (yr_send (kk := .ret) X W K 1 (9 + 8 * l.val + 2 * k.val + 1) (4 * l.val + k.val) (pIx k.val 1) ρ (by omega) (by omega) (by omega)
    ((rot_at l k 1).trans hρ) (yIx_at l k 1) hnd es ed eS em) $$ [Hys Hy1 HO Hd]
  · isplitl [Hys]; · iexact Hys
    isplitr; · iexact HR
    isplitl [Hy1]; · iexact Hy1
    isplitl [HO]; · iexact HO
    iexact Hd
  iintro ⟨⟨Hy1, Hd⟩, HO⟩
  iapply wpK_ret
  iapply wpK_ret
  isplitr; · iexact HR
  isplitl [HO]; · iexact HO
  isplitl [Hd]; · iexact Hd
  isplitl [Hw]; · iexact Hw
  isplitl [Hx0]; · iexact Hx0
  isplitl [Hx1]; · iexact Hx1
  isplitl [Hy0]; · iexact Hy0
  iexact Hy1

end Trip

section Parts
variable {c : Dev nD} {q0 q1 : PosShare TreeShare}
variable (h0 : xA.IsWhole) (h1 : wA.IsWhole) (h2 : yA.IsWhole) (h3 : gA.IsWhole) (h4 : wB.IsWhole) (h5 : xB.IsWhole) (h6 : yB.IsWhole)

/-! ### Loop 0: the device 3 round the ring -/

/-- The next rows of `x` are fetched in every trip but the last. -/
theorem cond6_iff : ∀ k : Fin k0_t2_loop.trips, k0_cond6 k = 1#1 ↔ k.val < 3 := by decide
/-- The next rows of `x` are fetched in every trip but the last. -/
theorem cond8_iff : ∀ k : Fin k0_t2_loop.trips, k0_cond8 k = 1#1 ↔ k.val < 3 := by decide
/-- The device addressed here. -/
theorem dev10_at : ∀ c : Dev nD, (⟨k0_dev10 c, k0_dev10_lt c⟩ : Dev nD) = c + 3 := by decide
/-- The device addressed here. -/
theorem dev11_at : ∀ c : Dev nD, (⟨k0_dev11 c, k0_dev11_lt c⟩ : Dev nD) = c + 3 := by decide
/-- The semaphore raised is the one with the sender's number. -/
theorem sem2_at : ∀ c : Dev nD, ((cc0_scratch7.slice (Rect.unit (s := S4) (k0_off10 c) S1.size (k0_off10_inb c))).squeeze S_ squeezes_S1_S_).sem
    = dsem (7 + c.val) (by have : c.val < 4 := c.isLt; omega) := by decide

/-- The first half of the trip makes slot 0's product. -/
theorem part3_spec (k : Fin k0_t2_loop.trips) (v2 v7 : BitVec 32) :
    FirstHalf X W K c q0 3 0 k.val (Scf.iv 0#32 1#32 k) (k0_part3 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v7 0#32 1#32 k) := by
  intro Q
  rw [k0_part3_eq_skeleton, xst_lt (show k.val < 4 from k.isLt), ← xst_next (cond6_iff k)]
  exact half_rule X W K 0 (pIx k.val 0) (pIx (k.val + 1) 0) _ (yrS c 0 0 k.val) (yrP c 0 (4 * 0 + k.val)) (b1 := gdW (Scf.iv 0#32 1#32 k)) (b2 := k0_cond6 k)
    rfl rfl rfl rfl rfl rfl (fun h => slice_at xA ((k0_off9_eq k).trans (off3_at k ((cond6_iff k).mp h))) _ _) rfl rfl
    (fun h kk => yr_free_wait X W K 0 0 k _ h rfl (yS_credit 0)) (yr_free 0 0 k)

/-- The second half sends it and makes slot 1's. -/
theorem part4_spec (k : Fin k0_t2_loop.trips) (v2 : BitVec 32) :
    SecondHalf X W K c q1 3 0 k.val (k0_part4 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 k (Scf.iv 0#32 1#32 k)) := by
  intro Q
  have hk4 : k.val < 4 := k.isLt
  rw [k0_part4_eq_skeleton, xst_lt hk4, ← xst_next (cond8_iff k)]
  refine step_then_with (fun Q' => yr_send (kk := .ret) X W K 0 (9 + 8 * 0 + 2 * k.val) (4 * 0 + k.val) (pIx k.val 0) 3 (by omega) (by omega) (by omega)
    (rot_at 0 k 0) (yIx_at 0 k 0) (dev10_at c) rfl (slice_at yA ((k0_off11_eq c k 0).trans (off4_at c k 0)) _ _) rfl (sem2_at c)) ?_
  exact half_rule X W K 1 (pIx k.val 1) (pIx (k.val + 1) 1) _ (yrS c 1 0 k.val) (yrP c 1 (4 * 0 + k.val)) (b1 := gdW (Scf.iv 0#32 1#32 k)) (b2 := k0_cond8 k)
    rfl rfl rfl rfl rfl rfl (fun h => slice_at xA ((k0_off12_eq k).trans (off5_at k ((cond8_iff k).mp h))) _ _) rfl rfl
    (fun h kk => yr_free_wait X W K 1 0 k _ h rfl (yS_credit 1)) (yr_free 1 0 k)

/-- A trip of the loop keeps its invariant. -/
theorem trip2 (k : Fin k0_t2_loop.trips) (v2 v7 : BitVec 32) (a : Unit) :
    inv2 X W K c q0 q1 3 0 k.val ⊢ wpK c (k0_t2_body (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v7 k a) (fun _ => inv2 X W K c q0 q1 3 0 (k.val + 1)) := by
  unfold k0_t2_body
  exact trip_rule X W K 0 k 3 rfl (part3_spec X W K h0 h1 h2 h3 h4 h5 h6 k v2 v7) (part4_spec X W K h0 h1 h2 h3 h4 h5 h6 k v2) (dev11_at c) rfl
    (slice_at yA ((k0_off11_eq c k 1).trans (off4_at c k 1)) _ _) rfl (sem2_at c)

/-- Loop 0: eight blocks of products to the device 3 round the ring. -/
theorem loop2 (v2 v7 : BitVec 32) {Q : Unit → sProp (MT nD τ sig Unit (Elt F) ℕ UU ℕ)} :
    inv2 X W K c q0 q1 3 0 0 ⊢ iprop((inv2 X W K c q0 q1 3 0 4 -∗ Q ⟨⟩)
      -∗ wpK c (Scf.Loop.for k0_t2_loop k0_t2_ok ⟨⟩ (k0_t2_body (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v7)) Q) :=
  loop_rule rfl (inv2 X W K c q0 q1 3 0) fun k a => trip2 X W K h0 h1 h2 h3 h4 h5 h6 k v2 v7 a

/-! ### Loop 1: the device 1 round the ring -/

/-- The next rows of `x` are fetched in every trip but the last. -/
theorem cond10_iff : ∀ k : Fin k0_t3_loop.trips, k0_cond10 k = 1#1 ↔ k.val < 3 := by decide
/-- The next rows of `x` are fetched in every trip but the last. -/
theorem cond12_iff : ∀ k : Fin k0_t3_loop.trips, k0_cond12 k = 1#1 ↔ k.val < 3 := by decide
/-- The device addressed here. -/
theorem dev12_at : ∀ c : Dev nD, (⟨k0_dev12 c, k0_dev12_lt c⟩ : Dev nD) = c + 1 := by decide
/-- The device addressed here. -/
theorem dev13_at : ∀ c : Dev nD, (⟨k0_dev13 c, k0_dev13_lt c⟩ : Dev nD) = c + 1 := by decide
/-- The semaphore raised is the one with the sender's number. -/
theorem sem3_at : ∀ c : Dev nD, ((cc0_scratch7.slice (Rect.unit (s := S4) (k0_off15 c) S1.size (k0_off15_inb c))).squeeze S_ squeezes_S1_S_).sem
    = dsem (7 + c.val) (by have : c.val < 4 := c.isLt; omega) := by decide

/-- The first half of the trip makes slot 0's product. -/
theorem part5_spec (k : Fin k0_t3_loop.trips) (v2 v4 : BitVec 32) :
    FirstHalf X W K c q0 1 1 k.val (Scf.iv 0#32 1#32 k) (k0_part5 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v4 0#32 1#32 k) := by
  intro Q
  rw [k0_part5_eq_skeleton, xst_lt (show k.val < 4 from k.isLt), ← xst_next (cond10_iff k)]
  exact half_rule X W K 0 (pIx k.val 0) (pIx (k.val + 1) 0) _ (yrS c 0 1 k.val) (yrP c 0 (4 * 1 + k.val)) (b1 := gdW (Scf.iv 0#32 1#32 k)) (b2 := k0_cond10 k)
    rfl rfl rfl rfl rfl rfl (fun h => slice_at xA ((k0_off14_eq k).trans (off3_at k ((cond10_iff k).mp h))) _ _) rfl rfl
    (fun h kk => yr_free_wait X W K 0 1 k _ h rfl (yS_credit 0)) (yr_free 0 1 k)

/-- The second half sends it and makes slot 1's. -/
theorem part6_spec (k : Fin k0_t3_loop.trips) (v2 : BitVec 32) :
    SecondHalf X W K c q1 1 1 k.val (k0_part6 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 k (Scf.iv 0#32 1#32 k)) := by
  intro Q
  have hk4 : k.val < 4 := k.isLt
  rw [k0_part6_eq_skeleton, xst_lt hk4, ← xst_next (cond12_iff k)]
  refine step_then_with (fun Q' => yr_send (kk := .ret) X W K 0 (9 + 8 * 1 + 2 * k.val) (4 * 1 + k.val) (pIx k.val 0) 1 (by omega) (by omega) (by omega)
    (rot_at 1 k 0) (yIx_at 1 k 0) (dev12_at c) rfl (slice_at yA ((k0_off16_eq c k 0).trans (off4_at c k 0)) _ _) rfl (sem3_at c)) ?_
  exact half_rule X W K 1 (pIx k.val 1) (pIx (k.val + 1) 1) _ (yrS c 1 1 k.val) (yrP c 1 (4 * 1 + k.val)) (b1 := gdW (Scf.iv 0#32 1#32 k)) (b2 := k0_cond12 k)
    rfl rfl rfl rfl rfl rfl (fun h => slice_at xA ((k0_off17_eq k).trans (off5_at k ((cond12_iff k).mp h))) _ _) rfl rfl
    (fun h kk => yr_free_wait X W K 1 1 k _ h rfl (yS_credit 1)) (yr_free 1 1 k)

/-- A trip of the loop keeps its invariant. -/
theorem trip3 (k : Fin k0_t3_loop.trips) (v2 v4 : BitVec 32) (a : Unit) :
    inv2 X W K c q0 q1 1 1 k.val ⊢ wpK c (k0_t3_body (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v4 k a) (fun _ => inv2 X W K c q0 q1 1 1 (k.val + 1)) := by
  unfold k0_t3_body
  exact trip_rule X W K 1 k 1 rfl (part5_spec X W K h0 h1 h2 h3 h4 h5 h6 k v2 v4) (part6_spec X W K h0 h1 h2 h3 h4 h5 h6 k v2) (dev13_at c) rfl
    (slice_at yA ((k0_off16_eq c k 1).trans (off4_at c k 1)) _ _) rfl (sem3_at c)

/-- Loop 1: eight blocks of products to the device 1 round the ring. -/
theorem loop3 (v2 v4 : BitVec 32) {Q : Unit → sProp (MT nD τ sig Unit (Elt F) ℕ UU ℕ)} :
    inv2 X W K c q0 q1 1 1 0 ⊢ iprop((inv2 X W K c q0 q1 1 1 4 -∗ Q ⟨⟩)
      -∗ wpK c (Scf.Loop.for k0_t3_loop k0_t3_ok ⟨⟩ (k0_t3_body (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v4)) Q) :=
  loop_rule rfl (inv2 X W K c q0 q1 1 1) fun k a => trip3 X W K h0 h1 h2 h3 h4 h5 h6 k v2 v4 a

/-! ### Loop 2: the device 2 round the ring -/

/-- The next rows of `x` are fetched in every trip but the last. -/
theorem cond14_iff : ∀ k : Fin k0_t4_loop.trips, k0_cond14 k = 1#1 ↔ k.val < 3 := by decide
/-- The next rows of `x` are fetched in every trip but the last. -/
theorem cond16_iff : ∀ k : Fin k0_t4_loop.trips, k0_cond16 k = 1#1 ↔ k.val < 3 := by decide
/-- The device addressed here. -/
theorem dev14_at : ∀ c : Dev nD, (⟨k0_dev14 c, k0_dev14_lt c⟩ : Dev nD) = c + 2 := by decide
/-- The device addressed here. -/
theorem dev15_at : ∀ c : Dev nD, (⟨k0_dev15 c, k0_dev15_lt c⟩ : Dev nD) = c + 2 := by decide
/-- The semaphore raised is the one with the sender's number. -/
theorem sem4_at : ∀ c : Dev nD, ((cc0_scratch7.slice (Rect.unit (s := S4) (k0_off19 c) S1.size (k0_off19_inb c))).squeeze S_ squeezes_S1_S_).sem
    = dsem (7 + c.val) (by have : c.val < 4 := c.isLt; omega) := by decide

/-- The first half of the trip makes slot 0's product. -/
theorem part7_spec (k : Fin k0_t4_loop.trips) (v2 v9 : BitVec 32) :
    FirstHalf X W K c q0 2 2 k.val (Scf.iv 0#32 1#32 k) (k0_part7 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v9 0#32 1#32 k) := by
  intro Q
  rw [k0_part7_eq_skeleton, xst_lt (show k.val < 4 from k.isLt), ← xst_next (cond14_iff k)]
  exact half_rule X W K 0 (pIx k.val 0) (pIx (k.val + 1) 0) _ (yrS c 0 2 k.val) (yrP c 0 (4 * 2 + k.val)) (b1 := gdW (Scf.iv 0#32 1#32 k)) (b2 := k0_cond14 k)
    rfl rfl rfl rfl rfl rfl (fun h => slice_at xA ((k0_off18_eq k).trans (off3_at k ((cond14_iff k).mp h))) _ _) rfl rfl
    (fun h kk => yr_free_wait X W K 0 2 k _ h rfl (yS_credit 0)) (yr_free 0 2 k)

/-- The second half sends it and makes slot 1's. -/
theorem part8_spec (k : Fin k0_t4_loop.trips) (v2 : BitVec 32) :
    SecondHalf X W K c q1 2 2 k.val (k0_part8 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 k (Scf.iv 0#32 1#32 k)) := by
  intro Q
  have hk4 : k.val < 4 := k.isLt
  rw [k0_part8_eq_skeleton, xst_lt hk4, ← xst_next (cond16_iff k)]
  refine step_then_with (fun Q' => yr_send (kk := .ret) X W K 0 (9 + 8 * 2 + 2 * k.val) (4 * 2 + k.val) (pIx k.val 0) 2 (by omega) (by omega) (by omega)
    (rot_at 2 k 0) (yIx_at 2 k 0) (dev14_at c) rfl (slice_at yA ((k0_off20_eq c k 0).trans (off4_at c k 0)) _ _) rfl (sem4_at c)) ?_
  exact half_rule X W K 1 (pIx k.val 1) (pIx (k.val + 1) 1) _ (yrS c 1 2 k.val) (yrP c 1 (4 * 2 + k.val)) (b1 := gdW (Scf.iv 0#32 1#32 k)) (b2 := k0_cond16 k)
    rfl rfl rfl rfl rfl rfl (fun h => slice_at xA ((k0_off21_eq k).trans (off5_at k ((cond16_iff k).mp h))) _ _) rfl rfl
    (fun h kk => yr_free_wait X W K 1 2 k _ h rfl (yS_credit 1)) (yr_free 1 2 k)

/-- A trip of the loop keeps its invariant. -/
theorem trip4 (k : Fin k0_t4_loop.trips) (v2 v7 v9 : BitVec 32) (a : Unit) :
    inv2 X W K c q0 q1 2 2 k.val ⊢ wpK c (k0_t4_body (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v7 v9 k a) (fun _ => inv2 X W K c q0 q1 2 2 (k.val + 1)) := by
  unfold k0_t4_body
  exact trip_rule X W K 2 k 2 rfl (part7_spec X W K h0 h1 h2 h3 h4 h5 h6 k v2 v9) (part8_spec X W K h0 h1 h2 h3 h4 h5 h6 k v2) (dev15_at c) rfl
    (slice_at yA ((k0_off20_eq c k 1).trans (off4_at c k 1)) _ _) rfl (sem4_at c)

/-- Loop 2: eight blocks of products to the device 2 round the ring. -/
theorem loop4 (v2 v7 v9 : BitVec 32) {Q : Unit → sProp (MT nD τ sig Unit (Elt F) ℕ UU ℕ)} :
    inv2 X W K c q0 q1 2 2 0 ⊢ iprop((inv2 X W K c q0 q1 2 2 4 -∗ Q ⟨⟩)
      -∗ wpK c (Scf.Loop.for k0_t4_loop k0_t4_ok ⟨⟩ (k0_t4_body (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v7 v9)) Q) :=
  loop_rule rfl (inv2 X W K c q0 q1 2 2) fun k a => trip4 X W K h0 h1 h2 h3 h4 h5 h6 k v2 v7 v9 a

end Parts

end Cert.Proof.K
-- ==== Proof.Hops.lean ====
/-
  The waits on the barrier, on the halves of `w` and on the products that arrive.
-/
module

public import proofs.«01_k».proof.Proof.LoopsR

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x8192.Idx → Elt F .f32) (W : Dev nD → S8192x1024.Idx → Elt F .f32)
variable (K : Dev nD × Fin 19 → ℕ)

/-! ## The copies of halves of `w` -/

/-- The cell that counts the sending of payment `j`, a copy of half of a `w`. -/
def kh (j : ℕ) : Fin 19 := if j = 3 then 7 else if j = 5 then 8 else if j = 7 then 9 else if j = 4 then 13 else if j = 6 then 14 else 15

/-- Such a cell has one payment in its round, -/
theorem kh_dut : ∀ (c : Dev nD) (j : Fin 33), dut c (smIx (csem (kh j))) 0 = {0} := by decide
/-- level 0, -/
theorem kh_low : ∀ j : Fin 33, lvN (smIx (csem (kh j))) = 0 := by decide
/-- and counts halves of a `w`: -/
theorem kh_amtC : ∀ j : Fin 33, amtC (smIx (csem (kh j))) = 2 := by decide
/-- its amount. -/
theorem kh_amt (j : ℕ) (h9 : j < 9) : amt (smIx (csem (kh j))) = Nh := by
  rw [amt_eq, kh_amtC ⟨j, by omega⟩]; rfl
/-- A copy of half of a `w` counts one half. -/
theorem payAmt_h (j : ℕ) (h3 : 3 ≤ j) (h9 : j < 9) : payAmt j = Nh := by
  unfold payAmt; rw [if_neg (by omega), if_pos h9]
/-- The halves count alike. -/
theorem gM_credit : ∀ (s : Dev nD) (b : Fin 2), (gM s b).view.dmaCredit = Nh := fun _ _ => rfl
/-- The halves count alike. -/
theorem wM_credit : ∀ b : Fin 2, (wM b).view.dmaCredit = Nh := fun _ => rfl

/-- The other semaphores' payments hand nothing over, -/
theorem pay_else (c : Dev nD) (i d : ℕ) (h : i ∉ ({0, 6, 7, 8, 9, 10, 11, 15, 16, 17, 21, 22, 23} : Finset ℕ)) : pay (F := F) X W c i d = iprop(emp) := by
  simp only [Finset.mem_insert, Finset.mem_singleton, not_or] at h
  obtain ⟨a0, a6, a7, a8, a9, a10, a11, a15, a16, a17, a21, a22, a23⟩ := h
  unfold pay
  rw [if_neg a0, if_neg a6, if_neg a7, dif_neg (by omega), if_neg a15, if_neg a16, if_neg a17, if_neg a21, if_neg a22, if_neg a23]
/-- and the halves' send semaphores are among those. -/
theorem kh_else : ∀ j : Fin 33, smIx (csem (kh j)) ∉ ({0, 6, 7, 8, 9, 10, 11, 15, 16, 17, 21, 22, 23} : Finset ℕ) := by decide

/-- Which semaphore each copy of a half raises, and which half it is. -/
theorem gOwn_at : ∀ (c : Dev nD) (j : Fin 33), 3 ≤ j.val → j.val < 9 →
    (smIx (paySm c j) = 15 ∧ gOwn c j = c + rot j + 3 ∧ gHalf j = 0) ∨ (smIx (paySm c j) = 16 ∧ gOwn c j = c + rot j + 3 ∧ gHalf j = 1)
    ∨ (smIx (paySm c j) = 17 ∧ gOwn c j = c + rot j + 2 ∧ gHalf j = 0) ∨ (smIx (paySm c j) = 21 ∧ gOwn c j = c + rot j + 1 ∧ gHalf j = 1)
    ∨ (smIx (paySm c j) = 22 ∧ gOwn c j = c + rot j + 1 ∧ gHalf j = 0) ∨ (smIx (paySm c j) = 23 ∧ gOwn c j = c + rot j + 2 ∧ gHalf j = 1) := by decide

/-- The half that this receive semaphore hands over. -/
theorem pay_15 (c : Dev nD) (d : ℕ) : pay (F := F) X W c 15 d = gFull W c (c + 3) 0 := by
  unfold pay
  rw [if_neg (by decide), if_neg (by decide), if_neg (by decide), dif_neg (by omega), if_pos rfl]
/-- The half that this receive semaphore hands over. -/
theorem pay_16 (c : Dev nD) (d : ℕ) : pay (F := F) X W c 16 d = gFull W c (c + 3) 1 := by
  unfold pay
  rw [if_neg (by decide), if_neg (by decide), if_neg (by decide), dif_neg (by omega), if_neg (by decide), if_pos rfl]
/-- The half that this receive semaphore hands over. -/
theorem pay_17 (c : Dev nD) (d : ℕ) : pay (F := F) X W c 17 d = gFull W c (c + 2) 0 := by
  unfold pay
  rw [if_neg (by decide), if_neg (by decide), if_neg (by decide), dif_neg (by omega), if_neg (by decide), if_neg (by decide), if_pos rfl]
/-- The half that this receive semaphore hands over. -/
theorem pay_21 (c : Dev nD) (d : ℕ) : pay (F := F) X W c 21 d = gFull W c (c + 1) 1 := by
  unfold pay
  rw [if_neg (by decide), if_neg (by decide), if_neg (by decide), dif_neg (by omega), if_neg (by decide), if_neg (by decide), if_neg (by decide), if_pos rfl]
/-- The half that this receive semaphore hands over. -/
theorem pay_22 (c : Dev nD) (d : ℕ) : pay (F := F) X W c 22 d = gFull W c (c + 1) 0 := by
  unfold pay
  rw [if_neg (by decide), if_neg (by decide), if_neg (by decide), dif_neg (by omega), if_neg (by decide), if_neg (by decide), if_neg (by decide), if_neg (by decide), if_pos rfl]
/-- The half that this receive semaphore hands over. -/
theorem pay_23 (c : Dev nD) (d : ℕ) : pay (F := F) X W c 23 d = gFull W c (c + 2) 1 := by
  unfold pay
  rw [if_neg (by decide), if_neg (by decide), if_neg (by decide), dif_neg (by omega), if_neg (by decide), if_neg (by decide), if_neg (by decide), if_neg (by decide), if_neg (by decide), if_pos rfl]

/-- What a copy of half of a `w` hands over where it lands. -/
theorem pay_hop (c : Dev nD) (j : ℕ) (h3 : 3 ≤ j) (h9 : j < 9) (d : ℕ) :
    pay (F := F) X W (c + rot j) (smIx (paySm c j)) d = gFull W (c + rot j) (gOwn c j) (gHalf j) := by
  rcases gOwn_at c ⟨j, by omega⟩ h3 h9 with h | h | h | h | h | h <;> obtain ⟨e1, e2, e3⟩ := h <;> dsimp only at e1 e2 e3 <;> rw [e1, e2, e3]
  · exact pay_15 X W _ d
  · exact pay_16 X W _ d
  · exact pay_17 X W _ d
  · exact pay_21 X W _ d
  · exact pay_22 X W _ d
  · exact pay_23 X W _ d

/-- The sending of payment `j`: not begun. -/
def hs (c : Dev nD) (j : ℕ) : sProp 𝕄 := iprop(dutyTok ER (cell c (csem (kh j))) 0 0 ∗ atPos ER (cell c (csem (kh j))) 0 ∅ 0)
/-- Begun and not waited for. -/
def hw (c : Dev nD) (j : ℕ) : sProp 𝕄 := iprop(cred (tallyAt (cell c (csem (kh j))) () Nh) ∗ atPos ER (cell c (csem (kh j))) 0 ∅ 0)
/-- A receive cell whose landing is to come. -/
def hr (c : Dev nD) (k : Fin 19) : sProp 𝕄 := iprop(cred (tallyAt (cell c (csem k)) () Nh) ∗ atPos ER (cell c (csem k)) 0 ∅ 0)

section Ops
variable {c : Dev nD} {α : Type} {Q : α → sProp (MT nD τ sig Unit (Elt F) ℕ UU ℕ)}

/-- A copy of half of a `w` to a neighbour. -/
theorem hop_send {nd : Dev nD} (j : ℕ) (h3 : 3 ≤ j) (h9 : j < 9) (ρ o : Dev nD) (b : Fin 2) (hρ : rot j = ρ) (ho : gOwn c j = o) (hb : gHalf j = b)
    (hnd : nd = c + ρ)
    {sp : Space} {src src' : Memref sig .tc sp S4096x1024 .f32} {dst' : Memref sig .tc .hbm S4096x1024 .f32} {sS sm : DmaSem sig}
    (es : src' = src) (ed : dst' = gM o b) (eS : SemLoc.dma sS = csem (kh j)) (em : SemLoc.dma sm = paySm c j) {q : PosShare TreeShare}
    {hsc : dst'.view.ref.isScScratch = false} {h1 : src'.view.WordExact} {h2 : dst'.view.WordExact}
    {h3' : DmaTarget.Typed (nD := nD) (τ := τ) (p := .tc) sp (.dma sm) (.remote (Dev.tc nd : Thread nD τ) dst' (.dma sS) hsc)}
    {kk : PUnit → Prog (TpuEff nD τ sig (Elt F) Λ₀ .tc) α} :
    iprop(recs X W K ∗ owns (c : Thread nD τ) src q (wHalf (W o) b) ∗ hs c j ∗ ow c j ∗ pd c j)
      ⊢ iprop((iprop(hw c j ∗ pd c (j + 1) ∗ ow c (j + 1)) -∗ wpK c (kk ⟨⟩) Q)
          -∗ wpK c (.op (.enqueueDma src' (.remote (Dev.tc nd : Thread nD τ) dst' (.dma sS) hsc) (.dma sm) h1 h2 h3') kk) Q) := by
  subst hρ ho hb
  unfold hs hw
  have hd : dest (F := F) c j = iprop(∃ Y, owns ((c + rot j : Dev nD) : Thread nD τ) (gM (gOwn c j) (gHalf j)) fullShare Y) := by
    unfold dest; rw [if_pos h9]
  rw [pd_step c j (by omega), hd]
  iintro ⟨#HR, Hs, ⟨HtS, Hat⟩, HO, ⟨Ht, Htt⟩, ⟨Hd, Hdd⟩⟩ Hk
  iapply (send_step X W K j (by omega) hnd (kh j) 0 es ed eS em (q := q) (Xs := wHalf (W (gOwn c j)) (gHalf j))
    ((gM_credit _ _).trans (payAmt_h j h3 h9).symm) (by rw [kh_dut c ⟨j, by omega⟩]; exact Finset.mem_singleton_self _)
    ((kh_amt j h9).trans (payAmt_h j h3 h9).symm)
    (by
      rw [pay_else X W c _ 0 (kh_else ⟨j, by omega⟩)]; iintro -; iempintro)
    (by
      rw [pay_hop X W c j h3 h9]; unfold gFull; exact .rfl)) $$ [Hs HO Ht Hd HtS]
  · isplitr; · iexact HR
    isplitl [Hs]; · iexact Hs
    isplitl [Hd]; · iexact Hd
    isplitl [HO]; · iexact HO
    isplitl [Ht]; · iexact Ht
    isplitl [HtS]; · iexact HtS
    iapply (recs_reached X W K c (kh j)); iexact HR
  iintro ⟨Hc, HO⟩
  iapply Hk
  isplitl [Hc Hat]
  · isplitl [Hc]; · rw [payAmt_h j h3 h9]; iexact Hc
    iexact Hat
  isplitl [Htt Hdd]
  · unfold pd
    isplitl [Htt]; · iexact Htt
    iexact Hdd
  iexact HO

/-- The wait for the sending of payment `j`. -/
theorem hop_sent (j i : ℕ) (h9 : j < 9) {sm : DmaSem sig} (em : SemLoc.dma sm = csem (kh j))
    {s' : Shape} {e' : EltTy} {sp₁ sp₂ : Space} {s₂ : Shape} {e₂ : EltTy}
    {srcw : Memref sig .tc sp₁ s' e'} {dstw : Memref sig .tc sp₂ s₂ e₂} {h1 : srcw.view.WordExact} {h2 : dstw.view.WordExact}
    (hN : dstw.view.dmaCredit = Nh)
    {kk : PUnit → Prog (TpuEff nD τ sig (Elt F) Λ₀ .tc) α} :
    iprop(recs X W K ∗ hw c j ∗ ow c i)
      ⊢ iprop((iprop(atPos ER (cell c (csem (kh j))) 1 ∅ 0 ∗ ow c i) -∗ wpK c (kk ⟨⟩) Q)
          -∗ wpK c (.op (.waitDma2 sm srcw dstw h1 h2) kk) Q) := by
  unfold hw
  iintro ⟨#HR, ⟨Hc, Hat⟩, HO⟩ Hk
  iapply (wait_step X W K i (kh j) 0 em (kh_dut c ⟨j, by omega⟩) (hN.trans (kh_amt j h9).symm)
    (fun j' _ h2 => by rw [kh_low ⟨j, by omega⟩]; exact pay_ranked c ⟨j', h2⟩)) $$ [HO Hc Hat]
  · isplitr; · iexact HR
    isplitl [Hc]; · rw [kh_amt j h9]; iexact Hc
    isplitl [HO]; · iexact HO
    iexact Hat
  iintro ⟨HO, Hat, -, -⟩
  iapply Hk
  isplitl [Hat]; · iexact Hat
  iexact HO

/-- The arrival of half of a `w`. -/
theorem hop_recv (k : Fin 19) (i : ℕ) {sm : DmaSem sig} (em : SemLoc.dma sm = csem k)
    {s' : Shape} {e' : EltTy} {sp₁ sp₂ : Space} {s₂ : Shape} {e₂ : EltTy}
    {srcw : Memref sig .tc sp₁ s' e'} {dstw : Memref sig .tc sp₂ s₂ e₂} {h1 : srcw.view.WordExact} {h2 : dstw.view.WordExact}
    (hN : dstw.view.dmaCredit = Nh) (hd : dut c (smIx (csem k)) 0 = {0}) (ha : amtC (smIx (csem k)) = 2)
    (hl : ∀ j : Fin 33, i ≤ j.val → lvN (smIx (csem k)) < lvN (smIx (paySm c j.val)))
    (o : Dev nD) (b : Fin 2) (hp : pay (F := F) X W c (smIx (csem k)) 0 = gFull W c o b)
    {kk : PUnit → Prog (TpuEff nD τ sig (Elt F) Λ₀ .tc) α} :
    iprop(recs X W K ∗ hr c k ∗ ow c i)
      ⊢ iprop((iprop(gFull W c o b ∗ atPos ER (cell c (csem k)) 1 ∅ 0 ∗ ow c i) -∗ wpK c (kk ⟨⟩) Q)
          -∗ wpK c (.op (.waitDma2 sm srcw dstw h1 h2) kk) Q) := by
  have e : amt (smIx (csem k)) = Nh := by rw [amt_eq, ha]; rfl
  unfold hr
  iintro ⟨#HR, ⟨Hc, Hat⟩, HO⟩ Hk
  iapply (wait_step X W K i k 0 em hd (hN.trans e.symm) (fun j h1 h2 => hl ⟨j, h2⟩ h1)) $$ [HO Hc Hat]
  · isplitr; · iexact HR
    isplitl [Hc]; · rw [e]; iexact Hc
    isplitl [HO]; · iexact HO
    iexact Hat
  iintro ⟨HO, Hat, -, Hp⟩
  iapply Hk
  isplitl [Hp]; · iapply (BIBase.Entails.of_eq hp) $$ Hp
  isplitl [Hat]; · iexact Hat
  iexact HO

/-! ## The barrier -/

/-- The three signals hand over everything a device overwrites, -/
theorem barIx_all : barIx 0 ∪ (barIx 1 ∪ barIx 2) = Finset.Ico 3 33 := by decide
/-- the first something else than the others, -/
theorem barIx_d0 : Disjoint (barIx 0) (barIx 1 ∪ barIx 2) := by decide
/-- and so do the other two. -/
theorem barIx_d1 : Disjoint (barIx 1) (barIx 2) := by decide

/-- The three signals' payloads are everything the device will overwrite elsewhere. -/
theorem bar_dests (c : Dev nD) : (bigSep (Finset.range 3) fun d => barPay (F := F) c d) = bigSep (Finset.Ico 3 33) fun j => dest c j := by
  rw [← barIx_all, bigSep_union barIx_d0, bigSep_union barIx_d1, show Finset.range 3 = {0, 1, 2} by decide,
    bigSep_insert (by decide), bigSep_insert (by decide), bigSep_singleton]
  rfl

/-- The wait for the three other devices. -/
theorem barrier_step {n : Int} (hn : n = 3) {kk : PUnit → Prog (TpuEff nD τ sig (Elt F) Λ₀ .tc) α} :
    iprop(recs X W K ∗ cred (tallyAt (cell c (csem 0)) () 3) ∗ ow c 3 ∗ atPos ER (cell c (csem 0)) 0 ∅ 0 ∗ (bigSep (Finset.Ico 3 33) fun j => ptok c j))
      ⊢ iprop((iprop(ow c 3 ∗ atPos ER (cell c (csem 0)) 1 ∅ 0 ∗ pd c 3) -∗ wpK c (kk ⟨⟩) Q)
          -∗ wpK c (.op (.semWait barS n) kk) Q) := by
  subst hn
  unfold ow
  iintro ⟨#HR, Hc, ⟨%Ws, HO⟩, Hat, Ht⟩ Hk
  iapply (Rounds.wp_wait_rest_token 𝒱₀ ER (Rd X W) (c : Thread nD τ) none (κ := K (c, 0)) (sm := csem 0) (k' := 3)
      (wpE_semWait_eq 𝒱₀ (c : Thread nD τ) none Set.univ) (Set.mem_univ _) () (O := Orem c 3) (W := Ws) (R := 0) (m := 0) (T := ∅)
      (by rw [Rd_expect]; rfl)) $$ [Hc HO Hat]
  · isplitr; · iapply (recs_inv X W K c 0); iexact HR
    isplitl [Hc]; · iexact Hc
    isplitl [HO]; · iexact HO
    isplitr
    · iapply (mayWait c (csem 0) 3 (fun j h1 h2 => (show ∀ (c : Dev nD) (j : Fin 33), 3 ≤ j.val → lvN (smIx (csem 0)) < lvN (smIx (paySm c j.val)) by decide) c ⟨j, h2⟩ h1))
      iapply (recs_lev X W K); iexact HR
    iexact Hat
  iintro ⟨HO, Hat, -, Hp⟩
  iapply Hk
  isplitl [HO]; · iexists _; iexact HO
  isplitl [Hat]; · iexact Hat
  unfold pd
  isplitl [Ht]; · iexact Ht
  iapply (BIBase.Entails.of_eq (show bigSep ((Rd X W).duties (cell c (csem 0)) 0 \ ∅) (fun d => (Rd X W).payload (cell c (csem 0)) 0 d)
      = (bigSep (Finset.Ico 3 33) fun j => dest (F := F) c j) by
    rw [Finset.sdiff_empty, ← bar_dests]
    exact bigSep_congr fun d _ => pay_bar X W c d)) $$ Hp

/-! ## The products from the other devices -/

/-- The cell on which device `o`'s products arrive. -/
abbrev kr (o : Dev nD) : Fin 19 := ⟨3 + o.val, by have : o.val < 4 := o.isLt; omega⟩
/-- Its number, -/
theorem kr_sem : ∀ o : Dev nD, smIx (csem (kr o)) = 8 + o.val := by decide
/-- its eight payments, -/
theorem kr_dut : ∀ c o : Dev nD, o ≠ c → dut c (8 + o.val) 0 = Finset.range 8 := by decide
/-- and what each counts. -/
theorem kr_amt (o : Dev nD) : amt (8 + o.val) = Ny := by
  have : o.val < 4 := o.isLt
  unfold amt; rw [if_neg (by omega), if_pos (by omega)]

/-- The cell of device `o`'s products after `n` of its eight waits. -/
def yst (c o : Dev nD) (n : ℕ) : sProp 𝕄 :=
  if n = 8 then iprop(atPos ER (cell c (csem (kr o))) 1 ∅ 0 ∗ bigSep (Finset.range 8) fun d => pay X W c (8 + o.val) d)
  else iprop(∃ S : Finset ℕ, ⌜S ⊆ Finset.range 8⌝ ∗ atPos ER (cell c (csem (kr o))) 0 S (n * Ny) ∗ (bigSep S fun d => pay X W c (8 + o.val) d)
    ∗ bigSep (Finset.Ico n 8) fun _ => cred (tallyAt (cell c (csem (kr o))) () Ny))

/-- One of the eight waits for device `o`'s products. -/
theorem yst_step (o : Dev nD) (ho : o ≠ c) (n : ℕ) (hn : n < 8) {sm : DmaSem sig} (em : SemLoc.dma sm = csem (kr o))
    {s' : Shape} {e' : EltTy} {sp₁ sp₂ : Space} {s₂ : Shape} {e₂ : EltTy}
    {srcw : Memref sig .tc sp₁ s' e'} {dstw : Memref sig .tc sp₂ s₂ e₂} {h1 : srcw.view.WordExact} {h2 : dstw.view.WordExact}
    (hN : dstw.view.dmaCredit = Ny)
    {kk : PUnit → Prog (TpuEff nD τ sig (Elt F) Λ₀ .tc) α} :
    iprop(recs X W K ∗ yst X W c o n ∗ ow c 33)
      ⊢ iprop((iprop(yst X W c o (n + 1) ∗ ow c 33) -∗ wpK c (kk ⟨⟩) Q)
          -∗ wpK c (.op (.waitDma2 sm srcw dstw h1 h2) kk) Q) := by
  have hexp : (Rd (F := F) X W).expect (cell c (csem (kr o))) 0 = 8 * Ny := by
    rw [Rd_expect, kr_sem, kr_dut c o ho, Finset.card_range, kr_amt]
  unfold yst ow
  rw [if_neg (by omega : n ≠ 8), ← Ico_insert hn, bigSep_ins _ (by rw [Finset.mem_Ico]; omega)]
  iintro ⟨#HR, ⟨%S, %hS, Hat, Hp, Hc, Hcs⟩, ⟨%Ws, HO⟩⟩ Hk
  by_cases h7 : n + 1 = 8
  · rw [if_pos h7]
    iapply (Rounds.wp_wait_rest_token 𝒱₀ ER (Rd X W) (c : Thread nD τ) none (κ := K (c, kr o)) (sm := csem (kr o)) (k' := Ny)
        (by rw [← hN, ← em]; exact wpE_waitDma2_eq 𝒱₀ (c : Thread nD τ) none Set.univ) (Set.mem_univ _) () (O := Orem c 33) (W := Ws) (R := 0) (m := n * Ny) (T := S)
        (by rw [hexp, ← h7, Nat.add_mul, Nat.one_mul])) $$ [Hc HO Hat]
    · isplitr; · iapply (recs_inv X W K c (kr o)); iexact HR
      isplitl [Hc]; · iexact Hc
      isplitl [HO]; · iexact HO
      isplitr; · rw [Orem_end, MayWait_zero]; iempintro
      iexact Hat
    iintro ⟨HO, Hat, -, Hq⟩
    iapply Hk
    isplitr [HO]
    · isplitl [Hat]; · iexact Hat
      iapply (BIBase.Entails.of_eq (show iprop((bigSep S fun d => pay X W c (8 + o.val) d) ∗ bigSep (Finset.range 8 \ S) fun d => pay X W c (8 + o.val) d)
        = bigSep (Finset.range 8) fun d => pay X W c (8 + o.val) d from (bigSep_sdiff_split hS).symm))
      isplitl [Hp]; · iexact Hp
      iapply (BIBase.Entails.of_eq (show bigSep ((Rd X W).duties (cell c (csem (kr o))) 0 \ S) (fun d => (Rd X W).payload (cell c (csem (kr o))) 0 d)
        = bigSep (Finset.range 8 \ S) fun d => pay X W c (8 + o.val) d by
          rw [Rd_duties, kr_sem, kr_dut c o ho]
          exact bigSep_congr fun d _ => by rw [Rd_payload, kr_sem])) $$ Hq
    iexists _; iexact HO
  · rw [if_neg h7]
    iapply (Rounds.wp_wait 𝒱₀ ER (Rd X W) (c : Thread nD τ) none (κ := K (c, kr o)) (sm := csem (kr o)) (k' := Ny)
        (by rw [← hN, ← em]; exact wpE_waitDma2_eq 𝒱₀ (c : Thread nD τ) none Set.univ) (Set.mem_univ _) (O := Orem c 33) (W := Ws) {(csem (kr o), ())} (R := 0) (m := n * Ny) (T := S)
        (cr := Finsupp.single () Ny) (by rw [Util.total_single]) (image_single_subset (csem (kr o)) () Ny)) $$ [Hc HO Hat]
    · isplitr; · iapply (recs_inv X W K c (kr o)); iexact HR
      isplitl [Hc]; · iexact Hc
      isplitl [HO]; · iexact HO
      isplitr; · rw [Orem_end, MayOwe_zero]; iempintro
      iexact Hat
    iintro %S' ⟨%hS', HO, Hat, Hq⟩
    iapply Hk
    isplitr [HO]
    · iexists S'
      isplitr
      · ipureintro
        have h := hS'.2.1
        rw [Rd_duties, kr_sem, kr_dut c o ho] at h
        exact h
      isplitl [Hat]; · rw [Nat.add_mul, Nat.one_mul]; iexact Hat
      isplitr [Hcs]
      · iapply (BIBase.Entails.of_eq (show iprop((bigSep S fun d => pay X W c (8 + o.val) d) ∗ bigSep (S' \ S) fun d => pay X W c (8 + o.val) d)
          = bigSep S' fun d => pay X W c (8 + o.val) d from (bigSep_sdiff_split hS'.1).symm))
        isplitl [Hp]; · iexact Hp
        iapply (BIBase.Entails.of_eq (show bigSep (S' \ S) (fun d => (Rd X W).payload (cell c (csem (kr o))) 0 d)
          = bigSep (S' \ S) fun d => pay X W c (8 + o.val) d from
            bigSep_congr fun d _ => by rw [Rd_payload, kr_sem])) $$ Hq
      iexact Hcs
    iexists _; iexact HO

end Ops

end Cert.Proof.K
-- ==== Proof.Waits.lean ====
/-
  The twenty-four waits for the other devices' products.
-/
module

public import proofs.«01_k».proof.Proof.Hops

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x8192.Idx → Elt F .f32) (W : Dev nD → S8192x1024.Idx → Elt F .f32)
variable (K : Dev nD × Fin 19 → ℕ)

section Parts
variable {c : Dev nD}
variable (h0 : xA.IsWhole) (h1 : wA.IsWhole) (h2 : yA.IsWhole) (h3 : gA.IsWhole) (h4 : wB.IsWhole) (h5 : xB.IsWhole) (h6 : yB.IsWhole)

/-- The semaphore of the `r`-th other device's products. -/
theorem sem22_at : ∀ (c : Dev nD) (r : Fin 3),
    SemLoc.dma ((cc0_scratch7.slice (Rect.unit (s := S4) (k0_off22 c (BitVec.ofNat 32 (1 + r.val))) S1.size (k0_off22_inb c r))).squeeze S_ squeezes_S1_S_).sem
      = csem (kr (c + ⟨1 + r.val, by have := r.isLt; show 1 + r.val < 4; omega⟩)) := by decide
/-- Every block of 256 rows of `y` counts the same units. -/
theorem yP_credit {o : Fin 2 → ℕ} {i : ∀ a, o a + S256x1024.size a ≤ S8192x1024.size a} :
    (yA.slice (Rect.unit (s := S8192x1024) o S256x1024.size i) (fun _ => rfl)).view.dmaCredit = Ny := rfl
/-- Another device is another. -/
theorem add1_ne : ∀ c : Dev nD, c + 1 ≠ c := by decide
/-- Another device is another. -/
theorem add2_ne : ∀ c : Dev nD, c + 2 ≠ c := by decide
/-- Another device is another. -/
theorem add3_ne : ∀ c : Dev nD, c + 3 ≠ c := by decide

/-- Waits 0 to 2 for the blocks of the device one round the ring. -/
theorem part19_spec (v246 : BitVec 32) {Q : PUnit → sProp (MT nD τ sig Unit (Elt F) ℕ UU ℕ)} :
    iprop(recs X W K ∗ ow c 33 ∗ yst X W c (c + 1) 0)
      ⊢ iprop((iprop(ow c 33 ∗ yst X W c (c + 1) 3) -∗ Q ⟨⟩)
          -∗ wpK c (k0_part19 (F := F) xA h0 wA h1 yA h2 gA h3 wB h4 xB h5 yB h6 cc0_scratch3 cc0_scratch4 cc0_scratch5 cc0_scratch6 cc0_scratch7 cc0_scratch8 cc0_scratch9 cc0_scratch10 cc0_scratch11 c v246) Q) := by
  rw [k0_part19_eq_skeleton]
  unfold k0_part19_skel
  iintro ⟨#HR, HO, H1⟩ Hk
  iapply wpK_bind
  iapply (yst_step (kk := .ret) X W K (c + 1) (add1_ne c) 0 (by decide) (sem22_at c 0) yP_credit) $$ [H1 HO]
  · isplitr; · iexact HR
    isplitl [H1]; · iexact H1
    iexact HO
  iintro ⟨H1, HO⟩
  iapply wpK_ret
  iapply wpK_bind
  iapply (yst_step (kk := .ret) X W K (c + 1) (add1_ne c) 1 (by decide) (sem22_at c 0) yP_credit) $$ [H1 HO]
  · isplitr; · iexact HR
    isplitl [H1]; · iexact H1
    iexact HO
  iintro ⟨H1, HO⟩
  iapply wpK_ret
  iapply wpK_bind
  iapply (yst_step (kk := .ret) X W K (c + 1) (add1_ne c) 2 (by decide) (sem22_at c 0) yP_credit) $$ [H1 HO]
  · isplitr; · iexact HR
    isplitl [H1]; · iexact H1
    iexact HO
  iintro ⟨H1, HO⟩
  iapply wpK_ret
  iapply wpK_ret
  iapply Hk
  isplitl [HO]; · iexact HO
  iexact H1

/-- Waits 3 to 5 for the blocks of the device one round. -/
theorem part20_spec (v246 : BitVec 32) {Q : PUnit → sProp (MT nD τ sig Unit (Elt F) ℕ UU ℕ)} :
    iprop(recs X W K ∗ ow c 33 ∗ yst X W c (c + 1) 3)
      ⊢ iprop((iprop(ow c 33 ∗ yst X W c (c + 1) 6) -∗ Q ⟨⟩)
          -∗ wpK c (k0_part20 (F := F) xA h0 wA h1 yA h2 gA h3 wB h4 xB h5 yB h6 cc0_scratch3 cc0_scratch4 cc0_scratch5 cc0_scratch6 cc0_scratch7 cc0_scratch8 cc0_scratch9 cc0_scratch10 cc0_scratch11 c v246) Q) := by
  rw [k0_part20_eq_skeleton]
  unfold k0_part20_skel
  iintro ⟨#HR, HO, H1⟩ Hk
  iapply wpK_bind
  iapply (yst_step (kk := .ret) X W K (c + 1) (add1_ne c) 3 (by decide) (sem22_at c 0) yP_credit) $$ [H1 HO]
  · isplitr; · iexact HR
    isplitl [H1]; · iexact H1
    iexact HO
  iintro ⟨H1, HO⟩
  iapply wpK_ret
  iapply wpK_bind
  iapply (yst_step (kk := .ret) X W K (c + 1) (add1_ne c) 4 (by decide) (sem22_at c 0) yP_credit) $$ [H1 HO]
  · isplitr; · iexact HR
    isplitl [H1]; · iexact H1
    iexact HO
  iintro ⟨H1, HO⟩
  iapply wpK_ret
  iapply wpK_bind
  iapply (yst_step (kk := .ret) X W K (c + 1) (add1_ne c) 5 (by decide) (sem22_at c 0) yP_credit) $$ [H1 HO]
  · isplitr; · iexact HR
    isplitl [H1]; · iexact H1
    iexact HO
  iintro ⟨H1, HO⟩
  iapply wpK_ret
  iapply wpK_ret
  iapply Hk
  isplitl [HO]; · iexact HO
  iexact H1

/-- Waits 6 and 7 for the device one round, and wait 0 for the device two round. -/
theorem part21_spec (v2 : BitVec 32) (v246 : BitVec 32) {Q : BitVec 32 → sProp (MT nD τ sig Unit (Elt F) ℕ UU ℕ)} :
    iprop(recs X W K ∗ ow c 33 ∗ yst X W c (c + 1) 6 ∗ yst X W c (c + 2) 0)
      ⊢ iprop((iprop(ow c 33 ∗ yst X W c (c + 1) 8 ∗ yst X W c (c + 2) 1) -∗ ∀ v, Q v)
          -∗ wpK c (k0_part21 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v246) Q) := by
  rw [k0_part21_eq_skeleton]
  unfold k0_part21_skel
  iintro ⟨#HR, HO, H1, H2⟩ Hk
  iapply wpK_bind
  iapply (yst_step (kk := .ret) X W K (c + 1) (add1_ne c) 6 (by decide) (sem22_at c 0) yP_credit) $$ [H1 HO]
  · isplitr; · iexact HR
    isplitl [H1]; · iexact H1
    iexact HO
  iintro ⟨H1, HO⟩
  iapply wpK_ret
  iapply wpK_bind
  iapply (yst_step (kk := .ret) X W K (c + 1) (add1_ne c) 7 (by decide) (sem22_at c 0) yP_credit) $$ [H1 HO]
  · isplitr; · iexact HR
    isplitl [H1]; · iexact H1
    iexact HO
  iintro ⟨H1, HO⟩
  iapply wpK_ret
  iapply wpK_bind
  iapply (yst_step (kk := .ret) X W K (c + 2) (add2_ne c) 0 (by decide) (sem22_at c 1) yP_credit) $$ [H2 HO]
  · isplitr; · iexact HR
    isplitl [H2]; · iexact H2
    iexact HO
  iintro ⟨H2, HO⟩
  iapply wpK_ret
  iapply wpK_ret
  ispecialize Hk $$ [HO H1 H2]
  · isplitl [HO]; · iexact HO
    isplitl [H1]; · iexact H1
    iexact H2
  iapply Hk

/-- Waits 1 to 4 for the blocks of the device two round. -/
theorem part22_spec (v320 : BitVec 32) {Q : BitVec 32 → sProp (MT nD τ sig Unit (Elt F) ℕ UU ℕ)} :
    iprop(recs X W K ∗ ow c 33 ∗ yst X W c (c + 2) 1)
      ⊢ iprop((iprop(ow c 33 ∗ yst X W c (c + 2) 5) -∗ ∀ v, Q v)
          -∗ wpK c (k0_part22 (F := F) xA h0 wA h1 yA h2 gA h3 wB h4 xB h5 yB h6 cc0_scratch3 cc0_scratch4 cc0_scratch5 cc0_scratch6 cc0_scratch7 cc0_scratch8 cc0_scratch9 cc0_scratch10 cc0_scratch11 c v320) Q) := by
  rw [k0_part22_eq_skeleton]
  unfold k0_part22_skel
  iintro ⟨#HR, HO, H2⟩ Hk
  iapply wpK_bind
  iapply (yst_step (kk := .ret) X W K (c + 2) (add2_ne c) 1 (by decide) (sem22_at c 1) yP_credit) $$ [H2 HO]
  · isplitr; · iexact HR
    isplitl [H2]; · iexact H2
    iexact HO
  iintro ⟨H2, HO⟩
  iapply wpK_ret
  iapply wpK_bind
  iapply (yst_step (kk := .ret) X W K (c + 2) (add2_ne c) 2 (by decide) (sem22_at c 1) yP_credit) $$ [H2 HO]
  · isplitr; · iexact HR
    isplitl [H2]; · iexact H2
    iexact HO
  iintro ⟨H2, HO⟩
  iapply wpK_ret
  iapply wpK_bind
  iapply (yst_step (kk := .ret) X W K (c + 2) (add2_ne c) 3 (by decide) (sem22_at c 1) yP_credit) $$ [H2 HO]
  · isplitr; · iexact HR
    isplitl [H2]; · iexact H2
    iexact HO
  iintro ⟨H2, HO⟩
  iapply wpK_ret
  iapply wpK_bind
  iapply (yst_step (kk := .ret) X W K (c + 2) (add2_ne c) 4 (by decide) (sem22_at c 1) yP_credit) $$ [H2 HO]
  · isplitr; · iexact HR
    isplitl [H2]; · iexact H2
    iexact HO
  iintro ⟨H2, HO⟩
  iapply wpK_ret
  iapply wpK_ret
  ispecialize Hk $$ [HO H2]
  · isplitl [HO]; · iexact HO
    iexact H2
  iapply Hk

/-- Waits 5 to 7 for the blocks of the device two round. -/
theorem part23_spec (v2 : BitVec 32) (v320 : BitVec 32) (v : BitVec 32) {Q : BitVec 32 → sProp (MT nD τ sig Unit (Elt F) ℕ UU ℕ)} :
    iprop(recs X W K ∗ ow c 33 ∗ yst X W c (c + 2) 5)
      ⊢ iprop((iprop(ow c 33 ∗ yst X W c (c + 2) 8) -∗ ∀ v, Q v)
          -∗ wpK c (k0_part23 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v320 v) Q) := by
  rw [k0_part23_eq_skeleton]
  unfold k0_part23_skel
  iintro ⟨#HR, HO, H2⟩ Hk
  iapply wpK_bind
  iapply (yst_step (kk := .ret) X W K (c + 2) (add2_ne c) 5 (by decide) (sem22_at c 1) yP_credit) $$ [H2 HO]
  · isplitr; · iexact HR
    isplitl [H2]; · iexact H2
    iexact HO
  iintro ⟨H2, HO⟩
  iapply wpK_ret
  iapply wpK_bind
  iapply (yst_step (kk := .ret) X W K (c + 2) (add2_ne c) 6 (by decide) (sem22_at c 1) yP_credit) $$ [H2 HO]
  · isplitr; · iexact HR
    isplitl [H2]; · iexact H2
    iexact HO
  iintro ⟨H2, HO⟩
  iapply wpK_ret
  iapply wpK_bind
  iapply (yst_step (kk := .ret) X W K (c + 2) (add2_ne c) 7 (by decide) (sem22_at c 1) yP_credit) $$ [H2 HO]
  · isplitr; · iexact HR
    isplitl [H2]; · iexact H2
    iexact HO
  iintro ⟨H2, HO⟩
  iapply wpK_ret
  iapply wpK_ret
  ispecialize Hk $$ [HO H2]
  · isplitl [HO]; · iexact HO
    iexact H2
  iapply Hk

/-- Waits 0 to 2 for the blocks of the device three round. -/
theorem part24_spec (v394 : BitVec 32) {Q : (Σ' (v422 : BitVec 32), BitVec 32) → sProp (MT nD τ sig Unit (Elt F) ℕ UU ℕ)} :
    iprop(recs X W K ∗ ow c 33 ∗ yst X W c (c + 3) 0)
      ⊢ iprop((iprop(ow c 33 ∗ yst X W c (c + 3) 3) -∗ ∀ v v', Q ⟨v, v'⟩)
          -∗ wpK c (k0_part24 (F := F) xA h0 wA h1 yA h2 gA h3 wB h4 xB h5 yB h6 cc0_scratch3 cc0_scratch4 cc0_scratch5 cc0_scratch6 cc0_scratch7 cc0_scratch8 cc0_scratch9 cc0_scratch10 cc0_scratch11 c v394) Q) := by
  rw [k0_part24_eq_skeleton]
  unfold k0_part24_skel
  iintro ⟨#HR, HO, H3⟩ Hk
  iapply wpK_bind
  iapply (yst_step (kk := .ret) X W K (c + 3) (add3_ne c) 0 (by decide) (sem22_at c 2) yP_credit) $$ [H3 HO]
  · isplitr; · iexact HR
    isplitl [H3]; · iexact H3
    iexact HO
  iintro ⟨H3, HO⟩
  iapply wpK_ret
  iapply wpK_bind
  iapply (yst_step (kk := .ret) X W K (c + 3) (add3_ne c) 1 (by decide) (sem22_at c 2) yP_credit) $$ [H3 HO]
  · isplitr; · iexact HR
    isplitl [H3]; · iexact H3
    iexact HO
  iintro ⟨H3, HO⟩
  iapply wpK_ret
  iapply wpK_bind
  iapply (yst_step (kk := .ret) X W K (c + 3) (add3_ne c) 2 (by decide) (sem22_at c 2) yP_credit) $$ [H3 HO]
  · isplitr; · iexact HR
    isplitl [H3]; · iexact H3
    iexact HO
  iintro ⟨H3, HO⟩
  iapply wpK_ret
  iapply wpK_ret
  ispecialize Hk $$ [HO H3]
  · isplitl [HO]; · iexact HO
    iexact H3
  iapply Hk

/-- Waits 3 to 5 for the blocks of the device three round. -/
theorem part25_spec (v394 : BitVec 32) (v422 : BitVec 32) (v : BitVec 32) {Q : PUnit → sProp (MT nD τ sig Unit (Elt F) ℕ UU ℕ)} :
    iprop(recs X W K ∗ ow c 33 ∗ yst X W c (c + 3) 3)
      ⊢ iprop((iprop(ow c 33 ∗ yst X W c (c + 3) 6) -∗ Q ⟨⟩)
          -∗ wpK c (k0_part25 (F := F) xA h0 wA h1 yA h2 gA h3 wB h4 xB h5 yB h6 cc0_scratch3 cc0_scratch4 cc0_scratch5 cc0_scratch6 cc0_scratch7 cc0_scratch8 cc0_scratch9 cc0_scratch10 cc0_scratch11 c v394 v422 v) Q) := by
  rw [k0_part25_eq_skeleton]
  unfold k0_part25_skel
  iintro ⟨#HR, HO, H3⟩ Hk
  iapply wpK_bind
  iapply (yst_step (kk := .ret) X W K (c + 3) (add3_ne c) 3 (by decide) (sem22_at c 2) yP_credit) $$ [H3 HO]
  · isplitr; · iexact HR
    isplitl [H3]; · iexact H3
    iexact HO
  iintro ⟨H3, HO⟩
  iapply wpK_ret
  iapply wpK_bind
  iapply (yst_step (kk := .ret) X W K (c + 3) (add3_ne c) 4 (by decide) (sem22_at c 2) yP_credit) $$ [H3 HO]
  · isplitr; · iexact HR
    isplitl [H3]; · iexact H3
    iexact HO
  iintro ⟨H3, HO⟩
  iapply wpK_ret
  iapply wpK_bind
  iapply (yst_step (kk := .ret) X W K (c + 3) (add3_ne c) 5 (by decide) (sem22_at c 2) yP_credit) $$ [H3 HO]
  · isplitr; · iexact HR
    isplitl [H3]; · iexact H3
    iexact HO
  iintro ⟨H3, HO⟩
  iapply wpK_ret
  iapply wpK_ret
  iapply Hk
  isplitl [HO]; · iexact HO
  iexact H3

end Parts

end Cert.Proof.K
-- ==== Proof.Pieces.lean ====
/-
  The buffers cut into the pieces the copies move, and put together again.
-/
module

public import proofs.«01_k».proof.Proof.Access

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Two things written out. -/
theorem bigSep_two (f : Fin 2 → sProp 𝕄) : bigSep Finset.univ f = iprop(f 0 ∗ f 1) := BI.bigSep_fin_two f

/-! ## A piece with an axis of one element dropped -/

section Squeeze
variable {sp : Space} {s s' : Shape}

/-- A piece owned under its squeezed shape, from the piece. -/
theorem owns_squeeze (c : Dev nD) (m : Memref sig .tc sp s .f32) (h : s.Squeezes s') (q : PosShare TreeShare) (Y : s.Idx → Elt F .f32) :
    (owns (c : Thread nD τ) m q Y : sProp 𝕄) ⊢ owns (c : Thread nD τ) (m.squeeze s' h) q (fun x => Y (Shape.reshapeEquiv h.numel_eq x)) := by
  unfold owns
  iintro ⟨%f, %hf, H⟩
  iexists f
  isplitr
  · ipureintro; subst hf; rfl
  iapply (BIBase.Entails.of_eq (show (m.view.loc (c : Thread nD τ) ↦[m.view.set]{q} f : sProp 𝕄)
    = ((m.squeeze s' h).view.loc (c : Thread nD τ) ↦[(m.squeeze s' h).view.set]{q} f) from
      congrArg (fun S => (m.view.loc (c : Thread nD τ) ↦[S]{q} f : sProp 𝕄)) (View.set_reshape _ _).symm)) $$ H

/-- The piece, from the piece owned under its squeezed shape. -/
theorem owns_unsqueeze (c : Dev nD) (m : Memref sig .tc sp s .f32) (h : s.Squeezes s') (q : PosShare TreeShare) (X : s'.Idx → Elt F .f32) :
    (owns (c : Thread nD τ) (m.squeeze s' h) q X : sProp 𝕄) ⊢ owns (c : Thread nD τ) m q (fun j => X ((Shape.reshapeEquiv h.numel_eq).symm j)) := by
  unfold owns
  iintro ⟨%f, %hf, H⟩
  iexists f
  isplitr
  · ipureintro; subst hf
    funext j
    show m.view.read (Elt F) f j = m.view.read (Elt F) f (Shape.reshapeEquiv h.numel_eq ((Shape.reshapeEquiv h.numel_eq).symm j))
    rw [Equiv.apply_symm_apply]
  iapply (BIBase.Entails.of_eq (show ((m.squeeze s' h).view.loc (c : Thread nD τ) ↦[(m.squeeze s' h).view.set]{q} f : sProp 𝕄)
    = (m.view.loc (c : Thread nD τ) ↦[m.view.set]{q} f) from
      congrArg (fun S => (m.view.loc (c : Thread nD τ) ↦[S]{q} f : sProp 𝕄)) (View.set_reshape _ _))) $$ H

end Squeeze

/-! ## The cuts -/

/-- The pieces are disjoint. -/
theorem wR_disj : ∀ b b' : Fin 2, b ≠ b' → Disjoint (wR b).set (wR b').set := by
  intro b b' h
  refine Rect.disjoint_of_axis _ _ 0 fun j₁ h₁ j₂ h₂ e => h (Fin.ext ?_)
  change j₁ < 4096 at h₁; change j₂ < 4096 at h₂; change 4096 * b.val + 1 * j₁ = 4096 * b'.val + 1 * j₂ at e
  omega
/-- The pieces are disjoint. -/
theorem xsR_disj : ∀ b b' : Fin 2, b ≠ b' → Disjoint (xsR b).set (xsR b').set := by
  intro b b' h
  refine Rect.disjoint_of_axis _ _ 0 fun j₁ h₁ j₂ h₂ e => h (Fin.ext ?_)
  change j₁ < 1 at h₁; change j₂ < 1 at h₂; change b.val + 1 * j₁ = b'.val + 1 * j₂ at e
  omega
/-- The pieces are disjoint. -/
theorem ysR_disj : ∀ b b' : Fin 2, b ≠ b' → Disjoint (ysR b).set (ysR b').set := by
  intro b b' h
  refine Rect.disjoint_of_axis _ _ 0 fun j₁ h₁ j₂ h₂ e => h (Fin.ext ?_)
  change j₁ < 1 at h₁; change j₂ < 1 at h₂; change b.val + 1 * j₁ = b'.val + 1 * j₂ at e
  omega
/-- The pieces are disjoint. -/
theorem gR_disj : ∀ t t' : Dev nD × Fin 2, t ≠ t' → Disjoint (gR t.1 t.2).set (gR t'.1 t'.2).set := by
  intro t t' h
  by_cases h1 : t.1 = t'.1
  · refine Rect.disjoint_of_axis _ _ 1 fun j₁ h₁ j₂ h₂ e => h (Prod.ext h1 (Fin.ext ?_))
    change j₁ < 4096 at h₁; change j₂ < 4096 at h₂; change 4096 * t.2.val + 1 * j₁ = 4096 * t'.2.val + 1 * j₂ at e
    omega
  · refine Rect.disjoint_of_axis _ _ 0 fun j₁ h₁ j₂ h₂ e => h1 (Fin.ext ?_)
    change j₁ < 1 at h₁; change j₂ < 1 at h₂; change t.1.val + 1 * j₁ = t'.1.val + 1 * j₂ at e
    omega
/-- The pieces are disjoint. -/
theorem yR_disj : ∀ t t' : Dev nD × Fin 8, t ≠ t' → Disjoint (yR t.1 t.2).set (yR t'.1 t'.2).set := by
  intro t t' h
  refine Rect.disjoint_of_axis _ _ 0 fun j₁ h₁ j₂ h₂ e => h ?_
  change j₁ < 256 at h₁; change j₂ < 256 at h₂
  change 2048 * t.1.val + 256 * t.2.val + 1 * j₁ = 2048 * t'.1.val + 256 * t'.2.val + 1 * j₂ at e
  have := t.2.isLt; have := t'.2.isLt
  exact Prod.ext (Fin.ext (by omega)) (Fin.ext (by omega))

/-- The pieces cover the buffer. -/
theorem wR_cov : (Finset.univ.biUnion fun b => (wR b).set) = Finset.univ := by
  refine Finset.eq_univ_iff_forall.mpr fun i => Finset.mem_biUnion.mpr ⟨⟨(i 0).val / 4096, ?_⟩, Finset.mem_univ _, ?_⟩
  · have : (i 0).val < 8192 := (i 0).isLt
    omega
  rw [Rect.mem_set_unit]
  intro a
  have h0 : (i 0).val < 8192 := (i 0).isLt
  have h1 : (i 1).val < 1024 := (i 1).isLt
  fin_cases a
  · show 4096 * ((i 0).val / 4096) ≤ (i 0).val ∧ (i 0).val < 4096 * ((i 0).val / 4096) + 4096; omega
  · show 0 ≤ (i 1).val ∧ (i 1).val < 0 + 1024; omega
/-- The pieces cover the buffer. -/
theorem xsR_cov : (Finset.univ.biUnion fun b => (xsR b).set) = Finset.univ := by
  refine Finset.eq_univ_iff_forall.mpr fun i => Finset.mem_biUnion.mpr ⟨⟨(i 0).val, (i 0).isLt⟩, Finset.mem_univ _, ?_⟩
  rw [Rect.mem_set_unit]
  intro a
  have h1 : (i 1).val < 256 := (i 1).isLt
  have h2 : (i 2).val < 8192 := (i 2).isLt
  fin_cases a
  · show (i 0).val ≤ (i 0).val ∧ (i 0).val < (i 0).val + 1; omega
  · show 0 ≤ (i 1).val ∧ (i 1).val < 0 + 256; omega
  · show 0 ≤ (i 2).val ∧ (i 2).val < 0 + 8192; omega
/-- The pieces cover the buffer. -/
theorem ysR_cov : (Finset.univ.biUnion fun b => (ysR b).set) = Finset.univ := by
  refine Finset.eq_univ_iff_forall.mpr fun i => Finset.mem_biUnion.mpr ⟨⟨(i 0).val, (i 0).isLt⟩, Finset.mem_univ _, ?_⟩
  rw [Rect.mem_set_unit]
  intro a
  have h1 : (i 1).val < 256 := (i 1).isLt
  have h2 : (i 2).val < 1024 := (i 2).isLt
  fin_cases a
  · show (i 0).val ≤ (i 0).val ∧ (i 0).val < (i 0).val + 1; omega
  · show 0 ≤ (i 1).val ∧ (i 1).val < 0 + 256; omega
  · show 0 ≤ (i 2).val ∧ (i 2).val < 0 + 1024; omega
/-- The pieces cover the buffer. -/
theorem gR_cov : (Finset.univ.biUnion fun t : Dev nD × Fin 2 => (gR t.1 t.2).set) = Finset.univ := by
  refine Finset.eq_univ_iff_forall.mpr fun i => Finset.mem_biUnion.mpr ⟨(⟨(i 0).val, (i 0).isLt⟩, ⟨(i 1).val / 4096, ?_⟩), Finset.mem_univ _, ?_⟩
  · have : (i 1).val < 8192 := (i 1).isLt
    omega
  rw [Rect.mem_set_unit]
  intro a
  have h1 : (i 1).val < 8192 := (i 1).isLt
  have h2 : (i 2).val < 1024 := (i 2).isLt
  fin_cases a
  · show (i 0).val ≤ (i 0).val ∧ (i 0).val < (i 0).val + 1; omega
  · show 4096 * ((i 1).val / 4096) ≤ (i 1).val ∧ (i 1).val < 4096 * ((i 1).val / 4096) + 4096; omega
  · show 0 ≤ (i 2).val ∧ (i 2).val < 0 + 1024; omega
/-- The pieces cover the buffer. -/
theorem yR_cov : (Finset.univ.biUnion fun t : Dev nD × Fin 8 => (yR t.1 t.2).set) = Finset.univ := by
  refine Finset.eq_univ_iff_forall.mpr fun i => Finset.mem_biUnion.mpr
    ⟨(⟨(i 0).val / 2048, ?_⟩, ⟨(i 0).val % 2048 / 256, ?_⟩), Finset.mem_univ _, ?_⟩
  · have : (i 0).val < 8192 := (i 0).isLt
    show _ < 4; omega
  · omega
  rw [Rect.mem_set_unit]
  intro a
  have h0 : (i 0).val < 8192 := (i 0).isLt
  have h1 : (i 1).val < 1024 := (i 1).isLt
  fin_cases a
  · show 2048 * ((i 0).val / 2048) + 256 * ((i 0).val % 2048 / 256) ≤ (i 0).val
      ∧ (i 0).val < 2048 * ((i 0).val / 2048) + 256 * ((i 0).val % 2048 / 256) + 256
    omega
  · show 0 ≤ (i 1).val ∧ (i 1).val < 0 + 1024; omega

/-! ## The two halves of a device's part of the gathered `w` -/

/-- Half of a device's part is the half of the whole part: element by element, -/
theorem gM_emb (o : Dev nD) (b : Fin 2) (x : S4096x1024.Idx) :
    ((gMW o).slice (wR b) (fun _ => rfl)).view.emb x = (gM o b).view.emb x := by
  show (gW o).emb (Shape.reshapeEquiv _ ((wR b).emb x)) = (gR o b).emb (Shape.reshapeEquiv _ x)
  have e1 : ∀ h, (Shape.reshapeEquiv h ((wR b).emb x) : S1x8192x1024.Idx) = Fin.cons ⟨0, Nat.one_pos⟩ ((wR b).emb x) :=
    fun h => Shape.reshapeEquiv_cons_one h ((wR b).emb x)
  have e2 : ∀ h, (Shape.reshapeEquiv h x : S1x4096x1024.Idx) = Fin.cons ⟨0, Nat.one_pos⟩ x :=
    fun h => Shape.reshapeEquiv_cons_one h x
  rw [e1, e2]
  funext a
  refine Fin.ext ?_
  fin_cases a
  · rfl
  · show 0 + 1 * (4096 * b.val + 1 * (x 0).val) = 4096 * b.val + 1 * (x 0).val; omega
  · show 0 + 1 * (0 + 1 * (x 1).val) = 0 + 1 * (x 1).val; omega

/-- as a set, -/
theorem gM_set (o : Dev nD) (b : Fin 2) : ((gMW o).slice (wR b) (fun _ => rfl)).view.set = (gM o b).view.set := by
  unfold View.set
  exact congrArg (fun E => Finset.univ.map E) (Function.Embedding.ext (gM_emb o b))

/-- and as something held. -/
theorem gM_owns (c o : Dev nD) (b : Fin 2) (q : PosShare TreeShare) (Y : S4096x1024.Idx → Elt F .f32) :
    (owns (c : Thread nD τ) (gM o b) q Y : sProp 𝕄) ⊢ owns (c : Thread nD τ) ((gMW o).slice (wR b) (fun _ => rfl)) q Y := by
  unfold owns
  iintro ⟨%f, %hf, H⟩
  iexists f
  isplitr
  · ipureintro; subst hf
    funext x
    exact congrArg (fun i => f i) (gM_emb o b x)
  iapply (BIBase.Entails.of_eq (show ((gM o b).view.loc (c : Thread nD τ) ↦[(gM o b).view.set]{q} f : sProp 𝕄)
    = (((gMW o).slice (wR b) (fun _ => rfl)).view.loc (c : Thread nD τ) ↦[((gMW o).slice (wR b) (fun _ => rfl)).view.set]{q} f) from
      congrArg (fun S => ((gM o b).view.loc (c : Thread nD τ) ↦[S]{q} f : sProp 𝕄)) (gM_set o b).symm)) $$ H

/-- Both halves of device `o`'s `w` are its `w`. -/
theorem g_join [∀ e, Nonempty (Elt F e)] (c o : Dev nD) (q : PosShare TreeShare) (Wo : S8192x1024.Idx → Elt F .f32) :
    iprop(owns (c : Thread nD τ) (gM o 0) q (wHalf Wo 0) ∗ owns (c : Thread nD τ) (gM o 1) q (wHalf Wo 1)) ⊢ (owns (c : Thread nD τ) (gMW o) q Wo : sProp 𝕄) := by
  iintro ⟨H0, H1⟩
  iapply (owns_of_rects (c : Thread nD τ) (gMW o) q wR (fun _ _ => rfl) wR_disj wR_cov Wo)
  rw [bigSep_two]
  ihave H0 := (gM_owns c o 0 q _) $$ H0
  ihave H1 := (gM_owns c o 1 q _) $$ H1
  isplitl [H0]; · iexact H0
  iexact H1

/-- The two halves of `w`. -/
theorem w_cut (c : Dev nD) (q : PosShare TreeShare) (Wc : S8192x1024.Idx → Elt F .f32) :
    (owns (c : Thread nD τ) wA q Wc : sProp 𝕄) ⊢ iprop(owns (c : Thread nD τ) (wM 0) q (wHalf Wc 0) ∗ owns (c : Thread nD τ) (wM 1) q (wHalf Wc 1)) := by
  iintro H
  ihave H := (owns_rects (c : Thread nD τ) wA q wR (fun _ _ => rfl) wR_disj wR_cov Wc) $$ H
  ihave H := (BIBase.Entails.of_eq (bigSep_two _)) $$ H
  iexact H

end Cert.Proof.K
-- ==== Proof.Parts.lean ====
/-
  What a device does before it waits for the products, part by part.
-/
module

public import proofs.«01_k».proof.Proof.Waits
public import proofs.«01_k».proof.Proof.Pieces

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x8192.Idx → Elt F .f32) (W : Dev nD → S8192x1024.Idx → Elt F .f32)
variable (K : Dev nD × Fin 19 → ℕ)

section Off
/-- The slice of the gathered `w` that is half of a device's part, -/
theorem g_at {o : Fin 3 → ℕ} (s : Dev nD) (b : Fin 2) (h : o = ![s.val, 4096 * b.val, 0]) (i : ∀ a, o a + S1x4096x1024.size a ≤ S4x8192x1024.size a) :
    ((gA.slice (Rect.unit (s := S4x8192x1024) o S1x4096x1024.size i) (fun _ => rfl)).squeeze S4096x1024 squeezes_S1x4096x1024_S4096x1024
      : Memref sig .tc .hbm S4096x1024 .f32) = gM s b := by
  subst h; rfl
/-- and the one that is the whole of it. -/
theorem gw_at {o : Fin 3 → ℕ} (s : Dev nD) (h : o = ![s.val, 0, 0]) (i : ∀ a, o a + S1x8192x1024.size a ≤ S4x8192x1024.size a) :
    ((gA.slice (Rect.unit (s := S4x8192x1024) o S1x8192x1024.size i) (fun _ => rfl)).squeeze S8192x1024 squeezes_S1x8192x1024_S8192x1024
      : Memref sig .tc .hbm S8192x1024 .f32) = gMW s := by
  subst h; rfl
/-- Any half of a part of the gathered `w` counts one half, -/
theorem gP_credit {o : Fin 3 → ℕ} {i : ∀ a, o a + S1x4096x1024.size a ≤ S4x8192x1024.size a} :
    ((gA.slice (Rect.unit (s := S4x8192x1024) o S1x4096x1024.size i) (fun _ => rfl)).squeeze S4096x1024 squeezes_S1x4096x1024_S4096x1024
      : Memref sig .tc .hbm S4096x1024 .f32).view.dmaCredit = Nh := rfl
/-- and so does any half of the device's own `w`. -/
theorem wP_credit {o : Fin 2 → ℕ} {i : ∀ a, o a + S4096x1024.size a ≤ S8192x1024.size a} :
    (wA.slice (Rect.unit (s := S8192x1024) o S4096x1024.size i) (fun _ => rfl)).view.dmaCredit = Nh := rfl

/-- The device's own part of the gathered `w`, at this half. -/
theorem off1_at : ∀ c : Dev nD, k0_off1 c = ![c.val, 4096 * (0 : Fin 2).val, 0] := by decide
/-- The device's own part of the gathered `w`, at this half. -/
theorem off2_at : ∀ c : Dev nD, k0_off2 c = ![c.val, 4096 * (1 : Fin 2).val, 0] := by decide
/-- The first half of the left neighbour's part. -/
theorem off6_at : ∀ c : Dev nD, k0_off6 c = ![(c + 3).val, 4096 * (0 : Fin 2).val, 0] := by decide
/-- The second half of the right neighbour's part. -/
theorem off7_at : ∀ c : Dev nD, k0_off7 c = ![(c + 1).val, 4096 * (1 : Fin 2).val, 0] := by decide
/-- The part of the device three round the ring, -/
theorem off8_at : ∀ c : Dev nD, k0_off8 c = ![(c + 3).val, 0, 0] := by decide
/-- of the device one round, -/
theorem off13_1_at : ∀ c : Dev nD, k0_off13 c 1#32 = ![(c + 1).val, 0, 0] := by decide
/-- and of the device two round. -/
theorem off13_2_at : ∀ c : Dev nD, k0_off13 c 2#32 = ![(c + 2).val, 0, 0] := by decide
/-- The device addressed here. -/
theorem dev1_at : ∀ c : Dev nD, (⟨k0_dev1 c, k0_dev1_lt c⟩ : Dev nD) = c + rot 0 := by decide
/-- The device addressed here. -/
theorem dev2_at : ∀ c : Dev nD, (⟨k0_dev2 c, k0_dev2_lt c⟩ : Dev nD) = c + rot 1 := by decide
/-- The device addressed here. -/
theorem dev3_at : ∀ c : Dev nD, (⟨k0_dev3 c, k0_dev3_lt c⟩ : Dev nD) = c + rot 2 := by decide
/-- The device addressed here. -/
theorem dev4_at : ∀ c : Dev nD, (⟨k0_dev4 c, k0_dev4_lt c⟩ : Dev nD) = c + 1 := by decide
/-- The device addressed here. -/
theorem dev5_at : ∀ c : Dev nD, (⟨k0_dev5 c, k0_dev5_lt c⟩ : Dev nD) = c + 3 := by decide
/-- The device addressed here. -/
theorem dev6_at : ∀ c : Dev nD, (⟨k0_dev6 c, k0_dev6_lt c⟩ : Dev nD) = c + 1 := by decide
/-- The device addressed here. -/
theorem dev7_at : ∀ c : Dev nD, (⟨k0_dev7 c, k0_dev7_lt c⟩ : Dev nD) = c + 3 := by decide
/-- The device addressed here. -/
theorem dev8_at : ∀ c : Dev nD, (⟨k0_dev8 c, k0_dev8_lt c⟩ : Dev nD) = c + 1 := by decide
/-- The device addressed here. -/
theorem dev9_at : ∀ c : Dev nD, (⟨k0_dev9 c, k0_dev9_lt c⟩ : Dev nD) = c + 3 := by decide

/-- The cells of the halves' arrivals take one payment each. -/
theorem hop_dut : ∀ (c : Dev nD) (k : Fin 19), (10 ≤ k.val ∧ k.val ≤ 12) ∨ 16 ≤ k.val → dut c (smIx (csem k)) 0 = {0} := by decide
/-- The halves' receive semaphores count halves. -/
theorem hop_amtC : ∀ k : Fin 19, (10 ≤ k.val ∧ k.val ≤ 12) ∨ 16 ≤ k.val → amtC (smIx (csem k)) = 2 := by decide
/-- A half's arrival may be waited for with the later payments still owed. -/
theorem rank7 : ∀ (c : Dev nD) (k : Fin 19), k = 10 ∨ k = 16 → ∀ j : Fin 33, 7 ≤ j.val → lvN (smIx (csem k)) < lvN (smIx (paySm c j.val)) := by decide
/-- Their first two levels are below the products', -/
theorem rank9 : ∀ (c : Dev nD) (k : Fin 19), k = 10 ∨ k = 16 ∨ k = 11 ∨ k = 17 → ∀ j : Fin 33, 9 ≤ j.val → lvN (smIx (csem k)) < lvN (smIx (paySm c j.val)) := by decide
/-- and so is the third. -/
theorem rank25 : ∀ (c : Dev nD) (k : Fin 19), k = 12 ∨ k = 18 → ∀ j : Fin 33, 25 ≤ j.val → lvN (smIx (csem k)) < lvN (smIx (paySm c j.val)) := by decide
end Off

/-! ## What is held between the parts -/

/-- The semaphore of the copies into the window of `w`. -/
abbrev wsem : DmaSem sig := dsem 0 (by decide)
/-- The units such a copy counts. -/
abbrev Nw : ℕ := wB.view.dmaCredit
/-- A copy of a whole `w` counts something. -/
theorem Nw_pos : 0 < Nw := View.dmaCredit_pos _ (by decide)

/-- What a device keeps of a half of device `o`'s `w` after lending the other share for sending it on. -/
def gQ (c o : Dev nD) (b : Fin 2) : sProp 𝕄 := owns (c : Thread nD τ) (gM o b) fullShare.right (wHalf (W o) b)
/-- An arrived half, held in two shares. -/
theorem g_halve (c o : Dev nD) (b : Fin 2) : gFull W c o b ⊢ iprop(owns (c : Thread nD τ) (gM o b) fullShare.left (wHalf (W o) b) ∗ gQ W c o b) := by
  unfold gFull gQ
  exact (owns_halves (c : Thread nD τ) (gM o b) fullShare (wHalf (W o) b)).1
/-- The window of `w`, free. -/
def wid (c : Dev nD) : sProp 𝕄 := iprop((∃ Y, owns (c : Thread nD τ) wB fullShare Y) ∗ semVal (cell c (.dma wsem)) 0)
/-- The device's own `w` on its way into the window. -/
def wfl (c : Dev nD) (q : PosShare TreeShare) : sProp 𝕄 :=
  Transfers.Flight EC (c : Thread nD τ) (.dma wsem) () Nw iprop(owns (c : Thread nD τ) wB fullShare (W c) ∗ owns (c : Thread nD τ) wA q (W c))
/-- Device `o`'s `w` on its way into the window. -/
def gfl (c o : Dev nD) : sProp 𝕄 :=
  Transfers.Flight EC (c : Thread nD τ) (.dma wsem) () Nw iprop(owns (c : Thread nD τ) wB fullShare (W o) ∗ owns (c : Thread nD τ) (gMW o) fullShare.right (W o))

/-- Before the first trip the first rows are on their way, -/
theorem xst_zero {c : Dev nD} {q : PosShare TreeShare} {Xc : S2048x8192.Idx → Elt F .f32} (s : Fin 2) : xfl c q Xc s (pIx 0 s) ⊢ xst c q Xc s 0 := by
  rw [xst_lt (by decide)]
/-- and after the last none are. -/
theorem xst_four {c : Dev nD} {q : PosShare TreeShare} {Xc : S2048x8192.Idx → Elt F .f32} (s : Fin 2) : xst c q Xc s 4 ⊢ xid c q Xc s := by
  unfold xst; rw [if_neg (by decide)]
/-- After a loop's last trip a slot's last send is on its way. -/
theorem yrS_four (c : Dev nD) (s : Fin 2) (l : ℕ) : yrS (F := F) c s l 4 ⊢ yrW c s (4 * l + 4) := by
  unfold yrS; rw [if_neg (by decide)]
/-- A slot whose sends are over is ready for the next loop. -/
theorem yrS_mk (c : Dev nD) (s : Fin 2) (l : ℕ) : iprop((∃ Y, owns (c : Thread nD τ) (yS s) fullShare Y) ∗ yrP (F := F) c s (4 * l)) ⊢ yrS c s l 0 := by
  unfold yrS; rw [if_pos rfl]

section Ops
variable {c : Dev nD} {α : Type} {Q : α → sProp (MT nD τ sig Unit (Elt F) ℕ UU ℕ)}

/-- Asking for the device's number. -/
theorem wpK_dev {k : Dev nD → Prog (TpuEff nD τ sig (Elt F) Λ₀ .tc) α} : wpK c (k c) Q ⊢ wpK c (.op .deviceId k) Q := by
  unfold wpK; rw [wp_deviceId]

/-- One of the three signals. -/
theorem signal_word {n : Dev nD} (j : ℕ) (hj : j < 3) (hn : n = c + rot j) {Q : PUnit → sProp (MT nD τ sig Unit (Elt F) ℕ UU ℕ)} :
    iprop(recs X W K ∗ ow c j ∗ ptok c j ∗ barPay (c + rot j) (payD j))
      ⊢ iprop((ow c (j + 1) -∗ Q ⟨⟩) -∗ wpK c (semSignalWord (Λ := Λ₀) (Val := Elt F) (p := .tc) n barS 1#32) Q) := by
  iintro H Hk
  unfold semSignalWord
  rw [show ((1#32 : BitVec 32).toInt) = 1 from by decide]
  iapply (signal_step X W K j hj hn (k := .ret)) $$ H
  iintro HO
  iapply wpK_ret
  iapply Hk $$ HO

/-- The wait for the three other devices' signals. -/
theorem barrier_word {Q : PUnit → sProp (MT nD τ sig Unit (Elt F) ℕ UU ℕ)} :
    iprop(recs X W K ∗ cred (tallyAt (cell c (csem 0)) () 3) ∗ ow c 3 ∗ atPos ER (cell c (csem 0)) 0 ∅ 0 ∗ (bigSep (Finset.Ico 3 33) fun j => ptok c j))
      ⊢ iprop((iprop(ow c 3 ∗ atPos ER (cell c (csem 0)) 1 ∅ 0 ∗ pd c 3) -∗ Q ⟨⟩)
          -∗ wpK c (semWaitWord (Λ := Λ₀) (Val := Elt F) (p := .tc) barS 3#32) Q) := by
  iintro H Hk
  unfold semWaitWord
  iapply (barrier_step X W K (kk := .ret) (n := (3#32 : BitVec 32).toInt) (by decide)) $$ H
  iintro HO
  iapply wpK_ret
  iapply Hk $$ HO

/-- Both halves of device `o`'s `w` on their way into the window. -/
theorem g_start (o : Dev nD) {src' : Memref sig .tc .hbm S8192x1024 .f32} (es : src' = gMW o)
    {h1 : src'.view.WordExact} {h2 : wB.view.WordExact}
    {h3 : DmaTarget.Typed (nD := nD) (τ := τ) (p := .tc) .hbm (.dma wsem) (.here wB)}
    {k : PUnit → Prog (TpuEff nD τ sig (Elt F) Λ₀ .tc) α} :
    iprop(gQ W c o 0 ∗ gQ W c o 1 ∗ wid c)
      ⊢ iprop((gfl W c o -∗ wpK c (k ⟨⟩) Q) -∗ wpK c (.op (.enqueueDma src' (.here wB) (.dma wsem) h1 h2 h3) k) Q) := by
  unfold gQ wid gfl
  iintro ⟨H0, H1, HY, Hv⟩ Hk
  iapply (copy_step es rfl rfl (N := Nw) rfl Nw_pos (Xs := W o) (q := fullShare.right)) $$ [H0 H1 HY Hv]
  · isplitl [H0 H1]
    · iapply (g_join c o fullShare.right (W o))
      isplitl [H0]; · iexact H0
      iexact H1
    isplitl [HY]; · iexact HY
    iexact Hv
  iexact Hk

/-- Their arrival in the window. -/
theorem g_wait (o : Dev nD) (i : ℕ)
    {sp : Space} {s' : Shape} {e' : EltTy} {srcw : Memref sig .tc sp s' e'} {h1 : srcw.view.WordExact} {h2 : wB.view.WordExact}
    {k : PUnit → Prog (TpuEff nD τ sig (Elt F) Λ₀ .tc) α} :
    iprop(recs X W K ∗ gfl W c o ∗ ow c i)
      ⊢ iprop((iprop(owns (c : Thread nD τ) wB fullShare (W o) ∗ semVal (cell c (.dma wsem)) 0 ∗ ow c i) -∗ wpK c (k ⟨⟩) Q)
          -∗ wpK c (.op (.waitDma2 wsem srcw wB h1 h2) k) Q) := by
  unfold gfl
  iintro ⟨#HR, Hf, HO⟩ Hk
  iapply (flight_wait X W K rfl rfl (by decide)) $$ [Hf HO]
  · isplitr; · iexact HR
    isplitl [Hf]; · iexact Hf
    iexact HO
  iintro ⟨⟨Hw, -⟩, Hv, HO⟩
  iapply Hk
  isplitl [Hw]; · iexact Hw
  isplitl [Hv]; · iexact Hv
  iexact HO
end Ops

section Parts
variable {c : Dev nD} {q0 q1 qa qb ql : PosShare TreeShare}
variable (h0 : xA.IsWhole) (h1 : wA.IsWhole) (h2 : yA.IsWhole) (h3 : gA.IsWhole) (h4 : wB.IsWhole) (h5 : xB.IsWhole) (h6 : yB.IsWhole)

/-- The three signals, the wait for the other devices, and the first copy. -/
theorem part9_spec {Q : (Σ' (d0 : Dev nD) (v2 : BitVec 32) (v4 : BitVec 32) (v7 : BitVec 32), BitVec 32) → sProp (MT nD τ sig Unit (Elt F) ℕ UU ℕ)} :
    iprop(recs X W K ∗ ow c 0 ∗ (bigSep (Finset.Ico 0 33) fun j => ptok c j) ∗ barPay (c + 3) 0 ∗ barPay (c + 1) 2 ∗ barPay (c + 2) 1 ∗ cred (tallyAt (cell c (csem 0)) () 3) ∗ atPos ER (cell c (csem 0)) 0 ∅ 0 ∗ owns (c : Thread nD τ) (wM 0) qa (wHalf (W c) 0) ∗ hs c 3)
      ⊢ iprop((iprop(ow c 4 ∗ atPos ER (cell c (csem 0)) 1 ∅ 0 ∗ pd c 4 ∗ hw c 3) -∗ ∀ v2 v4 v7 v9, Q ⟨c, v2, v4, v7, v9⟩)
          -∗ wpK c (k0_part9 (F := F) xA h0 wA h1 yA h2 gA h3 wB h4 xB h5 yB h6 cc0_scratch3 cc0_scratch4 cc0_scratch5 cc0_scratch6 cc0_scratch7 cc0_scratch8 cc0_scratch9 cc0_scratch10 cc0_scratch11) Q) := by
  rw [k0_part9_eq_skeleton]
  unfold k0_part9_skel
  iintro ⟨#HR, HO, Ht, Hb0, Hb2, Hb1, Hc, Hat, Hw, Hs⟩ Hk
  iapply wpK_bind
  iapply wpK_dev
  iapply wpK_ret
  ihave Ht := (BIBase.Entails.of_eq (show (bigSep (Finset.Ico 0 33) fun j => ptok (F := F) c j) = iprop(ptok c 0 ∗ ptok c 1 ∗ ptok c 2 ∗ bigSep (Finset.Ico 3 33) fun j => ptok c j) by
    rw [← Ico_insert (show 0 < 33 by decide), bigSep_ins _ (by decide), ← Ico_insert (show 0 + 1 < 33 by decide), bigSep_ins _ (by decide),
      ← Ico_insert (show 0 + 1 + 1 < 33 by decide), bigSep_ins _ (by decide)])) $$ Ht
  icases Ht with ⟨Ht0, Ht1, Ht2, Ht⟩
  iapply wpK_bind
  iapply (signal_word X W K 0 (by decide) (dev1_at c)) $$ [HO Ht0 Hb0]
  · isplitr; · iexact HR
    isplitl [HO]; · iexact HO
    isplitl [Ht0]; · iexact Ht0
    iexact Hb0
  iintro HO
  iapply wpK_bind
  iapply (signal_word X W K 1 (by decide) (dev2_at c)) $$ [HO Ht1 Hb2]
  · isplitr; · iexact HR
    isplitl [HO]; · iexact HO
    isplitl [Ht1]; · iexact Ht1
    iexact Hb2
  iintro HO
  iapply wpK_bind
  iapply (signal_word X W K 2 (by decide) (dev3_at c)) $$ [HO Ht2 Hb1]
  · isplitr; · iexact HR
    isplitl [HO]; · iexact HO
    isplitl [Ht2]; · iexact Ht2
    iexact Hb1
  iintro HO
  iapply wpK_bind
  iapply (barrier_word X W K) $$ [Hc HO Hat Ht]
  · isplitr; · iexact HR
    isplitl [Hc]; · iexact Hc
    isplitl [HO]; · iexact HO
    isplitl [Hat]; · iexact Hat
    iexact Ht
  iintro ⟨HO, Hat, Hd⟩
  iapply wpK_bind
  iapply (hop_send (kk := .ret) X W K 3 (by decide) (by decide) 1 c 0 rfl rfl rfl (dev4_at c) (rfl) (g_at c 0 (off1_at c) _) rfl rfl) $$ [Hw Hs HO Hd]
  · isplitr; · iexact HR
    isplitl [Hw]; · iexact Hw
    isplitl [Hs]; · iexact Hs
    isplitl [HO]; · iexact HO
    iexact Hd
  iintro ⟨Hs, Hd, HO⟩
  iapply wpK_ret
  iapply wpK_ret
  ispecialize Hk $$ [HO Hat Hd Hs]
  · isplitl [HO]; · iexact HO
    isplitl [Hat]; · iexact Hat
    isplitl [Hd]; · iexact Hd
    iexact Hs
  iapply Hk

/-- The other three copies of the device's own `w`, and its copy into the window. -/
theorem part10_spec (v4 : BitVec 32) (v7 : BitVec 32) {Q : PUnit → sProp (MT nD τ sig Unit (Elt F) ℕ UU ℕ)} :
    iprop(recs X W K ∗ ow c 4 ∗ pd c 4 ∗ owns (c : Thread nD τ) (wM 1) qa (wHalf (W c) 1) ∗ hs c 4 ∗ owns (c : Thread nD τ) (wM 1) qb (wHalf (W c) 1) ∗ hs c 5 ∗ owns (c : Thread nD τ) (wM 0) qb (wHalf (W c) 0) ∗ hs c 6 ∗ owns (c : Thread nD τ) (wA) ql (W c) ∗ wid c)
      ⊢ iprop((iprop(ow c 7 ∗ pd c 7 ∗ hw c 4 ∗ hw c 5 ∗ hw c 6 ∗ wfl W c ql) -∗ Q ⟨⟩)
          -∗ wpK c (k0_part10 (F := F) xA h0 wA h1 yA h2 gA h3 wB h4 xB h5 yB h6 cc0_scratch3 cc0_scratch4 cc0_scratch5 cc0_scratch6 cc0_scratch7 cc0_scratch8 cc0_scratch9 cc0_scratch10 cc0_scratch11 c v4 v7) Q) := by
  rw [k0_part10_eq_skeleton]
  unfold k0_part10_skel wid wfl
  iintro ⟨#HR, HO, Hd, Hw1, Hs4, Hw2, Hs5, Hw3, Hs6, Hw, Hi⟩ Hk
  iapply wpK_bind
  iapply (hop_send (kk := .ret) X W K 4 (by decide) (by decide) 3 c 1 rfl rfl rfl (dev5_at c) (rfl) (g_at c 1 (off2_at c) _) rfl rfl) $$ [Hw1 Hs4 HO Hd]
  · isplitr; · iexact HR
    isplitl [Hw1]; · iexact Hw1
    isplitl [Hs4]; · iexact Hs4
    isplitl [HO]; · iexact HO
    iexact Hd
  iintro ⟨Hs4, Hd, HO⟩
  iapply wpK_ret
  iapply wpK_bind
  iapply (hop_send (kk := .ret) X W K 5 (by decide) (by decide) 1 c 1 rfl rfl rfl (dev6_at c) (rfl) (g_at c 1 (off2_at c) _) rfl rfl) $$ [Hw2 Hs5 HO Hd]
  · isplitr; · iexact HR
    isplitl [Hw2]; · iexact Hw2
    isplitl [Hs5]; · iexact Hs5
    isplitl [HO]; · iexact HO
    iexact Hd
  iintro ⟨Hs5, Hd, HO⟩
  iapply wpK_ret
  iapply wpK_bind
  iapply (hop_send (kk := .ret) X W K 6 (by decide) (by decide) 3 c 0 rfl rfl rfl (dev7_at c) (rfl) (g_at c 0 (off1_at c) _) rfl rfl) $$ [Hw3 Hs6 HO Hd]
  · isplitr; · iexact HR
    isplitl [Hw3]; · iexact Hw3
    isplitl [Hs6]; · iexact Hs6
    isplitl [HO]; · iexact HO
    iexact Hd
  iintro ⟨Hs6, Hd, HO⟩
  iapply wpK_ret
  icases Hi with ⟨HY, Hv⟩
  iapply wpK_bind
  iapply (copy_step (k := .ret) rfl rfl rfl (N := Nw) rfl Nw_pos (Xs := W c) (q := ql)) $$ [Hw HY Hv]
  · isplitl [Hw]; · iexact Hw
    isplitl [HY]; · iexact HY
    iexact Hv
  iintro Hf
  iapply wpK_ret
  iapply wpK_ret
  iapply Hk
  isplitl [HO]; · iexact HO
  isplitl [Hd]; · iexact Hd
  isplitl [Hs4]; · iexact Hs4
  isplitl [Hs5]; · iexact Hs5
  isplitl [Hs6]; · iexact Hs6
  iexact Hf

/-- The device's own rows of its own `y`. -/
theorem part11_spec (v2 : BitVec 32) (v4 : BitVec 32) {Q : PUnit → sProp (MT nD τ sig Unit (Elt F) ℕ UU ℕ)} :
    iprop(recs X W K ∗ ow c 7 ∗ xid c q0 (X c) 0 ∗ xid c q1 (X c) 1 ∗ wfl W c ql ∗ ylS X W c 0 0 ∗ ylS X W c 1 0)
      ⊢ iprop((iprop(ow c 7 ∗ xid c q0 (X c) 0 ∗ xid c q1 (X c) 1 ∗ wid c ∗ owns (c : Thread nD τ) (wA) ql (W c) ∗ (∃ Y, owns (c : Thread nD τ) (yS 0) fullShare Y) ∗ ylP X W c 0 4 ∗ (∃ Y, owns (c : Thread nD τ) (yS 1) fullShare Y) ∗ ylP X W c 1 4) -∗ Q ⟨⟩)
          -∗ wpK c (k0_part11 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v4) Q) := by
  rw [k0_part11_eq_skeleton]
  unfold k0_part11_skel wfl
  iintro ⟨#HR, HO, Hx0, Hx1, Hf, Hl0, Hl1⟩ Hk
  iapply wpK_bind
  iapply (x_start (k := .ret) 0 (pIx 0 0) rfl rfl rfl) $$ Hx0
  iintro Hx0
  iapply wpK_ret
  iapply wpK_bind
  iapply (x_start (k := .ret) 1 (pIx 0 1) rfl rfl rfl) $$ Hx1
  iintro Hx1
  iapply wpK_ret
  iapply wpK_bind
  iapply (flight_wait (k := .ret) X W K rfl rfl (by decide)) $$ [Hf HO]
  · isplitr; · iexact HR
    isplitl [Hf]; · iexact Hf
    iexact HO
  iintro ⟨⟨Hw, Hwa⟩, Hv, HO⟩
  iapply wpK_ret
  ihave Hx0 := (xst_zero 0) $$ Hx0
  ihave Hx1 := (xst_zero 1) $$ Hx1
  iapply wpK_bind
  iapply (loop1 X W K h0 h1 h2 h3 h4 h5 h6 v2 v4) $$ [HO Hw Hx0 Hx1 Hl0 Hl1]
  · unfold inv1
    isplitr; · iexact HR
    isplitl [HO]; · iexact HO
    isplitl [Hw]; · iexact Hw
    isplitl [Hx0]; · iexact Hx0
    isplitl [Hx1]; · iexact Hx1
    isplitl [Hl0]; · iexact Hl0
    iexact Hl1
  iintro H
  unfold inv1
  icases H with ⟨-, HO, Hw, Hx0, Hx1, Hl0, Hl1⟩
  ihave Hx0 := (xst_four 0) $$ Hx0
  ihave Hx1 := (xst_four 1) $$ Hx1
  iapply wpK_bind
  iapply (yl_wait (kk := .ret) X W K 0 4 _ (by decide) rfl yP_credit) $$ [HO Hl0]
  · isplitr; · iexact HR
    isplitl [HO]; · iexact HO
    iexact Hl0
  iintro ⟨Hy0, HO, Hl0⟩
  iapply wpK_ret
  iapply wpK_bind
  iapply (yl_wait (kk := .ret) X W K 1 4 _ (by decide) rfl yP_credit) $$ [HO Hl1]
  · isplitr; · iexact HR
    isplitl [HO]; · iexact HO
    iexact Hl1
  iintro ⟨Hy1, HO, Hl1⟩
  iapply wpK_ret
  ihave Hi : (wid c) $$ [Hw Hv]
  · unfold wid
    isplitl [Hw]; · iexists _; iexact Hw
    iexact Hv
  iapply wpK_ret
  iapply Hk
  isplitl [HO]; · iexact HO
  isplitl [Hx0]; · iexact Hx0
  isplitl [Hx1]; · iexact Hx1
  isplitl [Hi]; · iexact Hi
  isplitl [Hwa]; · iexact Hwa
  isplitl [Hy0]; · iexact Hy0
  isplitl [Hl0]; · iexact Hl0
  isplitl [Hy1]; · iexact Hy1
  iexact Hl1

/-- The neighbours' first halves arrive and are sent on. -/
theorem part12_spec (v4 : BitVec 32) (v7 : BitVec 32) {Q : PUnit → sProp (MT nD τ sig Unit (Elt F) ℕ UU ℕ)} :
    iprop(recs X W K ∗ ow c 7 ∗ pd c 7 ∗ hr c 10 ∗ hr c 16 ∗ hs c 7 ∗ hs c 8)
      ⊢ iprop((iprop(ow c 9 ∗ pd c 9 ∗ hw c 7 ∗ hw c 8 ∗ atPos ER (cell c (csem 10)) 1 ∅ 0 ∗ atPos ER (cell c (csem 16)) 1 ∅ 0 ∗ gQ W c (c + 3) 0 ∗ gQ W c (c + 1) 1) -∗ Q ⟨⟩)
          -∗ wpK c (k0_part12 (F := F) xA h0 wA h1 yA h2 gA h3 wB h4 xB h5 yB h6 cc0_scratch3 cc0_scratch4 cc0_scratch5 cc0_scratch6 cc0_scratch7 cc0_scratch8 cc0_scratch9 cc0_scratch10 cc0_scratch11 c v4 v7) Q) := by
  rw [k0_part12_eq_skeleton]
  unfold k0_part12_skel
  iintro ⟨#HR, HO, Hd, Hr10, Hr16, Hs7, Hs8⟩ Hk
  iapply wpK_bind
  iapply (hop_recv (kk := .ret) X W K 10 7 rfl gP_credit (hop_dut c 10 (by decide)) (hop_amtC 10 (by decide)) (rank7 c 10 (by decide)) (c + 3) 0 (pay_15 X W c 0)) $$ [Hr10 HO]
  · isplitr; · iexact HR
    isplitl [Hr10]; · iexact Hr10
    iexact HO
  iintro ⟨Hg, Ha10, HO⟩
  iapply wpK_ret
  iapply wpK_bind
  iapply (hop_recv (kk := .ret) X W K 16 7 rfl gP_credit (hop_dut c 16 (by decide)) (hop_amtC 16 (by decide)) (rank7 c 16 (by decide)) (c + 1) 1 (pay_21 X W c 0)) $$ [Hr16 HO]
  · isplitr; · iexact HR
    isplitl [Hr16]; · iexact Hr16
    iexact HO
  iintro ⟨Hh, Ha16, HO⟩
  iapply wpK_ret
  ihave Hg := (g_halve W c (c + 3) 0) $$ Hg
  icases Hg with ⟨Hg, Hg0⟩
  ihave Hh := (g_halve W c (c + 1) 1) $$ Hh
  icases Hh with ⟨Hh, Hh1⟩
  iapply wpK_bind
  iapply (hop_send (kk := .ret) X W K 7 (by decide) (by decide) 1 (c + 3) 0 rfl rfl rfl (dev8_at c) (g_at (c + 3) 0 (off6_at c) _) (g_at (c + 3) 0 (off6_at c) _) rfl rfl) $$ [Hg Hs7 HO Hd]
  · isplitr; · iexact HR
    isplitl [Hg]; · iexact Hg
    isplitl [Hs7]; · iexact Hs7
    isplitl [HO]; · iexact HO
    iexact Hd
  iintro ⟨Hs7, Hd, HO⟩
  iapply wpK_ret
  iapply wpK_bind
  iapply (hop_send (kk := .ret) X W K 8 (by decide) (by decide) 3 (c + 1) 1 rfl rfl rfl (dev9_at c) (g_at (c + 1) 1 (off7_at c) _) (g_at (c + 1) 1 (off7_at c) _) rfl rfl) $$ [Hh Hs8 HO Hd]
  · isplitr; · iexact HR
    isplitl [Hh]; · iexact Hh
    isplitl [Hs8]; · iexact Hs8
    isplitl [HO]; · iexact HO
    iexact Hd
  iintro ⟨Hs8, Hd, HO⟩
  iapply wpK_ret
  iapply wpK_ret
  iapply Hk
  isplitl [HO]; · iexact HO
  isplitl [Hd]; · iexact Hd
  isplitl [Hs7]; · iexact Hs7
  isplitl [Hs8]; · iexact Hs8
  isplitl [Ha10]; · iexact Ha10
  isplitl [Ha16]; · iexact Ha16
  isplitl [Hg0]; · iexact Hg0
  iexact Hh1

/-- The neighbours' second halves arrive; one neighbour's `w` is sent to the window. -/
theorem part13_spec (v4 : BitVec 32) (v7 : BitVec 32) {Q : PUnit → sProp (MT nD τ sig Unit (Elt F) ℕ UU ℕ)} :
    iprop(recs X W K ∗ ow c 9 ∗ hr c 11 ∗ hr c 17 ∗ gQ W c (c + 3) 0 ∗ wid c ∗ xid c q0 (X c) 0)
      ⊢ iprop((iprop(ow c 9 ∗ atPos ER (cell c (csem 11)) 1 ∅ 0 ∗ atPos ER (cell c (csem 17)) 1 ∅ 0 ∗ gQ W c (c + 1) 0 ∗ gfl W c (c + 3) ∗ xfl c q0 (X c) 0 (pIx 0 0)) -∗ Q ⟨⟩)
          -∗ wpK c (k0_part13 (F := F) xA h0 wA h1 yA h2 gA h3 wB h4 xB h5 yB h6 cc0_scratch3 cc0_scratch4 cc0_scratch5 cc0_scratch6 cc0_scratch7 cc0_scratch8 cc0_scratch9 cc0_scratch10 cc0_scratch11 c v4 v7) Q) := by
  rw [k0_part13_eq_skeleton]
  unfold k0_part13_skel
  iintro ⟨#HR, HO, Hr11, Hr17, Hg0, Hi, Hx0⟩ Hk
  iapply wpK_bind
  iapply (hop_recv (kk := .ret) X W K 11 9 rfl gP_credit (hop_dut c 11 (by decide)) (hop_amtC 11 (by decide)) (rank9 c 11 (by decide)) (c + 3) 1 (pay_16 X W c 0)) $$ [Hr11 HO]
  · isplitr; · iexact HR
    isplitl [Hr11]; · iexact Hr11
    iexact HO
  iintro ⟨Hg, Ha11, HO⟩
  iapply wpK_ret
  iapply wpK_bind
  iapply (hop_recv (kk := .ret) X W K 17 9 rfl gP_credit (hop_dut c 17 (by decide)) (hop_amtC 17 (by decide)) (rank9 c 17 (by decide)) (c + 1) 0 (pay_22 X W c 0)) $$ [Hr17 HO]
  · isplitr; · iexact HR
    isplitl [Hr17]; · iexact Hr17
    iexact HO
  iintro ⟨Hh, Ha17, HO⟩
  iapply wpK_ret
  ihave Hg := (g_halve W c (c + 3) 1) $$ Hg
  icases Hg with ⟨Hg, Hg1⟩
  ihave Hh := (g_halve W c (c + 1) 0) $$ Hh
  icases Hh with ⟨Hh, Hh0⟩
  iapply wpK_bind
  iapply (g_start (k := .ret) W (c + 3) (gw_at (c + 3) (off8_at c) _)) $$ [Hg0 Hg1 Hi]
  · isplitl [Hg0]; · iexact Hg0
    isplitl [Hg1]; · iexact Hg1
    iexact Hi
  iintro Hf
  iapply wpK_ret
  iapply wpK_bind
  iapply (x_start (k := .ret) 0 (pIx 0 0) rfl rfl rfl) $$ Hx0
  iintro Hx0
  iapply wpK_ret
  iapply wpK_ret
  iapply Hk
  isplitl [HO]; · iexact HO
  isplitl [Ha11]; · iexact Ha11
  isplitl [Ha17]; · iexact Ha17
  isplitl [Hh0]; · iexact Hh0
  isplitl [Hf]; · iexact Hf
  iexact Hx0

/-- The products for one neighbour. -/
theorem part14_spec (v2 : BitVec 32) (v7 : BitVec 32) {Q : PUnit → sProp (MT nD τ sig Unit (Elt F) ℕ UU ℕ)} :
    iprop(recs X W K ∗ ow c 9 ∗ pd c 9 ∗ xfl c q0 (X c) 0 (pIx 0 0) ∗ xid c q1 (X c) 1 ∗ gfl W c (c + 3) ∗ yrS c 0 0 0 ∗ yrS c 1 0 0 ∗ gQ W c (c + 1) 0 ∗ gQ W c (c + 1) 1)
      ⊢ iprop((iprop(ow c 17 ∗ pd c 17 ∗ xfl c q0 (X c) 0 (pIx 0 0) ∗ xid c q1 (X c) 1 ∗ gfl W c (c + 1) ∗ yrS c 0 1 0 ∗ yrS c 1 1 0) -∗ Q ⟨⟩)
          -∗ wpK c (k0_part14 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v7) Q) := by
  rw [k0_part14_eq_skeleton]
  unfold k0_part14_skel
  iintro ⟨#HR, HO, Hd, Hx0, Hx1, Hf, Hl0, Hl1, Hg0, Hg1⟩ Hk
  iapply wpK_bind
  iapply (x_start (k := .ret) 1 (pIx 0 1) rfl rfl rfl) $$ Hx1
  iintro Hx1
  iapply wpK_ret
  iapply wpK_bind
  iapply (g_wait (k := .ret) X W K (c + 3) 9) $$ [Hf HO]
  · isplitr; · iexact HR
    isplitl [Hf]; · iexact Hf
    iexact HO
  iintro ⟨Hw, Hv, HO⟩
  iapply wpK_ret
  ihave Hx0 := (xst_zero 0) $$ Hx0
  ihave Hx1 := (xst_zero 1) $$ Hx1
  iapply wpK_bind
  iapply (loop2 X W K h0 h1 h2 h3 h4 h5 h6 v2 v7) $$ [HO Hd Hw Hx0 Hx1 Hl0 Hl1]
  · unfold inv2
    isplitr; · iexact HR
    isplitl [HO]; · iexact HO
    isplitl [Hd]; · iexact Hd
    isplitl [Hw]; · iexact Hw
    isplitl [Hx0]; · iexact Hx0
    isplitl [Hx1]; · iexact Hx1
    isplitl [Hl0]; · iexact Hl0
    iexact Hl1
  iintro H
  unfold inv2
  icases H with ⟨-, HO, Hd, Hw, Hx0, Hx1, Hl0, Hl1⟩
  ihave Hx0 := (xst_four 0) $$ Hx0
  ihave Hx1 := (xst_four 1) $$ Hx1
  ihave Hl0 := (yrS_four c 0 0) $$ Hl0
  ihave Hl1 := (yrS_four c 1 0) $$ Hl1
  ihave Hi : (wid c) $$ [Hw Hv]
  · unfold wid
    isplitl [Hw]; · iexists _; iexact Hw
    iexact Hv
  iapply wpK_bind
  iapply (yr_wait (kk := .ret) X W K 0 4 _ (by decide) (by decide) rfl (yS_credit 0)) $$ [HO Hl0]
  · isplitr; · iexact HR
    isplitl [HO]; · iexact HO
    iexact Hl0
  iintro ⟨Hy0, HO, Hl0⟩
  iapply wpK_ret
  iapply wpK_bind
  iapply (yr_wait (kk := .ret) X W K 1 4 _ (by decide) (by decide) rfl (yS_credit 1)) $$ [HO Hl1]
  · isplitr; · iexact HR
    isplitl [HO]; · iexact HO
    iexact Hl1
  iintro ⟨Hy1, HO, Hl1⟩
  iapply wpK_ret
  ihave Hl0 : (yrS c 0 1 0) $$ [Hy0 Hl0]
  · iapply (yrS_mk c 0 1)
    isplitl [Hy0]; · iexact Hy0
    iexact Hl0
  ihave Hl1 : (yrS c 1 1 0) $$ [Hy1 Hl1]
  · iapply (yrS_mk c 1 1)
    isplitl [Hy1]; · iexact Hy1
    iexact Hl1
  iapply wpK_bind
  iapply (g_start (k := .ret) W (c + 1) (gw_at (c + 1) (off13_1_at c) _)) $$ [Hg0 Hg1 Hi]
  · isplitl [Hg0]; · iexact Hg0
    isplitl [Hg1]; · iexact Hg1
    iexact Hi
  iintro Hf
  iapply wpK_ret
  iapply wpK_bind
  iapply (x_start (k := .ret) 0 (pIx 0 0) rfl rfl rfl) $$ Hx0
  iintro Hx0
  iapply wpK_ret
  iapply wpK_ret
  iapply Hk
  isplitl [HO]; · iexact HO
  isplitl [Hd]; · iexact Hd
  isplitl [Hx0]; · iexact Hx0
  isplitl [Hx1]; · iexact Hx1
  isplitl [Hf]; · iexact Hf
  isplitl [Hl0]; · iexact Hl0
  iexact Hl1

/-- The products for the other neighbour. -/
theorem part15_spec (v2 : BitVec 32) (v4 : BitVec 32) {Q : PUnit → sProp (MT nD τ sig Unit (Elt F) ℕ UU ℕ)} :
    iprop(recs X W K ∗ ow c 17 ∗ pd c 17 ∗ xfl c q0 (X c) 0 (pIx 0 0) ∗ xid c q1 (X c) 1 ∗ gfl W c (c + 1) ∗ yrS c 0 1 0 ∗ yrS c 1 1 0)
      ⊢ iprop((iprop(ow c 25 ∗ pd c 25 ∗ xid c q0 (X c) 0 ∗ xid c q1 (X c) 1 ∗ wid c ∗ yrS c 0 2 0 ∗ yrS c 1 2 0) -∗ Q ⟨⟩)
          -∗ wpK c (k0_part15 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v4) Q) := by
  rw [k0_part15_eq_skeleton]
  unfold k0_part15_skel
  iintro ⟨#HR, HO, Hd, Hx0, Hx1, Hf, Hl0, Hl1⟩ Hk
  iapply wpK_bind
  iapply (x_start (k := .ret) 1 (pIx 0 1) rfl rfl rfl) $$ Hx1
  iintro Hx1
  iapply wpK_ret
  iapply wpK_bind
  iapply (g_wait (k := .ret) X W K (c + 1) 17) $$ [Hf HO]
  · isplitr; · iexact HR
    isplitl [Hf]; · iexact Hf
    iexact HO
  iintro ⟨Hw, Hv, HO⟩
  iapply wpK_ret
  ihave Hx0 := (xst_zero 0) $$ Hx0
  ihave Hx1 := (xst_zero 1) $$ Hx1
  iapply wpK_bind
  iapply (loop3 X W K h0 h1 h2 h3 h4 h5 h6 v2 v4) $$ [HO Hd Hw Hx0 Hx1 Hl0 Hl1]
  · unfold inv2
    isplitr; · iexact HR
    isplitl [HO]; · iexact HO
    isplitl [Hd]; · iexact Hd
    isplitl [Hw]; · iexact Hw
    isplitl [Hx0]; · iexact Hx0
    isplitl [Hx1]; · iexact Hx1
    isplitl [Hl0]; · iexact Hl0
    iexact Hl1
  iintro H
  unfold inv2
  icases H with ⟨-, HO, Hd, Hw, Hx0, Hx1, Hl0, Hl1⟩
  ihave Hx0 := (xst_four 0) $$ Hx0
  ihave Hx1 := (xst_four 1) $$ Hx1
  ihave Hl0 := (yrS_four c 0 1) $$ Hl0
  ihave Hl1 := (yrS_four c 1 1) $$ Hl1
  ihave Hi : (wid c) $$ [Hw Hv]
  · unfold wid
    isplitl [Hw]; · iexists _; iexact Hw
    iexact Hv
  iapply wpK_bind
  iapply (yr_wait (kk := .ret) X W K 0 8 _ (by decide) (by decide) rfl (yS_credit 0)) $$ [HO Hl0]
  · isplitr; · iexact HR
    isplitl [HO]; · iexact HO
    iexact Hl0
  iintro ⟨Hy0, HO, Hl0⟩
  iapply wpK_ret
  iapply wpK_bind
  iapply (yr_wait (kk := .ret) X W K 1 8 _ (by decide) (by decide) rfl (yS_credit 1)) $$ [HO Hl1]
  · isplitr; · iexact HR
    isplitl [HO]; · iexact HO
    iexact Hl1
  iintro ⟨Hy1, HO, Hl1⟩
  iapply wpK_ret
  ihave Hl0 : (yrS c 0 2 0) $$ [Hy0 Hl0]
  · iapply (yrS_mk c 0 2)
    isplitl [Hy0]; · iexact Hy0
    iexact Hl0
  ihave Hl1 : (yrS c 1 2 0) $$ [Hy1 Hl1]
  · iapply (yrS_mk c 1 2)
    isplitl [Hy1]; · iexact Hy1
    iexact Hl1
  iapply wpK_ret
  iapply Hk
  isplitl [HO]; · iexact HO
  isplitl [Hd]; · iexact Hd
  isplitl [Hx0]; · iexact Hx0
  isplitl [Hx1]; · iexact Hx1
  isplitl [Hi]; · iexact Hi
  isplitl [Hl0]; · iexact Hl0
  iexact Hl1

/-- The products for the device across the ring. -/
theorem part16_spec (v2 : BitVec 32) (v7 : BitVec 32) (v9 : BitVec 32) {Q : PUnit → sProp (MT nD τ sig Unit (Elt F) ℕ UU ℕ)} :
    iprop(recs X W K ∗ ow c 25 ∗ pd c 25 ∗ hr c 12 ∗ hr c 18 ∗ wid c ∗ xid c q0 (X c) 0 ∗ xid c q1 (X c) 1 ∗ yrS c 0 2 0 ∗ yrS c 1 2 0)
      ⊢ iprop((iprop(ow c 33 ∗ atPos ER (cell c (csem 12)) 1 ∅ 0 ∗ atPos ER (cell c (csem 18)) 1 ∅ 0 ∗ xid c q0 (X c) 0 ∗ xid c q1 (X c) 1 ∗ wid c ∗ yrW c 0 12 ∗ yrW c 1 12) -∗ Q ⟨⟩)
          -∗ wpK c (k0_part16 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2 v7 v9) Q) := by
  rw [k0_part16_eq_skeleton]
  unfold k0_part16_skel
  iintro ⟨#HR, HO, Hd, Hr12, Hr18, Hi, Hx0, Hx1, Hl0, Hl1⟩ Hk
  iapply wpK_bind
  iapply (hop_recv (kk := .ret) X W K 12 25 rfl gP_credit (hop_dut c 12 (by decide)) (hop_amtC 12 (by decide)) (rank25 c 12 (by decide)) (c + 2) 0 (pay_17 X W c 0)) $$ [Hr12 HO]
  · isplitr; · iexact HR
    isplitl [Hr12]; · iexact Hr12
    iexact HO
  iintro ⟨Hg, Ha12, HO⟩
  iapply wpK_ret
  iapply wpK_bind
  iapply (hop_recv (kk := .ret) X W K 18 25 rfl gP_credit (hop_dut c 18 (by decide)) (hop_amtC 18 (by decide)) (rank25 c 18 (by decide)) (c + 2) 1 (pay_23 X W c 0)) $$ [Hr18 HO]
  · isplitr; · iexact HR
    isplitl [Hr18]; · iexact Hr18
    iexact HO
  iintro ⟨Hh, Ha18, HO⟩
  iapply wpK_ret
  ihave Hg := (g_halve W c (c + 2) 0) $$ Hg
  icases Hg with ⟨Hg, Hg0⟩
  ihave Hh := (g_halve W c (c + 2) 1) $$ Hh
  icases Hh with ⟨Hh, Hg1⟩
  iapply wpK_bind
  iapply (g_start (k := .ret) W (c + 2) (gw_at (c + 2) (off13_2_at c) _)) $$ [Hg0 Hg1 Hi]
  · isplitl [Hg0]; · iexact Hg0
    isplitl [Hg1]; · iexact Hg1
    iexact Hi
  iintro Hf
  iapply wpK_ret
  iapply wpK_bind
  iapply (x_start (k := .ret) 0 (pIx 0 0) rfl rfl rfl) $$ Hx0
  iintro Hx0
  iapply wpK_ret
  iapply wpK_bind
  iapply (x_start (k := .ret) 1 (pIx 0 1) rfl rfl rfl) $$ Hx1
  iintro Hx1
  iapply wpK_ret
  iapply wpK_bind
  iapply (g_wait (k := .ret) X W K (c + 2) 25) $$ [Hf HO]
  · isplitr; · iexact HR
    isplitl [Hf]; · iexact Hf
    iexact HO
  iintro ⟨Hw, Hv, HO⟩
  iapply wpK_ret
  ihave Hx0 := (xst_zero 0) $$ Hx0
  ihave Hx1 := (xst_zero 1) $$ Hx1
  iapply wpK_bind
  iapply (loop4 X W K h0 h1 h2 h3 h4 h5 h6 v2 v7 v9) $$ [HO Hd Hw Hx0 Hx1 Hl0 Hl1]
  · unfold inv2
    isplitr; · iexact HR
    isplitl [HO]; · iexact HO
    isplitl [Hd]; · iexact Hd
    isplitl [Hw]; · iexact Hw
    isplitl [Hx0]; · iexact Hx0
    isplitl [Hx1]; · iexact Hx1
    isplitl [Hl0]; · iexact Hl0
    iexact Hl1
  iintro H
  unfold inv2
  icases H with ⟨-, HO, Hd, Hw, Hx0, Hx1, Hl0, Hl1⟩
  ihave Hx0 := (xst_four 0) $$ Hx0
  ihave Hx1 := (xst_four 1) $$ Hx1
  ihave Hl0 := (yrS_four c 0 2) $$ Hl0
  ihave Hl1 := (yrS_four c 1 2) $$ Hl1
  ihave Hi : (wid c) $$ [Hw Hv]
  · unfold wid
    isplitl [Hw]; · iexists _; iexact Hw
    iexact Hv
  iapply wpK_ret
  iapply Hk
  isplitl [HO]; · iexact HO
  isplitl [Ha12]; · iexact Ha12
  isplitl [Ha18]; · iexact Ha18
  isplitl [Hx0]; · iexact Hx0
  isplitl [Hx1]; · iexact Hx1
  isplitl [Hi]; · iexact Hi
  isplitl [Hl0]; · iexact Hl0
  iexact Hl1

/-- The last copies of products, and the first copies of `w`, are sent. -/
theorem part17_spec {Q : PUnit → sProp (MT nD τ sig Unit (Elt F) ℕ UU ℕ)} :
    iprop(recs X W K ∗ ow c 33 ∗ yrW c 0 12 ∗ yrW c 1 12 ∗ hw c 3 ∗ hw c 4)
      ⊢ iprop((iprop(ow c 33 ∗ (∃ Y, owns (c : Thread nD τ) (yS 0) fullShare Y) ∗ yrP c 0 12 ∗ (∃ Y, owns (c : Thread nD τ) (yS 1) fullShare Y) ∗ yrP c 1 12 ∗ atPos ER (cell c (csem (kh 3))) 1 ∅ 0 ∗ atPos ER (cell c (csem (kh 4))) 1 ∅ 0) -∗ Q ⟨⟩)
          -∗ wpK c (k0_part17 (F := F) xA h0 wA h1 yA h2 gA h3 wB h4 xB h5 yB h6 cc0_scratch3 cc0_scratch4 cc0_scratch5 cc0_scratch6 cc0_scratch7 cc0_scratch8 cc0_scratch9 cc0_scratch10 cc0_scratch11 c) Q) := by
  rw [k0_part17_eq_skeleton]
  unfold k0_part17_skel
  iintro ⟨#HR, HO, Hl0, Hl1, Hs3, Hs4⟩ Hk
  iapply wpK_bind
  iapply (yr_wait (kk := .ret) X W K 0 12 _ (by decide) (by decide) rfl (yS_credit 0)) $$ [HO Hl0]
  · isplitr; · iexact HR
    isplitl [HO]; · iexact HO
    iexact Hl0
  iintro ⟨Hy0, HO, Hl0⟩
  iapply wpK_ret
  iapply wpK_bind
  iapply (yr_wait (kk := .ret) X W K 1 12 _ (by decide) (by decide) rfl (yS_credit 1)) $$ [HO Hl1]
  · isplitr; · iexact HR
    isplitl [HO]; · iexact HO
    iexact Hl1
  iintro ⟨Hy1, HO, Hl1⟩
  iapply wpK_ret
  iapply wpK_bind
  iapply (hop_sent (kk := .ret) X W K 3 33 (by decide) rfl wP_credit) $$ [Hs3 HO]
  · isplitr; · iexact HR
    isplitl [Hs3]; · iexact Hs3
    iexact HO
  iintro ⟨Hs3, HO⟩
  iapply wpK_ret
  iapply wpK_bind
  iapply (hop_sent (kk := .ret) X W K 4 33 (by decide) rfl wP_credit) $$ [Hs4 HO]
  · isplitr; · iexact HR
    isplitl [Hs4]; · iexact Hs4
    iexact HO
  iintro ⟨Hs4, HO⟩
  iapply wpK_ret
  iapply wpK_ret
  iapply Hk
  isplitl [HO]; · iexact HO
  isplitl [Hy0]; · iexact Hy0
  isplitl [Hl0]; · iexact Hl0
  isplitl [Hy1]; · iexact Hy1
  isplitl [Hl1]; · iexact Hl1
  isplitl [Hs3]; · iexact Hs3
  iexact Hs4

/-- The other copies of `w` are sent. -/
theorem part18_spec (v2 : BitVec 32) {Q : BitVec 32 → sProp (MT nD τ sig Unit (Elt F) ℕ UU ℕ)} :
    iprop(recs X W K ∗ ow c 33 ∗ hw c 5 ∗ hw c 6 ∗ hw c 7 ∗ hw c 8)
      ⊢ iprop((iprop(ow c 33 ∗ atPos ER (cell c (csem (kh 5))) 1 ∅ 0 ∗ atPos ER (cell c (csem (kh 6))) 1 ∅ 0 ∗ atPos ER (cell c (csem (kh 7))) 1 ∅ 0 ∗ atPos ER (cell c (csem (kh 8))) 1 ∅ 0) -∗ ∀ v, Q v)
          -∗ wpK c (k0_part18 (F := F) xA h0 wA h1 yA h2 gA h3 wB h4 xB h5 yB h6 cc0_scratch3 cc0_scratch4 cc0_scratch5 cc0_scratch6 cc0_scratch7 cc0_scratch8 cc0_scratch9 cc0_scratch10 cc0_scratch11 c v2) Q) := by
  rw [k0_part18_eq_skeleton]
  unfold k0_part18_skel
  iintro ⟨#HR, HO, Hs5, Hs6, Hs7, Hs8⟩ Hk
  iapply wpK_bind
  iapply (hop_sent (kk := .ret) X W K 5 33 (by decide) rfl wP_credit) $$ [Hs5 HO]
  · isplitr; · iexact HR
    isplitl [Hs5]; · iexact Hs5
    iexact HO
  iintro ⟨Hs5, HO⟩
  iapply wpK_ret
  iapply wpK_bind
  iapply (hop_sent (kk := .ret) X W K 6 33 (by decide) rfl wP_credit) $$ [Hs6 HO]
  · isplitr; · iexact HR
    isplitl [Hs6]; · iexact Hs6
    iexact HO
  iintro ⟨Hs6, HO⟩
  iapply wpK_ret
  iapply wpK_bind
  iapply (hop_sent (kk := .ret) X W K 7 33 (by decide) rfl gP_credit) $$ [Hs7 HO]
  · isplitr; · iexact HR
    isplitl [Hs7]; · iexact Hs7
    iexact HO
  iintro ⟨Hs7, HO⟩
  iapply wpK_ret
  iapply wpK_bind
  iapply (hop_sent (kk := .ret) X W K 8 33 (by decide) rfl gP_credit) $$ [Hs8 HO]
  · isplitr; · iexact HR
    isplitl [Hs8]; · iexact Hs8
    iexact HO
  iintro ⟨Hs8, HO⟩
  iapply wpK_ret
  iapply wpK_ret
  ispecialize Hk $$ [HO Hs5 Hs6 Hs7 Hs8]
  · isplitl [HO]; · iexact HO
    isplitl [Hs5]; · iexact Hs5
    isplitl [Hs6]; · iexact Hs6
    isplitl [Hs7]; · iexact Hs7
    iexact Hs8
  iapply Hk

end Parts

end Cert.Proof.K
-- ==== Proof.Body.lean ====
/-
  A device's whole part in the kernel.
-/
module

public import proofs.«01_k».proof.Proof.Parts

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x8192.Idx → Elt F .f32) (W : Dev nD → S8192x1024.Idx → Elt F .f32)
variable (K : Dev nD × Fin 19 → ℕ)

/-- What a device enters the kernel with. -/
def bodyPre (c : Dev nD) (q0 q1 qa qb ql : PosShare TreeShare) : sProp 𝕄 :=
  iprop(ow c 0 ∗ (bigSep (Finset.Ico 0 33) fun j => ptok c j) ∗ (barPay (c + 3) 0 ∗ barPay (c + 1) 2 ∗ barPay (c + 2) 1) ∗ (cred (tallyAt (cell c (csem 0)) () 3) ∗ atPos ER (cell
    c (csem 0)) 0 ∅ 0) ∗ (owns (c : Thread nD τ) (wM 0) qa (wHalf (W c) 0) ∗ owns (c : Thread nD τ) (wM 1) qa (wHalf (W c) 1) ∗ owns (c : Thread nD τ) (wM 0) qb (wHalf (W c)
    0) ∗ owns (c : Thread nD τ) (wM 1) qb (wHalf (W c) 1) ∗ owns (c : Thread nD τ) (wA) ql (W c)) ∗ (hs c 3 ∗ hs c 4 ∗ hs c 5 ∗ hs c 6 ∗ hs c 7 ∗ hs c 8) ∗ (hr c 10 ∗ hr c 11
    ∗ hr c 12 ∗ hr c 16 ∗ hr c 17 ∗ hr c 18) ∗ wid c ∗ xid c q0 (X c) 0 ∗ xid c q1 (X c) 1 ∗ ylS X W c 0 0 ∗ ylS X W c 1 0 ∗ yrP c 0 0 ∗ yrP c 1 0 ∗ (yst X W c (c + 1) 0 ∗
    yst X W c (c + 2) 0 ∗ yst X W c (c + 3) 0))

/-- What a device leaves the kernel with. -/
def bodyPost (c : Dev nD) (q0 q1 ql : PosShare TreeShare) : sProp 𝕄 :=
  iprop(ow c 33 ∗ atPos ER (cell c (csem 0)) 1 ∅ 0 ∗ (atPos ER (cell c (csem 10)) 1 ∅ 0 ∗ atPos ER (cell c (csem 11)) 1 ∅ 0 ∗ atPos ER (cell c (csem 12)) 1 ∅ 0 ∗ atPos ER (cell c
    (csem 16)) 1 ∅ 0 ∗ atPos ER (cell c (csem 17)) 1 ∅ 0 ∗ atPos ER (cell c (csem 18)) 1 ∅ 0) ∗ (atPos ER (cell c (csem (kh 3))) 1 ∅ 0 ∗ atPos ER (cell c (csem (kh 4))) 1 ∅ 0
    ∗ atPos ER (cell c (csem (kh 5))) 1 ∅ 0 ∗ atPos ER (cell c (csem (kh 6))) 1 ∅ 0 ∗ atPos ER (cell c (csem (kh 7))) 1 ∅ 0 ∗ atPos ER (cell c (csem (kh 8))) 1 ∅ 0) ∗ yrP c 0
    12 ∗ yrP c 1 12 ∗ (∃ Y, owns (c : Thread nD τ) (yS 0) fullShare Y) ∗ (∃ Y, owns (c : Thread nD τ) (yS 1) fullShare Y) ∗ wid c ∗ xid c q0 (X c) 0 ∗ xid c q1 (X c) 1 ∗ owns
    (c : Thread nD τ) (wA) ql (W c) ∗ ylP X W c 0 4 ∗ ylP X W c 1 4 ∗ (yst X W c (c + 1) 8 ∗ yst X W c (c + 2) 8 ∗ yst X W c (c + 3) 8))

section Body
variable {c : Dev nD} {q0 q1 qa qb ql : PosShare TreeShare}
variable (h0 : xA.IsWhole) (h1 : wA.IsWhole) (h2 : yA.IsWhole) (h3 : gA.IsWhole) (h4 : wB.IsWhole) (h5 : xB.IsWhole) (h6 : yB.IsWhole)

/-- The kernel, on one device. -/
theorem body_spec {Q : PUnit → sProp (MT nD τ sig Unit (Elt F) ℕ UU ℕ)} :
    iprop(recs X W K ∗ bodyPre X W c q0 q1 qa qb ql)
      ⊢ iprop((bodyPost X W c q0 q1 ql -∗ Q ⟨⟩) -∗ wpK c (cc0__body (F := F) xA h0 wA h1 yA h2 gA h3 wB h4 xB h5 yB h6 cc0_scratch3 cc0_scratch4 cc0_scratch5 cc0_scratch6 cc0_scratch7 cc0_scratch8 cc0_scratch9 cc0_scratch10 cc0_scratch11) Q) := by
  rw [cc0__body_eq_skeleton]
  unfold cc0__body_skel bodyPre bodyPost
  iintro ⟨#HR, HO, Ht, ⟨Hb0, Hb2, Hb1⟩, ⟨Hc, Hat⟩, ⟨Hw0a, Hw1a, Hw0b, Hw1b, Hwl⟩, ⟨Hs3, Hs4, Hs5, Hs6, Hs7, Hs8⟩, ⟨Hr10, Hr11, Hr12, Hr16, Hr17, Hr18⟩, Hi, Hx0, Hx1, Hl0, Hl1, Hp0, Hp1, ⟨Ht1, Ht2, Ht3⟩⟩ Hk
  iapply wpK_bind
  iapply (part9_spec X W K h0 h1 h2 h3 h4 h5 h6) $$ [HO Ht Hb0 Hb2 Hb1 Hc Hat Hw0a Hs3]
  · isplitr; · iexact HR
    isplitl [HO]; · iexact HO
    isplitl [Ht]; · iexact Ht
    isplitl [Hb0]; · iexact Hb0
    isplitl [Hb2]; · iexact Hb2
    isplitl [Hb1]; · iexact Hb1
    isplitl [Hc]; · iexact Hc
    isplitl [Hat]; · iexact Hat
    isplitl [Hw0a]; · iexact Hw0a
    iexact Hs3
  iintro ⟨HO, Hat, Hd, Hs3⟩ %v2 %v4 %v7 %v9
  iapply wpK_bind
  iapply (part10_spec X W K h0 h1 h2 h3 h4 h5 h6 v4 v7) $$ [HO Hd Hw1a Hs4 Hw1b Hs5 Hw0b Hs6 Hwl Hi]
  · isplitr; · iexact HR
    isplitl [HO]; · iexact HO
    isplitl [Hd]; · iexact Hd
    isplitl [Hw1a]; · iexact Hw1a
    isplitl [Hs4]; · iexact Hs4
    isplitl [Hw1b]; · iexact Hw1b
    isplitl [Hs5]; · iexact Hs5
    isplitl [Hw0b]; · iexact Hw0b
    isplitl [Hs6]; · iexact Hs6
    isplitl [Hwl]; · iexact Hwl
    iexact Hi
  iintro ⟨HO, Hd, Hs4, Hs5, Hs6, Hf⟩
  iapply wpK_bind
  iapply (part11_spec X W K h0 h1 h2 h3 h4 h5 h6 v2 v4) $$ [HO Hx0 Hx1 Hf Hl0 Hl1]
  · isplitr; · iexact HR
    isplitl [HO]; · iexact HO
    isplitl [Hx0]; · iexact Hx0
    isplitl [Hx1]; · iexact Hx1
    isplitl [Hf]; · iexact Hf
    isplitl [Hl0]; · iexact Hl0
    iexact Hl1
  iintro ⟨HO, Hx0, Hx1, Hi, Hwl, Hy0, Hl0, Hy1, Hl1⟩
  iapply wpK_bind
  iapply (part12_spec X W K h0 h1 h2 h3 h4 h5 h6 v4 v7) $$ [HO Hd Hr10 Hr16 Hs7 Hs8]
  · isplitr; · iexact HR
    isplitl [HO]; · iexact HO
    isplitl [Hd]; · iexact Hd
    isplitl [Hr10]; · iexact Hr10
    isplitl [Hr16]; · iexact Hr16
    isplitl [Hs7]; · iexact Hs7
    iexact Hs8
  iintro ⟨HO, Hd, Hs7, Hs8, Ha10, Ha16, Hg0, Hh1⟩
  iapply wpK_bind
  iapply (part13_spec X W K h0 h1 h2 h3 h4 h5 h6 v4 v7) $$ [HO Hr11 Hr17 Hg0 Hi Hx0]
  · isplitr; · iexact HR
    isplitl [HO]; · iexact HO
    isplitl [Hr11]; · iexact Hr11
    isplitl [Hr17]; · iexact Hr17
    isplitl [Hg0]; · iexact Hg0
    isplitl [Hi]; · iexact Hi
    iexact Hx0
  iintro ⟨HO, Ha11, Ha17, Hh0, Hf, Hx0⟩
  ihave Hp0 : (yrS c 0 0 0) $$ [Hy0 Hp0]
  · iapply (yrS_mk c 0 0)
    isplitl [Hy0]; · iexact Hy0
    iexact Hp0
  ihave Hp1 : (yrS c 1 0 0) $$ [Hy1 Hp1]
  · iapply (yrS_mk c 1 0)
    isplitl [Hy1]; · iexact Hy1
    iexact Hp1
  iapply wpK_bind
  iapply (part14_spec X W K h0 h1 h2 h3 h4 h5 h6 v2 v7) $$ [HO Hd Hx0 Hx1 Hf Hp0 Hp1 Hh0 Hh1]
  · isplitr; · iexact HR
    isplitl [HO]; · iexact HO
    isplitl [Hd]; · iexact Hd
    isplitl [Hx0]; · iexact Hx0
    isplitl [Hx1]; · iexact Hx1
    isplitl [Hf]; · iexact Hf
    isplitl [Hp0]; · iexact Hp0
    isplitl [Hp1]; · iexact Hp1
    isplitl [Hh0]; · iexact Hh0
    iexact Hh1
  iintro ⟨HO, Hd, Hx0, Hx1, Hf, Hp0, Hp1⟩
  iapply wpK_bind
  iapply (part15_spec X W K h0 h1 h2 h3 h4 h5 h6 v2 v4) $$ [HO Hd Hx0 Hx1 Hf Hp0 Hp1]
  · isplitr; · iexact HR
    isplitl [HO]; · iexact HO
    isplitl [Hd]; · iexact Hd
    isplitl [Hx0]; · iexact Hx0
    isplitl [Hx1]; · iexact Hx1
    isplitl [Hf]; · iexact Hf
    isplitl [Hp0]; · iexact Hp0
    iexact Hp1
  iintro ⟨HO, Hd, Hx0, Hx1, Hi, Hp0, Hp1⟩
  iapply wpK_bind
  iapply (part16_spec X W K h0 h1 h2 h3 h4 h5 h6 v2 v7 v9) $$ [HO Hd Hr12 Hr18 Hi Hx0 Hx1 Hp0 Hp1]
  · isplitr; · iexact HR
    isplitl [HO]; · iexact HO
    isplitl [Hd]; · iexact Hd
    isplitl [Hr12]; · iexact Hr12
    isplitl [Hr18]; · iexact Hr18
    isplitl [Hi]; · iexact Hi
    isplitl [Hx0]; · iexact Hx0
    isplitl [Hx1]; · iexact Hx1
    isplitl [Hp0]; · iexact Hp0
    iexact Hp1
  iintro ⟨HO, Ha12, Ha18, Hx0, Hx1, Hi, Hp0, Hp1⟩
  iapply wpK_bind
  iapply (part17_spec X W K h0 h1 h2 h3 h4 h5 h6) $$ [HO Hp0 Hp1 Hs3 Hs4]
  · isplitr; · iexact HR
    isplitl [HO]; · iexact HO
    isplitl [Hp0]; · iexact Hp0
    isplitl [Hp1]; · iexact Hp1
    isplitl [Hs3]; · iexact Hs3
    iexact Hs4
  iintro ⟨HO, Hy0, Hp0, Hy1, Hp1, Hs3, Hs4⟩
  iapply wpK_bind
  iapply (part18_spec X W K h0 h1 h2 h3 h4 h5 h6 v2) $$ [HO Hs5 Hs6 Hs7 Hs8]
  · isplitr; · iexact HR
    isplitl [HO]; · iexact HO
    isplitl [Hs5]; · iexact Hs5
    isplitl [Hs6]; · iexact Hs6
    isplitl [Hs7]; · iexact Hs7
    iexact Hs8
  iintro ⟨HO, Hs5, Hs6, Hs7, Hs8⟩ %v246
  iapply wpK_bind
  iapply (part19_spec X W K h0 h1 h2 h3 h4 h5 h6 v246) $$ [HO Ht1]
  · isplitr; · iexact HR
    isplitl [HO]; · iexact HO
    iexact Ht1
  iintro ⟨HO, Ht1⟩
  iapply wpK_bind
  iapply (part20_spec X W K h0 h1 h2 h3 h4 h5 h6 v246) $$ [HO Ht1]
  · isplitr; · iexact HR
    isplitl [HO]; · iexact HO
    iexact Ht1
  iintro ⟨HO, Ht1⟩
  iapply wpK_bind
  iapply (part21_spec X W K h0 h1 h2 h3 h4 h5 h6 v2 v246) $$ [HO Ht1 Ht2]
  · isplitr; · iexact HR
    isplitl [HO]; · iexact HO
    isplitl [Ht1]; · iexact Ht1
    iexact Ht2
  iintro ⟨HO, Ht1, Ht2⟩ %v320
  iapply wpK_bind
  iapply (part22_spec X W K h0 h1 h2 h3 h4 h5 h6 v320) $$ [HO Ht2]
  · isplitr; · iexact HR
    isplitl [HO]; · iexact HO
    iexact Ht2
  iintro ⟨HO, Ht2⟩ %v
  iapply wpK_bind
  iapply (part23_spec X W K h0 h1 h2 h3 h4 h5 h6 v2 v320 v) $$ [HO Ht2]
  · isplitr; · iexact HR
    isplitl [HO]; · iexact HO
    iexact Ht2
  iintro ⟨HO, Ht2⟩ %v394
  iapply wpK_bind
  iapply (part24_spec X W K h0 h1 h2 h3 h4 h5 h6 v394) $$ [HO Ht3]
  · isplitr; · iexact HR
    isplitl [HO]; · iexact HO
    iexact Ht3
  iintro ⟨HO, Ht3⟩ %v422 %v'
  iapply wpK_bind
  iapply (part25_spec X W K h0 h1 h2 h3 h4 h5 h6 v394 v422 v') $$ [HO Ht3]
  · isplitr; · iexact HR
    isplitl [HO]; · iexact HO
    iexact Ht3
  iintro ⟨HO, Ht3⟩
  iapply wpK_bind
  iapply (yst_step (kk := .ret) X W K (c + 3) (add3_ne c) 6 (by decide) (sem22_at c 2) yP_credit) $$ [Ht3 HO]
  · isplitr; · iexact HR
    isplitl [Ht3]; · iexact Ht3
    iexact HO
  iintro ⟨Ht3, HO⟩
  iapply wpK_ret
  iapply wpK_bind
  iapply (yst_step (kk := .ret) X W K (c + 3) (add3_ne c) 7 (by decide) (sem22_at c 2) yP_credit) $$ [Ht3 HO]
  · isplitr; · iexact HR
    isplitl [Ht3]; · iexact Ht3
    iexact HO
  iintro ⟨Ht3, HO⟩
  iapply wpK_ret
  iapply wpK_ret
  iapply Hk
  isplitl [HO]; · iexact HO
  isplitl [Hat]; · iexact Hat
  isplitl [Ha10 Ha11 Ha12 Ha16 Ha17 Ha18]
  · isplitl [Ha10]; · iexact Ha10
    isplitl [Ha11]; · iexact Ha11
    isplitl [Ha12]; · iexact Ha12
    isplitl [Ha16]; · iexact Ha16
    isplitl [Ha17]; · iexact Ha17
    iexact Ha18
  isplitl [Hs3 Hs4 Hs5 Hs6 Hs7 Hs8]
  · isplitl [Hs3]; · iexact Hs3
    isplitl [Hs4]; · iexact Hs4
    isplitl [Hs5]; · iexact Hs5
    isplitl [Hs6]; · iexact Hs6
    isplitl [Hs7]; · iexact Hs7
    iexact Hs8
  isplitl [Hp0]; · iexact Hp0
  isplitl [Hp1]; · iexact Hp1
  isplitl [Hy0]; · iexact Hy0
  isplitl [Hy1]; · iexact Hy1
  isplitl [Hi]; · iexact Hi
  isplitl [Hx0]; · iexact Hx0
  isplitl [Hx1]; · iexact Hx1
  isplitl [Hwl]; · iexact Hwl
  isplitl [Hl0]; · iexact Hl0
  isplitl [Hl1]; · iexact Hl1
  isplitl [Ht1]; · iexact Ht1
  isplitl [Ht2]; · iexact Ht2
  iexact Ht3

end Body

end Cert.Proof.K
-- ==== Proof.Deal.lean ====
/-
  What a device starts with, dealt: the buffers cut into what its neighbours overwrite and what it keeps.
-/
module

public import proofs.«01_k».proof.Proof.Body

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over the ring, over runs of payments and over blocks -/

/-- The four devices, from any of them on round the ring, -/
theorem ring_univ : ∀ c : Dev nD, (Finset.univ : Finset (Dev nD)) = {c, c + 1, c + 2, c + 3} := by decide
/-- and they are distinct. -/
theorem ring_ne : ∀ c : Dev nD, c ∉ ({c + 1, c + 2, c + 3} : Finset (Dev nD)) ∧ c + 1 ∉ ({c + 2, c + 3} : Finset (Dev nD)) ∧ c + 2 ∉ ({c + 3} : Finset (Dev nD)) := by decide

/-- Something of every device, listed from device `c` on. -/
theorem ring_four (c : Dev nD) (f : Dev nD → sProp 𝕄) : bigSep Finset.univ f = iprop(f c ∗ f (c + 1) ∗ f (c + 2) ∗ f (c + 3)) := by
  obtain ⟨h0, h1, h2⟩ := ring_ne c
  rw [ring_univ c, bigSep_insert h0, bigSep_insert h1, bigSep_insert h2, bigSep_singleton]
  rfl

/-- A run of numbers, as the numbers below its length. -/
theorem ico_fin (a n : ℕ) (f : ℕ → sProp 𝕄) : bigSep (Finset.Ico a (a + n)) f = bigSep Finset.univ fun p : Fin n => f (a + p.val) := by
  have e : Finset.Ico a (a + n) = Finset.univ.map (⟨fun p : Fin n => a + p.val, fun p p' h => Fin.ext (Nat.add_left_cancel h)⟩ : Fin n ↪ ℕ) := by
    ext j
    simp only [Finset.mem_Ico, Finset.mem_map, Finset.mem_univ, true_and, Function.Embedding.coeFn_mk]
    exact ⟨fun h => ⟨⟨j - a, by omega⟩, by show a + (j - a) = j; omega⟩, fun ⟨p, hp⟩ => by subst hp; have := p.isLt; exact ⟨by show a ≤ a + p.val; omega, by show a + p.val < a + n; omega⟩⟩
  rw [e, bigSep_map]; rfl

/-- Four things by number, written out. -/
theorem range_four (f : ℕ → sProp 𝕄) : bigSep (Finset.range 4) f = iprop(f 0 ∗ f 1 ∗ f 2 ∗ f 3) := by
  rw [show Finset.range 4 = {0, 1, 2, 3} by decide, bigSep_insert (by decide), bigSep_insert (by decide), bigSep_insert (by decide), bigSep_singleton]
  rfl

/-- The eight blocks are those that pass through slot 0 and those that pass through slot 1. -/
theorem pIx_cut (f : Fin 8 → sProp 𝕄) :
    bigSep Finset.univ f = iprop((bigSep (Finset.range 4) fun t => f (pIx t 0)) ∗ bigSep (Finset.range 4) fun t => f (pIx t 1)) := by
  have hA (g : Fin 8 → sProp 𝕄) : bigSep ({0, 2, 4, 6} : Finset (Fin 8)) g = bigSep (Finset.range 4) fun t => g (pIx t 0) := by
    rw [range_four, bigSep_insert (by decide), bigSep_insert (by decide), bigSep_insert (by decide), bigSep_singleton]; rfl
  have hB (g : Fin 8 → sProp 𝕄) : bigSep ({1, 3, 5, 7} : Finset (Fin 8)) g = bigSep (Finset.range 4) fun t => g (pIx t 1) := by
    rw [range_four, bigSep_insert (by decide), bigSep_insert (by decide), bigSep_insert (by decide), bigSep_singleton]; rfl
  rw [show (Finset.univ : Finset (Fin 8)) = {0, 2, 4, 6} ∪ {1, 3, 5, 7} by decide, bigSep_union (by decide), hA, hB]
  rfl

/-! ## A buffer's contents from its pieces' -/

/-- Contents of disjoint rectangles are parts of one contents of the whole. -/
theorem glue {s : Shape} {T V : Type} [Nonempty V] (r : T → Rect s) (hd : ∀ t t', t ≠ t' → Disjoint (r t).set (r t').set)
    (Y : ∀ t, (r t).shape.Idx → V) : ∃ X : s.Idx → V, ∀ t j, X ((r t).emb j) = Y t j := by
  classical
  refine ⟨fun i => if h : ∃ p : (t : T) × (r t).shape.Idx, (r p.1).emb p.2 = i then Y h.choose.1 h.choose.2 else Classical.arbitrary V, fun t j => ?_⟩
  have h : ∃ p : (t : T) × (r t).shape.Idx, (r p.1).emb p.2 = (r t).emb j := ⟨⟨t, j⟩, rfl⟩
  have hp : h.choose = ⟨t, j⟩ := by
    have e := h.choose_spec
    generalize h.choose = p at e
    obtain ⟨t', j'⟩ := p
    have ht : t' = t := by
      by_contra hn
      refine (Finset.disjoint_left.mp (hd t' t hn) : ∀ ⦃a⦄, a ∈ (r t').set → a ∉ (r t).set) (a := (r t).emb j) ?_ ?_
      · rw [← show (r t').emb j' = (r t).emb j from e, ← (r t').map_emb_univ]; exact Finset.mem_map_of_mem _ (Finset.mem_univ j')
      · rw [← (r t).map_emb_univ]; exact Finset.mem_map_of_mem _ (Finset.mem_univ j)
    subst ht
    exact congrArg (Sigma.mk t') ((r t').emb.injective e)
  exact (dif_pos h).trans (by rw [hp])

/-! ## The buffers in pieces, at any contents -/

/-- The gathered `w` cut into the halves of the devices' parts. -/
theorem g_pieces (c : Dev nD) (Y : S4x8192x1024.Idx → Elt F .f32) :
    (owns (c : Thread nD τ) gA fullShare Y : sProp 𝕄)
      ⊢ bigSep Finset.univ fun o : Dev nD => iprop((∃ Y, owns (c : Thread nD τ) (gM o 0) fullShare Y) ∗ ∃ Y, owns (c : Thread nD τ) (gM o 1) fullShare Y) := by
  have h1 (o : Dev nD) (b : Fin 2) (Z : S1x4096x1024.Idx → Elt F .f32) :
      (owns (c : Thread nD τ) (gA.slice (gR o b) (fun _ => rfl)) fullShare Z : sProp 𝕄) ⊢ iprop(∃ Y, owns (c : Thread nD τ) (gM o b) fullShare Y) := by
    iintro H
    iexists _
    iapply (owns_squeeze c _ squeezes_S1x4096x1024_S4096x1024 fullShare Z) $$ H
  refine (owns_rects (c : Thread nD τ) gA fullShare (fun t : Dev nD × Fin 2 => gR t.1 t.2) (fun _ _ => rfl) gR_disj gR_cov Y).trans ?_
  rw [bigSep_univ_prod]
  refine bigSep_mono fun o _ => ?_
  refine BIBase.Entails.trans (BIBase.Entails.of_eq (bigSep_two _)) ?_
  exact BIClass.sep_mono (h1 o 0 _) (h1 o 1 _)

/-- The result cut into its blocks of products. -/
theorem y_pieces (c : Dev nD) (Y : S8192x1024.Idx → Elt F .f32) :
    (owns (c : Thread nD τ) yA fullShare Y : sProp 𝕄)
      ⊢ bigSep Finset.univ fun o : Dev nD => bigSep Finset.univ fun p : Fin 8 => iprop(∃ Y, owns (c : Thread nD τ) (yM o p) fullShare Y) := by
  have h1 (o : Dev nD) (p : Fin 8) (Z : S256x1024.Idx → Elt F .f32) :
      (owns (c : Thread nD τ) (yM o p) fullShare Z : sProp 𝕄) ⊢ iprop(∃ Y, owns (c : Thread nD τ) (yM o p) fullShare Y) := by
    iintro H
    iexists _
    iexact H
  refine (owns_rects (c : Thread nD τ) yA fullShare (fun t : Dev nD × Fin 8 => yR t.1 t.2) (fun _ _ => rfl) yR_disj yR_cov Y).trans ?_
  rw [bigSep_univ_prod]
  exact bigSep_mono fun o _ => bigSep_mono fun p _ => h1 o p _

/-- The products of all devices' rows with a device's `w` make up its result. -/
theorem y_join [∀ e, Nonempty (Elt F e)] (c : Dev nD) (Yv : S8192x1024.Idx → Elt F .f32) (B : Dev nD → Fin 8 → S256x1024.Idx → Elt F .f32)
    (hY : ∀ o p j, Yv ((yR o p).emb j) = B o p j) :
    (bigSep Finset.univ fun o : Dev nD => bigSep Finset.univ fun p : Fin 8 => owns (c : Thread nD τ) (yM o p) fullShare (B o p))
      ⊢ (owns (c : Thread nD τ) yA fullShare Yv : sProp 𝕄) := by
  refine BIBase.Entails.trans ?_ (owns_of_rects (c : Thread nD τ) yA fullShare (fun t : Dev nD × Fin 8 => yR t.1 t.2) (fun _ _ => rfl) yR_disj yR_cov Yv)
  rw [bigSep_univ_prod]
  refine bigSep_mono fun o _ => bigSep_mono fun p _ => ?_
  have e : (fun j : S256x1024.Idx => Yv ((yR o p).emb j)) = B o p := funext fun j => hY o p j
  show (owns (c : Thread nD τ) (yM o p) fullShare (B o p) : sProp 𝕄) ⊢ owns (c : Thread nD τ) (yM o p) fullShare (fun j => Yv ((yR o p).emb j))
  rw [e]

section Slots
variable {sB s0 : Shape} {b : Memref sig .tc .vmem sB .f32} {r : Fin 2 → Rect sB}

/-- A buffer of two slots, cut. -/
theorem slots_cut (c : Dev nD) (hr : ∀ s a, (r s).stride a = 1) (hd : ∀ s s', s ≠ s' → Disjoint (r s).set (r s').set)
    (hcov : (Finset.univ.biUnion fun s => (r s).set) = Finset.univ) (h : ∀ s, (r s).shape.Squeezes s0) (Y : sB.Idx → Elt F .f32) :
    (owns (c : Thread nD τ) b fullShare Y : sProp 𝕄)
      ⊢ iprop((∃ Y, owns (c : Thread nD τ) ((b.slice (r 0) (hr 0)).squeeze s0 (h 0)) fullShare Y)
          ∗ ∃ Y, owns (c : Thread nD τ) ((b.slice (r 1) (hr 1)).squeeze s0 (h 1)) fullShare Y) := by
  have h1 (s : Fin 2) (Z : (r s).shape.Idx → Elt F .f32) :
      (owns (c : Thread nD τ) (b.slice (r s) (hr s)) fullShare Z : sProp 𝕄)
        ⊢ iprop(∃ Y, owns (c : Thread nD τ) ((b.slice (r s) (hr s)).squeeze s0 (h s)) fullShare Y) := by
    iintro H
    iexists _
    iapply (owns_squeeze c _ (h s) fullShare Z) $$ H
  refine (owns_rects (c : Thread nD τ) b fullShare r hr hd hcov Y).trans ?_
  refine BIBase.Entails.trans (BIBase.Entails.of_eq (bigSep_two _)) ?_
  exact BIClass.sep_mono (h1 0 _) (h1 1 _)

/-- The two slots, whole again. -/
theorem slots_join [∀ e, Nonempty (Elt F e)] (c : Dev nD) (hr : ∀ s a, (r s).stride a = 1) (hd : ∀ s s', s ≠ s' → Disjoint (r s).set (r s').set)
    (hcov : (Finset.univ.biUnion fun s => (r s).set) = Finset.univ) (h : ∀ s, (r s).shape.Squeezes s0) :
    iprop((∃ Y, owns (c : Thread nD τ) ((b.slice (r 0) (hr 0)).squeeze s0 (h 0)) fullShare Y)
          ∗ ∃ Y, owns (c : Thread nD τ) ((b.slice (r 1) (hr 1)).squeeze s0 (h 1)) fullShare Y)
      ⊢ (iprop(∃ Y, owns (c : Thread nD τ) b fullShare Y) : sProp 𝕄) := by
  iintro ⟨⟨%Y0, H0⟩, ⟨%Y1, H1⟩⟩
  have hg := glue r hd fun s j => (match s with | 0 => Y0 | 1 => Y1) ((Shape.reshapeEquiv (h s).numel_eq).symm j)
  obtain ⟨Z, hZ⟩ := hg
  iexists Z
  iapply (owns_of_rects (c : Thread nD τ) b fullShare r hr hd hcov Z)
  iapply (BIBase.Entails.of_eq (bigSep_two _).symm)
  ihave H0 := (owns_unsqueeze c _ (h 0) fullShare Y0) $$ H0
  ihave H1 := (owns_unsqueeze c _ (h 1) fullShare Y1) $$ H1
  rw [show (fun j => Z ((r 0).emb j)) = fun j => Y0 ((Shape.reshapeEquiv (h 0).numel_eq).symm j) from funext fun j => hZ 0 j,
    show (fun j => Z ((r 1).emb j)) = fun j => Y1 ((Shape.reshapeEquiv (h 1).numel_eq).symm j) from funext fun j => hZ 1 j]
  isplitl [H0]; · iexact H0
  iexact H1
end Slots

/-- The buffer of `x` rows cut into its two slots. -/
theorem xs_cut (c : Dev nD) (Y : S2x256x8192.Idx → Elt F .f32) :
    (owns (c : Thread nD τ) xB fullShare Y : sProp 𝕄)
      ⊢ iprop((∃ Y, owns (c : Thread nD τ) (xS 0) fullShare Y) ∗ ∃ Y, owns (c : Thread nD τ) (xS 1) fullShare Y) :=
  slots_cut (r := xsR) c (fun _ _ => rfl) xsR_disj xsR_cov (fun _ => squeezes_S1x256x8192_S256x8192) Y
/-- The buffer of products cut into its two slots. -/
theorem ys_cut (c : Dev nD) (Y : S2x256x1024.Idx → Elt F .f32) :
    (owns (c : Thread nD τ) yB fullShare Y : sProp 𝕄)
      ⊢ iprop((∃ Y, owns (c : Thread nD τ) (yS 0) fullShare Y) ∗ ∃ Y, owns (c : Thread nD τ) (yS 1) fullShare Y) :=
  slots_cut (r := ysR) c (fun _ _ => rfl) ysR_disj ysR_cov (fun _ => squeezes_S1x256x1024_S256x1024) Y
/-- The two slots of `x` rows put together. -/
theorem xs_join [∀ e, Nonempty (Elt F e)] (c : Dev nD) :
    iprop((∃ Y, owns (c : Thread nD τ) (xS 0) fullShare Y) ∗ ∃ Y, owns (c : Thread nD τ) (xS 1) fullShare Y)
      ⊢ (iprop(∃ Y, owns (c : Thread nD τ) xB fullShare Y) : sProp 𝕄) :=
  slots_join (r := xsR) c (fun _ _ => rfl) xsR_disj xsR_cov (fun _ => squeezes_S1x256x8192_S256x8192)
/-- The two slots of products put together. -/
theorem ys_join [∀ e, Nonempty (Elt F e)] (c : Dev nD) :
    iprop((∃ Y, owns (c : Thread nD τ) (yS 0) fullShare Y) ∗ ∃ Y, owns (c : Thread nD τ) (yS 1) fullShare Y)
      ⊢ (iprop(∃ Y, owns (c : Thread nD τ) yB fullShare Y) : sProp 𝕄) :=
  slots_join (r := ysR) c (fun _ _ => rfl) ysR_disj ysR_cov (fun _ => squeezes_S1x256x1024_S256x1024)

/-! ## What a device's neighbours may overwrite on it -/

/-- What a copy of half of a `w` overwrites on the device it goes to. -/
theorem dest_gp (e c o : Dev nD) (j : ℕ) (b : Fin 2) (hj : j < 9) (hc : e + rot j = c) (ho : gOwn e j = o) (hb : gHalf j = b) :
    dest (F := F) e j = iprop(∃ Y, owns (c : Thread nD τ) (gM o b) fullShare Y) := by
  subst hc; subst ho; subst hb
  unfold dest; rw [if_pos hj]
/-- What a copy of a block of products overwrites on the device it goes to. -/
theorem dest_yp (e c : Dev nD) (j : ℕ) (p : Fin 8) (hj : ¬ j < 9) (hc : e + rot j = c) (hp : yIx j = p) :
    dest (F := F) e j = iprop(∃ Y, owns (c : Thread nD τ) (yM e p) fullShare Y) := by
  subst hc; subst hp
  unfold dest; rw [if_neg hj]

/-- Sums round the ring. -/
theorem ring_back : ∀ c : Dev nD, c + 3 + 1 = c ∧ c + 1 + 3 = c ∧ c + 2 + 2 = c ∧ c + 3 + 3 = c + 2 ∧ c + 1 + 1 = c + 2 := by decide
/-- The copies of a device that go one round the ring, -/
theorem barIx_zero : barIx 0 = insert 3 (insert 5 (insert 7 (Finset.Ico 17 (17 + 8)))) := by decide
/-- those that go three round, -/
theorem barIx_two : barIx 2 = insert 4 (insert 6 (insert 8 (Finset.Ico 9 (9 + 8)))) := by decide
/-- and those that go two round. -/
theorem barIx_one : barIx 1 = Finset.Ico 25 (25 + 8) := by decide
/-- Where the copies of products go, and which blocks they are. -/
theorem run_y : ∀ p : Fin 8, (rot (9 + p.val) = 3 ∧ yIx (9 + p.val) = p) ∧ (rot (17 + p.val) = 1 ∧ yIx (17 + p.val) = p) ∧ (rot (25 + p.val) = 2 ∧ yIx (25 + p.val) = p) := by decide

/-- The rows of a device's result that device `o` computes, at any contents. -/
def yAny (c o : Dev nD) : sProp 𝕄 := bigSep Finset.univ fun p : Fin 8 => iprop(∃ Y, owns (c : Thread nD τ) (yM o p) fullShare Y)
/-- Half of device `o`'s part of a device's gathered `w`, at any contents. -/
def gAny (c o : Dev nD) (b : Fin 2) : sProp 𝕄 := iprop(∃ Y, owns (c : Thread nD τ) (gM o b) fullShare Y)

/-- Device `c`'s pieces for the device three round the ring are what its signal to it hands over, -/
theorem bar_zero (c : Dev nD) :
    iprop(gAny c (c + 3) 0 ∗ gAny c (c + 3) 1 ∗ gAny c (c + 2) 0 ∗ yAny c (c + 3)) ⊢ (barPay (c + 3) 0 : sProp 𝕄) := by
  obtain ⟨e1, e2, e3, e4, e5⟩ := ring_back c
  unfold barPay gAny yAny
  rw [barIx_zero, bigSep_ins _ (by decide), bigSep_ins _ (by decide), bigSep_ins _ (by decide), ico_fin,
    dest_gp (c + 3) c (c + 3) 3 0 (by decide) e1 rfl rfl, dest_gp (c + 3) c (c + 3) 5 1 (by decide) e1 rfl rfl,
    dest_gp (c + 3) c (c + 2) 7 0 (by decide) e1 e4 rfl,
    bigSep_congr fun p _ => dest_yp (c + 3) c (17 + p.val) p (by omega) ((congrArg (fun x => c + 3 + x) (run_y p).2.1.1).trans e1) (run_y p).2.1.2]
/-- those for the device one round likewise, -/
theorem bar_two (c : Dev nD) :
    iprop(gAny c (c + 1) 1 ∗ gAny c (c + 1) 0 ∗ gAny c (c + 2) 1 ∗ yAny c (c + 1)) ⊢ (barPay (c + 1) 2 : sProp 𝕄) := by
  obtain ⟨e1, e2, e3, e4, e5⟩ := ring_back c
  unfold barPay gAny yAny
  rw [barIx_two, bigSep_ins _ (by decide), bigSep_ins _ (by decide), bigSep_ins _ (by decide), ico_fin,
    dest_gp (c + 1) c (c + 1) 4 1 (by decide) e2 rfl rfl, dest_gp (c + 1) c (c + 1) 6 0 (by decide) e2 rfl rfl,
    dest_gp (c + 1) c (c + 2) 8 1 (by decide) e2 e5 rfl,
    bigSep_congr fun p _ => dest_yp (c + 1) c (9 + p.val) p (by omega) ((congrArg (fun x => c + 1 + x) (run_y p).1.1).trans e2) (run_y p).1.2]
/-- and those for the device two round. -/
theorem bar_one (c : Dev nD) : yAny c (c + 2) ⊢ (barPay (c + 2) 1 : sProp 𝕄) := by
  obtain ⟨e1, e2, e3, e4, e5⟩ := ring_back c
  unfold barPay yAny
  rw [barIx_one, ico_fin,
    bigSep_congr fun p _ => dest_yp (c + 2) c (25 + p.val) p (by omega) ((congrArg (fun x => c + 2 + x) (run_y p).2.2.1).trans e3) (run_y p).2.2.2]

variable (X : Dev nD → S2048x8192.Idx → Elt F .f32) (W : Dev nD → S8192x1024.Idx → Elt F .f32)

/-- The rows a device computes itself, at any contents, before the first trip. -/
theorem own_rows (c : Dev nD) : yAny c c ⊢ iprop(ylD X W c 0 0 0 ∗ ylD X W c 1 0 0) := by
  have h (s : Fin 2) : (bigSep (Finset.range 4) fun t => iprop(∃ Y, owns (c : Thread nD τ) (yM c (pIx t s)) fullShare Y) : sProp 𝕄) ⊢ ylD X W c s 0 0 := by
    unfold ylD
    rw [Finset.range_zero, BI.bigSep_empty, ← Finset.range_eq_Ico]
    iintro H
    isplitr; · iempintro
    iexact H
  unfold yAny
  rw [pIx_cut]
  exact BIClass.sep_mono (h 0) (h 1)

/-- The result and the gathered `w` dealt: what the neighbours overwrite, and the device's own rows. -/
theorem deal_yg (c : Dev nD) (Y : S8192x1024.Idx → Elt F .f32) (G : S4x8192x1024.Idx → Elt F .f32) :
    iprop(owns (c : Thread nD τ) yA fullShare Y ∗ owns (c : Thread nD τ) gA fullShare G)
      ⊢ iprop((barPay (c + 3) 0 ∗ barPay (c + 1) 2 ∗ barPay (c + 2) 1) ∗ ylD X W c 0 0 0 ∗ ylD X W c 1 0 0) := by
  iintro ⟨HY, HG⟩
  ihave HY := (show (owns (c : Thread nD τ) yA fullShare Y : sProp 𝕄) ⊢ bigSep Finset.univ fun o => yAny (F := F) c o from by unfold yAny; exact y_pieces c Y) $$ HY
  ihave HY := (BIBase.Entails.of_eq (ring_four c fun o => yAny (F := F) c o)) $$ HY
  ihave HG := (show (owns (c : Thread nD τ) gA fullShare G : sProp 𝕄) ⊢ bigSep Finset.univ fun o => iprop(gAny (F := F) c o 0 ∗ gAny (F := F) c o 1) from by unfold gAny; exact g_pieces c G) $$ HG
  ihave HG := (BIBase.Entails.of_eq (ring_four c fun o => iprop(gAny (F := F) c o 0 ∗ gAny (F := F) c o 1))) $$ HG
  icases HY with ⟨Y0, Y1, Y2, Y3⟩
  icases HG with ⟨-, ⟨G10, G11⟩, ⟨G20, G21⟩, ⟨G30, G31⟩⟩
  isplitr [Y0]
  · isplitl [G30 G31 G20 Y3]
    · iapply (bar_zero c)
      isplitl [G30]; · iexact G30
      isplitl [G31]; · iexact G31
      isplitl [G20]; · iexact G20
      iexact Y3
    isplitl [G11 G10 G21 Y1]
    · iapply (bar_two c)
      isplitl [G11]; · iexact G11
      isplitl [G10]; · iexact G10
      isplitl [G21]; · iexact G21
      iexact Y1
    iapply (bar_one c) $$ Y2
  iapply (own_rows X W c) $$ Y0

end Cert.Proof.K
-- ==== Proof.Fund.lean ====
/-
  The launch's tokens, invariants and credits, dealt to the devices.
-/
module

public import proofs.«01_k».proof.Proof.Deal

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The tokens minted for a device: one for each payment it makes -/

/-- The duty that token `t` of device `c` is of: 33 of other devices' cells, six of the `w` halves' send cells, twelve
    of each slot's send cell. -/
def tokN (c : Dev nD) (t : ℕ) : GSem nD τ sig × ℕ × ℕ :=
  if t < 33 then (payCell c t, 0, payD t)
  else if t < 39 then (cell c (csem (kh (t - 30))), 0, 0)
  else if t < 51 then (cell c (csem (ks 0)), t - 39, 0)
  else (cell c (csem (ks 1)), t - 51, 0)
abbrev tokOf (x : Dev nD × Fin 63) : GSem nD τ sig × ℕ × ℕ := tokN x.1 x.2.val

/-- A duty by numbers: its cell's device and semaphore, its round, its own number. -/
def tokKey (y : GSem nD τ sig × ℕ × ℕ) : Dev nD × ℕ × ℕ × ℕ := (y.1.1.1, smIx y.1.2, y.2.1, y.2.2)
/-- The device and the payment whose duty that is. -/
def tokInv (k : Dev nD × ℕ × ℕ × ℕ) : Dev nD × ℕ :=
  if k.2.1 = 0 then (if k.2.2.2 = 0 then (k.1 + 1, 0) else if k.2.2.2 = 2 then (k.1 + 3, 1) else (k.1 + 2, 2))
  else if k.2.1 = 6 then (k.1, 39 + k.2.2.1)
  else if k.2.1 = 7 then (k.1, 51 + k.2.2.1)
  else if k.2.1 = 8 then (0, (if k.1 = 3 then 9 else if k.1 = 1 then 17 else 25) + k.2.2.2)
  else if k.2.1 = 9 then (1, (if k.1 = 0 then 9 else if k.1 = 2 then 17 else 25) + k.2.2.2)
  else if k.2.1 = 10 then (2, (if k.1 = 1 then 9 else if k.1 = 3 then 17 else 25) + k.2.2.2)
  else if k.2.1 = 11 then (3, (if k.1 = 2 then 9 else if k.1 = 0 then 17 else 25) + k.2.2.2)
  else if k.2.1 = 15 then (k.1 + 3, 3) else if k.2.1 = 16 then (k.1 + 3, 5) else if k.2.1 = 17 then (k.1 + 3, 7)
  else if k.2.1 = 21 then (k.1 + 1, 4) else if k.2.1 = 22 then (k.1 + 1, 6) else if k.2.1 = 23 then (k.1 + 1, 8)
  else if k.2.1 = 12 then (k.1, 33) else if k.2.1 = 18 then (k.1, 34) else if k.2.1 = 13 then (k.1, 35)
  else if k.2.1 = 19 then (k.1, 36) else if k.2.1 = 14 then (k.1, 37) else (k.1, 38)

set_option maxRecDepth 16000 in
/-- A payment is found again from its cell, its round and its number, -/
theorem tokInv_key : ∀ x : Dev nD × Fin 63, tokInv (tokKey (tokOf x)) = (x.1, x.2.val) := by decide
/-- so no two are the same. -/
theorem tokOf_injective : Function.Injective tokOf := fun x y h => by
  have e := (tokInv_key x).symm.trans ((congrArg (fun z => tokInv (tokKey z)) h).trans (tokInv_key y))
  exact Prod.ext (Prod.mk.inj e).1 (Fin.ext (Prod.mk.inj e).2)

/-- The nineteen semaphores are distinct, -/
theorem csem_injective : ∀ k k' : Fin 19, smIx (csem k) = smIx (csem k') → k = k' := by decide
/-- and so are their cells over the devices. -/
theorem kcell_injective : Function.Injective (kcell : Dev nD × Fin 19 → GSem nD τ sig) := fun x y h =>
  Prod.ext (congrArg (fun g : GSem nD τ sig => g.1.1) h) (csem_injective _ _ (congrArg (fun g : GSem nD τ sig => smIx g.2) h))

def allCells : Finset (GSem nD τ sig) := Finset.univ.map ⟨kcell, kcell_injective⟩
def allToks : Finset (GSem nD τ sig × ℕ × ℕ) := Finset.univ.map ⟨tokOf, tokOf_injective⟩

/-- The tokens of the payments device `c` makes. -/
def toks (c : Dev nD) : sProp 𝕄 := bigSep Finset.univ fun t : Fin 63 => dutyTok ER (tokN c t.val).1 (tokN c t.val).2.1 (tokN c t.val).2.2

/-- The same, sorted: payments on other devices, the `w` halves' sends, the products' sends through each slot. -/
theorem toks_sort (c : Dev nD) :
    (toks c : sProp 𝕄) ⊢ iprop((bigSep (Finset.Ico 0 33) fun j => ptok c j)
      ∗ (bigSep (Finset.Ico 3 9) fun j => dutyTok ER (cell c (csem (kh j))) 0 0) ∗ ytok c 0 0 ∗ ytok c 1 0) := by
  let f (t : ℕ) : sProp 𝕄 := dutyTok ER (tokN c t).1 (tokN c t).2.1 (tokN c t).2.2
  have h0 : (toks c : sProp 𝕄) = bigSep (Finset.Ico 0 (0 + 63)) f := by
    rw [ico_fin]; unfold toks
    exact bigSep_congr fun t _ => by show f t.val = f (0 + t.val); rw [Nat.zero_add]
  have h1 : bigSep (Finset.Ico 0 33) f = bigSep (Finset.Ico 0 33) fun j => ptok c j := bigSep_congr fun j hj => by
    have := (Finset.mem_Ico.mp hj).2
    show dutyTok ER (tokN c j).1 (tokN c j).2.1 (tokN c j).2.2 = _
    unfold tokN ptok; rw [if_pos this]
  have h2 : bigSep (Finset.Ico 33 (33 + 6)) f = bigSep (Finset.Ico 3 (3 + 6)) fun j => dutyTok ER (cell c (csem (kh j))) 0 0 := by
    rw [ico_fin, ico_fin]
    refine bigSep_congr fun p _ => ?_
    have := p.isLt
    show dutyTok ER (tokN c (33 + p.val)).1 (tokN c (33 + p.val)).2.1 (tokN c (33 + p.val)).2.2 = _
    unfold tokN; rw [if_neg (by omega), if_pos (by omega), show 33 + p.val - 30 = 3 + p.val by omega]
  have h3 : bigSep (Finset.Ico 39 (39 + 12)) f = ytok c 0 0 := by
    unfold ytok
    rw [show Finset.Ico 0 12 = Finset.Ico 0 (0 + 12) from rfl, ico_fin, ico_fin]
    refine bigSep_congr fun p _ => ?_
    have := p.isLt
    show dutyTok ER (tokN c (39 + p.val)).1 (tokN c (39 + p.val)).2.1 (tokN c (39 + p.val)).2.2 = _
    unfold tokN; rw [if_neg (by omega), if_neg (by omega), if_pos (by omega), show 39 + p.val - 39 = 0 + p.val by omega]
  have h4 : bigSep (Finset.Ico 51 (51 + 12)) f = ytok c 1 0 := by
    unfold ytok
    rw [show Finset.Ico 0 12 = Finset.Ico 0 (0 + 12) from rfl, ico_fin, ico_fin]
    refine bigSep_congr fun p _ => ?_
    have := p.isLt
    show dutyTok ER (tokN c (51 + p.val)).1 (tokN c (51 + p.val)).2.1 (tokN c (51 + p.val)).2.2 = _
    unfold tokN; rw [if_neg (by omega), if_neg (by omega), if_neg (by omega), show 51 + p.val - 51 = 0 + p.val by omega]
  rw [h0, show Finset.Ico 0 (0 + 63) = Finset.Ico 0 33 ∪ (Finset.Ico 33 (33 + 6) ∪ (Finset.Ico 39 (39 + 12) ∪ Finset.Ico 51 (51 + 12))) by decide,
    bigSep_union (by decide), bigSep_union (by decide), bigSep_union (by decide), h1, h2, h3, h4]
  exact .rfl

/-! ## The semaphores -/

/-- Nineteen things written out. -/
theorem bigSep_19 (f : Fin 19 → sProp 𝕄) : bigSep Finset.univ f = iprop(f 0 ∗ f 1 ∗ f 2 ∗ f 3 ∗ f 4 ∗ f 5 ∗ f 6 ∗ f 7 ∗ f 8 ∗ f 9 ∗ f 10 ∗ f 11 ∗ f 12 ∗ f 13 ∗ f 14 ∗ f 15 ∗ f 16 ∗ f 17 ∗ f 18) := bigSep_univ_eq_bigSepL [0, 1, 2, 3, 4, 5, 6, 7, 8, 9, 10, 11, 12, 13, 14, 15, 16, 17, 18] (by decide) (by decide) f

/-- The kernel's own semaphores: the pool of 23. -/
abbrev osem : Fin 23 → SemLoc sig := fun k => .dma k

/-- The five semaphores of the copies within a device. -/
def plain (c : Dev nD) : sProp 𝕄 :=
  iprop(semVal (cell c (.dma wsem)) 0 ∗ semVal (cell c (.dma (xsem 0))) 0 ∗ semVal (cell c (.dma (xsem 1))) 0
    ∗ semVal (cell c (.dma (lsem 0))) 0 ∗ semVal (cell c (.dma (lsem 1))) 0)

/-- The kernel's own semaphores at zero, written out. -/
theorem ownSems0_list (c : Dev nD) :
    (Pipeline.ownSems0 (Ix := Unit) (Name := ℕ) (U := UU) (Lvl := ℕ) (Val := Elt F) (τ := τ) osem c : sProp 𝕄)
      = iprop(semVal (cell c (osem 0)) 0
        ∗ semVal (cell c (osem 1)) 0
        ∗ semVal (cell c (osem 2)) 0
        ∗ semVal (cell c (osem 3)) 0
        ∗ semVal (cell c (osem 4)) 0
        ∗ semVal (cell c (osem 5)) 0
        ∗ semVal (cell c (osem 6)) 0
        ∗ semVal (cell c (osem 7)) 0
        ∗ semVal (cell c (osem 8)) 0
        ∗ semVal (cell c (osem 9)) 0
        ∗ semVal (cell c (osem 10)) 0
        ∗ semVal (cell c (osem 11)) 0
        ∗ semVal (cell c (osem 12)) 0
        ∗ semVal (cell c (osem 13)) 0
        ∗ semVal (cell c (osem 14)) 0
        ∗ semVal (cell c (osem 15)) 0
        ∗ semVal (cell c (osem 16)) 0
        ∗ semVal (cell c (osem 17)) 0
        ∗ semVal (cell c (osem 18)) 0
        ∗ semVal (cell c (osem 19)) 0
        ∗ semVal (cell c (osem 20)) 0
        ∗ semVal (cell c (osem 21)) 0
        ∗ semVal (cell c (osem 22)) 0) :=
  Pipeline.ownSems0_eq_of_list c osem [0, 1, 2, 3, 4, 5, 6, 7, 8, 9, 10, 11, 12, 13, 14, 15, 16, 17, 18, 19, 20, 21, 22] (by decide) (by decide)
/-- The runtime's only semaphore is the barrier's. -/
theorem unscopedSems0_bar (c : Dev nD) : (unscopedSems0 c : sProp 𝕄) = semVal (cell c (.reg barS)) 0 := by
  unfold unscopedSems0; rw [bigSep_eq_bigSepL_of_eq [SemLoc.reg barS] (by decide) (by decide)]; rfl

/-- The semaphores at zero: those of the rounds, and those of the copies within the device; -/
theorem sems_sort (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 19 => semVal (kcell (c, k)) 0) ∗ plain c) : sProp 𝕄) := by
  rw [ownSems0_list, unscopedSems0_bar, bigSep_19]
  unfold plain
  iintro ⟨⟨H0, H1, H2, H3, H4, HR⟩, HB⟩
  isplitl [HB HR]
  · isplitl [HB]; · iexact HB
    iexact HR
  isplitl [H0]; · iexact H0
  isplitl [H1]; · iexact H1
  isplitl [H2]; · iexact H2
  isplitl [H3]; · iexact H3
  iexact H4
/-- and back. -/
theorem sems_back (c : Dev nD) :
    iprop((bigSep Finset.univ fun k : Fin 19 => semVal (kcell (c, k)) 0) ∗ plain c)
      ⊢ (iprop(unscopedSems0 c ∗ Pipeline.ownSems0 (Ix := Unit) (Name := ℕ) (U := UU) (Lvl := ℕ) (Val := Elt F) (τ := τ) osem c) : sProp 𝕄) := by
  rw [ownSems0_list, unscopedSems0_bar, bigSep_19]
  unfold plain
  iintro ⟨⟨HB, HR⟩, H0, H1, H2, H3, H4⟩
  isplitl [HB]; · iexact HB
  isplitl [H0]; · iexact H0
  isplitl [H1]; · iexact H1
  isplitl [H2]; · iexact H2
  isplitl [H3]; · iexact H3
  isplitl [H4]; · iexact H4
  iexact HR

/-! ## The launch's ghost state -/

section Ghost
variable (X : Dev nD → S2048x8192.Idx → Elt F .f32) (W : Dev nD → S8192x1024.Idx → Elt F .f32)

def u₀ : UU :=
  (initOf (Pipeline.cells cfgs cellOf_inj) (Pipeline.launchToks cfgs cellOf_inj), (initOf allCells allToks, (1 : Counters)))

/-- Holding the rounds' part of the shared state. -/
theorem ownR (b : UB) : (BI.own ((embR : Emb (UB × Counters) 𝕄) (b, 1)) : sProp 𝕄) ⊢ BI.own (ER b) := .rfl

/-- What the launch deals device `c`. -/
def G (c : Dev nD) : sProp 𝕄 :=
  iprop((bigSep Finset.univ fun k : Fin 19 => roundState ER (Rd X W) (kcell (c, k)) 0)
    ∗ (bigSep Finset.univ fun k : Fin 19 => iprop(atPos ER (kcell (c, k)) 0 ∅ 0 ∗ reached ER (kcell (c, k)) 0)) ∗ toks c)

/-- The initial state of all rounds, dealt to the devices. -/
theorem fund_all : BI.own (ER (initOf allCells allToks)) ⊢ (|==> bigSep Finset.univ (G X W) : sProp 𝕄) := by
  have hX (Φ : GSem nD τ sig → sProp 𝕄) : bigSep allCells Φ = bigSep Finset.univ fun c : Dev nD => bigSep Finset.univ fun k : Fin 19 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd X W) allCells allToks) $$ HX with ⟨Hst, Hr, Hat, Htok⟩
  imodintro
  ihave Hst := (BIBase.Entails.of_eq (hX fun g => roundState ER (Rd X W) g 0)) $$ Hst
  ihave Hat := (BIBase.Entails.of_eq (hX fun g => atPos ER g 0 ∅ 0)) $$ Hat
  ihave Hr := (BIBase.Entails.of_eq (hX fun g => reached ER g 0)) $$ Hr
  ihave Htok := (BIBase.Entails.of_eq hT) $$ Htok
  unfold G; simp only [bigSep_sep']
  isplitl [Hst]; · iexact Hst
  isplitl [Hat Hr]
  · isplitl [Hat]; · iexact Hat
    iexact Hr
  iexact Htok

/-- What one device has once its own cells' invariants stand. -/
def cellsUp (c : Dev nD) : sProp 𝕄 :=
  iprop((bigSep Finset.univ fun k => iprop(∃ κ : ℕ, cellInv ER (Rd X W) κ (kcell (c, k))))
    ∗ (bigSep Finset.univ fun k => iprop(atPos ER (kcell (c, k)) 0 ∅ 0 ∗ reached ER (kcell (c, k)) 0)) ∗ toks c ∗ plain c)

/-- A device's semaphores at zero and what it was dealt make its cells' invariants. -/
theorem cells_up (c : Dev nD) :
    iprop(Pipeline.ownSems0 (Ix := Unit) (Name := ℕ) (U := UU) (Lvl := ℕ) (Val := Elt F) (τ := τ) osem c ∗ unscopedSems0 c ∗ G X W c)
      ⊢ |={Set.univ}=> cellsUp X W c := by
  unfold G cellsUp
  iintro ⟨Hos, Hus, Hst, Hat, Htok⟩
  ihave Hv := (sems_sort (F := F) c) $$ [Hos Hus]
  · isplitl [Hos]; · iexact Hos
    iexact Hus
  icases Hv with ⟨Hv, Hp⟩
  imod (show iprop((bigSep Finset.univ fun k : Fin 19 => semVal (kcell (c, k)) 0) ∗ bigSep Finset.univ fun k : Fin 19 => roundState ER (Rd X W) (kcell (c, k)) 0)
      ⊢ (|={Set.univ}=> bigSep Finset.univ fun k => iprop(∃ κ : ℕ, cellInv ER (Rd X W) κ (kcell (c, k))) : sProp 𝕄) from by
        rw [← bigSep_sep']
        exact (bigSep_mono fun k _ => (Rounds.body_intro ER (Rd X W) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hp

/-- What every device is told of all cells. -/
def told (K : Dev nD × Fin 19 → ℕ) : sProp 𝕄 :=
  iprop((bigSep Finset.univ fun ck => cellInv ER (Rd X W) (K ck) (kcell ck)) ∗ bigSep Finset.univ fun ck => reached ER (kcell ck) 0)
instance told_persistent (K : Dev nD × Fin 19 → ℕ) : BI.Persistent (told (F := F) X W K) := by unfold told; infer_instance

/-- What is device `c`'s alone: its places in its own cells' schedules, its tokens, the semaphores of its own copies. -/
def alone (c : Dev nD) : sProp 𝕄 :=
  iprop((bigSep Finset.univ fun k : Fin 19 => atPos ER (kcell (c, k)) 0 ∅ 0) ∗ toks c ∗ plain c)

/-- What the launch's common step makes of it for device `c`. -/
def G' (c : Dev nD) : sProp 𝕄 := iprop(∃ K, told X W K ∗ alone c)

/-- A lasting fact may be used for each of several things. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  iintro ⟨HR, HS⟩
  ihave HR := (BI.bigSep_of_persistent S R) $$ HR
  iapply (show iprop((bigSep S fun _ => R) ∗ bigSep S Φ) ⊢ (bigSep S Ψ : sProp 𝕄) from by rw [← bigSep_sep']; exact bigSep_mono h)
  isplitl [HR]; · iexact HR
  iexact HS

/-- Once every device's invariants stand, each device knows them all. -/
theorem tell : (bigSep Finset.univ fun c : Dev nD => cellsUp X W c) ⊢ (bigSep Finset.univ (G' X W) : sProp 𝕄) := by
  unfold cellsUp
  rw [bigSep_sep', bigSep_sep', ← bigSep_univ_prod (fun ck : Dev nD × Fin 19 => iprop(∃ κ : ℕ, cellInv ER (Rd X W) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd X W) κ (kcell ck) : sProp 𝕄))) $$ HI
  icases HK with ⟨%K, #HI⟩
  iapply (with_all (R := told X W K) (Φ := alone) fun c _ => show iprop(told X W K ∗ alone c) ⊢ G' X W c from by
    unfold G'; iintro H; iexists K; iexact H)
  isplitr
  · unfold told; isplitl; · iexact HI
    iexact HR
  unfold alone
  rw [bigSep_sep' Finset.univ (fun c : Dev nD => bigSep Finset.univ fun k : Fin 19 => (atPos ER (kcell (c, k)) 0 ∅ 0 : sProp 𝕄))]
  isplitl [Hat]; · iexact Hat
  iexact Htok

/-- The launch's common step: every cell's invariant stands, and every device is told of it. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => cells_up X W c).trans (bigSep_fupd _ _)).trans (BI.fupd_mono (tell X W))

end Ghost

/-! ## The credit of what other devices will pay -/

/-- Going round the ring and back. -/
theorem add_sub_dev : ∀ d r : Dev nD, d + r - r = d ∧ d - r + r = d := by decide
/-- The turn of the ring by `r`. -/
def turn (r : Dev nD) : Dev nD ≃ Dev nD := ⟨fun d => d + r, fun d => d - r, fun d => (add_sub_dev d r).1, fun d => (add_sub_dev d r).2⟩

/-- What is paid on device `c`, by payment. -/
def due (c : Dev nD) (j : ℕ) : CellTallies nD τ sig Unit := tallyAt (cell c (paySm (c - rot j) j)) () (payAmt j)

/-- What all devices owe is what is due to all devices. -/
theorem due_sum : (∑ d : Dev nD, Orem d 0) = ∑ d : Dev nD, ∑ j ∈ Finset.Ico 0 33, due d j := by
  unfold Orem
  rw [Finset.sum_comm, Finset.sum_comm (s := Finset.univ) (t := Finset.Ico 0 33) (f := fun d j => due d j)]
  refine Finset.sum_congr rfl fun j _ => ?_
  rw [← Equiv.sum_comp (turn (rot j)) (fun d => due d j)]
  refine Finset.sum_congr rfl fun d _ => ?_
  show _ = tallyAt (cell (d + rot j) (paySm (d + rot j - rot j) j)) () (payAmt j)
  rw [(add_sub_dev d (rot j)).1]

/-- What is due to a device is counted on it. -/
theorem due_at (c : Dev nD) (g : GSem nD τ sig) (h : (∑ j ∈ Finset.Ico 0 33, due c j) g ≠ 0) : g.1 = (c.tc : Thread nD τ) := by
  obtain ⟨u, hu⟩ := DFunLike.ne_iff.mp h
  obtain ⟨j, -, e⟩ := sum_pos (Finset.Ico 0 33) (due c) g u (Nat.pos_of_ne_zero hu)
  unfold due at e
  rw [tallyAt_apply] at e
  by_cases hg : g = cell c (paySm (c - rot j) j) ∧ u = ()
  · rw [hg.1]
  · rw [if_neg hg] at e; exact absurd e (Nat.lt_irrefl 0)

/-- The three signals due to a device go to its barrier semaphore, -/
theorem due_bar : ∀ c : Dev nD, paySm (c - rot 0) 0 = csem 0 ∧ paySm (c - rot 1) 1 = csem 0 ∧ paySm (c - rot 2) 2 = csem 0 := by decide
/-- the six halves to their receive semaphores, -/
theorem due_hop : ∀ c : Dev nD, (paySm (c - rot 3) 3 = csem 10 ∧ paySm (c - rot 5) 5 = csem 11 ∧ paySm (c - rot 7) 7 = csem 12)
    ∧ (paySm (c - rot 4) 4 = csem 16 ∧ paySm (c - rot 6) 6 = csem 17 ∧ paySm (c - rot 8) 8 = csem 18) := by decide
/-- and the blocks of products to their senders' semaphores. -/
theorem due_y : ∀ (c : Dev nD) (p : Fin 8), paySm (c - rot (9 + p.val)) (9 + p.val) = csem (kr (c + 1))
    ∧ paySm (c - rot (17 + p.val)) (17 + p.val) = csem (kr (c + 3)) ∧ paySm (c - rot (25 + p.val)) (25 + p.val) = csem (kr (c + 2)) := by decide

/-- The credit for a payment that is due, at its cell and amount. -/
theorem due_eq {c : Dev nD} {j : ℕ} {sm : SemLoc sig} (h : paySm (c - rot j) j = sm) (n : ℕ) (hn : payAmt j = n) :
    (cred (due c j) : sProp 𝕄) = cred (tallyAt (cell c sm) () n) := by
  subst h; subst hn; rfl
/-- A copy of products counts one block. -/
theorem payAmt_run (j : ℕ) (h : ¬ j < 9) : payAmt j = Ny := by unfold payAmt; rw [if_neg (by omega), if_neg h]

/-- The credit of the eight products device `o` sends. -/
def yCred (c o : Dev nD) : sProp 𝕄 := bigSep (Finset.Ico 0 8) fun _ => cred (tallyAt (cell c (csem (kr o))) () Ny)

/-- The eight credits for the blocks from one device. -/
theorem run_cred (c o : Dev nD) (a : ℕ) (ha : 9 ≤ a) (h : ∀ p : Fin 8, paySm (c - rot (a + p.val)) (a + p.val) = csem (kr o)) :
    (bigSep (Finset.Ico a (a + 8)) fun j => cred (due c j) : sProp 𝕄) = yCred c o := by
  unfold yCred
  rw [show Finset.Ico 0 8 = Finset.Ico 0 (0 + 8) from rfl, ico_fin, ico_fin]
  exact bigSep_congr fun p _ => due_eq (h p) Ny (payAmt_run _ (by omega))

/-- The credits a device waits on: three signals, six halves of `w`, eight products of each of the three others. -/
def creds (c : Dev nD) : sProp 𝕄 :=
  iprop(cred (tallyAt (cell c (csem 0)) () 3)
    ∗ (cred (tallyAt (cell c (csem 10)) () Nh) ∗ cred (tallyAt (cell c (csem 11)) () Nh) ∗ cred (tallyAt (cell c (csem 12)) () Nh)
      ∗ cred (tallyAt (cell c (csem 16)) () Nh) ∗ cred (tallyAt (cell c (csem 17)) () Nh) ∗ cred (tallyAt (cell c (csem 18)) () Nh))
    ∗ yCred c (c + 1) ∗ yCred c (c + 2) ∗ yCred c (c + 3))

/-- The launch's credits, sorted by semaphore. -/
theorem creds_intro (c : Dev nD) : (Pipeline.launchCred (fun d => Orem d 0) c : sProp 𝕄) ⊢ creds c := by
  rw [Pipeline.launchCred_of_sum (fun d => Orem d 0) (fun d => ∑ j ∈ Finset.Ico 0 33, due d j) due_sum due_at c, Pipeline.cred_finsetSum,
    show Finset.Ico 0 33 = insert 0 (insert 1 (insert 2 (insert 3 (insert 4 (insert 5 (insert 6 (insert 7 (insert 8
      (Finset.Ico 9 (9 + 8) ∪ (Finset.Ico 17 (17 + 8) ∪ Finset.Ico 25 (25 + 8))))))))))) by decide,
    bigSep_ins _ (by decide), bigSep_ins _ (by decide), bigSep_ins _ (by decide), bigSep_ins _ (by decide), bigSep_ins _ (by decide),
    bigSep_ins _ (by decide), bigSep_ins _ (by decide), bigSep_ins _ (by decide), bigSep_ins _ (by decide), bigSep_union (by decide), bigSep_union (by decide),
    run_cred c (c + 1) 9 (by decide) fun p => (due_y c p).1, run_cred c (c + 3) 17 (by decide) fun p => (due_y c p).2.1,
    run_cred c (c + 2) 25 (by decide) fun p => (due_y c p).2.2,
    due_eq (due_bar c).1 1 rfl, due_eq (due_bar c).2.1 1 rfl, due_eq (due_bar c).2.2 1 rfl,
    due_eq (due_hop c).1.1 Nh rfl, due_eq (due_hop c).1.2.1 Nh rfl, due_eq (due_hop c).1.2.2 Nh rfl,
    due_eq (due_hop c).2.1 Nh rfl, due_eq (due_hop c).2.2.1 Nh rfl, due_eq (due_hop c).2.2.2 Nh rfl]
  unfold creds
  iintro ⟨B0, B1, B2, H3, H4, H5, H6, H7, H8, HY⟩
  ihave HY := (BIBase.Entails.of_eq (show _ = iprop(yCred (F := F) c (c + 1) ∗ yCred c (c + 3) ∗ yCred c (c + 2)) from rfl)) $$ HY
  icases HY with ⟨Y1, Y3, Y2⟩
  isplitl [B0 B1 B2]
  · ihave B := (cred_add _ _).2 $$ [B0 B1]
    · isplitl [B0]; · iexact B0
      iexact B1
    ihave B := (cred_add _ _).2 $$ [B B2]
    · isplitl [B]; · iexact B
      iexact B2
    iapply (BIBase.Entails.of_eq (show (cred (tallyAt (cell c (csem 0)) () 1 + tallyAt (cell c (csem 0)) () 1 + tallyAt (cell c (csem 0)) () 1) : sProp 𝕄)
      = cred (tallyAt (cell c (csem 0)) () 3) from by rw [tallyAt_add, tallyAt_add])) $$ B
  isplitl [H3 H4 H5 H6 H7 H8]
  · isplitl [H3]; · iexact H3
    isplitl [H5]; · iexact H5
    isplitl [H7]; · iexact H7
    isplitl [H4]; · iexact H4
    isplitl [H6]; · iexact H6
    iexact H8
  isplitl [Y1]; · iexact Y1
  isplitl [Y2]; · iexact Y2
  iexact Y3

end Cert.Proof.K
-- ==== Proof.Enter.lean ====
/-
  From the launch to the kernel's proof on one device, and back.
-/
module

public import proofs.«01_k».proof.Proof.Fund
public import Idealize.ShloMosaic.Lib.Rounds.Family

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Device
variable (X : Dev nD → S2048x8192.Idx → Elt F .f32) (W : Dev nD → S8192x1024.Idx → Elt F .f32)

/-! ## What a device enters the kernel with -/

/-- The arguments, the result and the gathered `w`, whole. -/
def held (c : Dev nD) : sProp 𝕄 :=
  iprop(owns (c : Thread nD τ) xA fullShare (X c) ∗ owns (c : Thread nD τ) wA fullShare (W c)
    ∗ (∃ Y, owns (c : Thread nD τ) yA fullShare Y) ∗ ∃ Y, owns (c : Thread nD τ) gA fullShare Y)
/-- The scratch buffers, at any contents. -/
def scr (c : Dev nD) : sProp 𝕄 :=
  iprop((∃ Y, owns (c : Thread nD τ) wB fullShare Y) ∗ (∃ Y, owns (c : Thread nD τ) xB fullShare Y) ∗ ∃ Y, owns (c : Thread nD τ) yB fullShare Y)
def start (c : Dev nD) : sProp 𝕄 := iprop(G' X W c ∗ creds c ∗ levAts L lv ∗ held X W c)

/-- A family over the four devices' receive cells, listed from device `c`'s on. -/
theorem kr_four (c : Dev nD) (f : Fin 19 → sProp 𝕄) :
    iprop(f 3 ∗ f 4 ∗ f 5 ∗ f 6) = iprop(f (kr c) ∗ f (kr (c + 1)) ∗ f (kr (c + 2)) ∗ f (kr (c + 3))) := by
  rw [← ring_four c fun o => f (kr o)]
  exact (bigSep_univ_eq_bigSepL [0, 1, 2, 3] (by decide) (by decide) fun o : Dev nD => f (kr o)).symm

/-- Nothing of device `o`'s products has been waited for. -/
theorem yst_zero (c o : Dev nD) : iprop(atPos ER (cell c (csem (kr o))) 0 ∅ 0 ∗ yCred c o) ⊢ yst X W c o 0 := by
  unfold yst yCred
  rw [if_neg (by decide)]
  iintro ⟨H, HC⟩
  iexists (∅ : Finset ℕ)
  isplitr; · ipureintro; exact Finset.empty_subset _
  rw [Nat.zero_mul, BI.bigSep_empty]
  isplitl [H]; · iexact H
  isplitr; · iempintro
  iexact HC

/-- Everything the kernel's proof asks for on device `c`, out of what the launch hands it. -/
theorem enter (c : Dev nD) (K : Dev nD × Fin 19 → ℕ) :
    iprop(ow c 0 ∗ told X W K ∗ alone c ∗ creds c ∗ levAts L lv ∗ held X W c ∗ scr c)
      ⊢ iprop(recs X W K ∗ bodyPre X W c fullShare.left fullShare.right fullShare.right.left fullShare.right.right fullShare.left
          ∗ atPos ER (cell c (csem (kr c))) 0 ∅ 0) := by
  unfold alone held scr
  iintro ⟨HO, Htold, ⟨Hat, Htok, Hpl⟩, Hcr, Hlev, ⟨Hx, Hw, ⟨%Y, Hy⟩, ⟨%Gv, Hg⟩⟩, ⟨Hwb, ⟨%Xs, Hxb⟩, ⟨%Ys, Hyb⟩⟩⟩
  ihave HR := (show iprop(told X W K ∗ levAts L lv) ⊢ recs X W K from by
    unfold told recs; iintro ⟨⟨H1, H2⟩, H3⟩
    isplitl [H1]; · iexact H1
    isplitl [H2]; · iexact H2
    iexact H3) $$ [Htold Hlev]
  · isplitl [Htold]; · iexact Htold
    iexact Hlev
  icases HR with #HR
  ihave Hr0 := (recs_reached X W K c (ks 0)) $$ HR
  ihave Hr1 := (recs_reached X W K c (ks 1)) $$ HR
  ihave Hat := (BIBase.Entails.of_eq (bigSep_19 fun k : Fin 19 => atPos ER (kcell (c, k)) 0 ∅ 0)) $$ Hat
  icases Hat with ⟨A0, A1, A2, A3, A4, A5, A6, A7, A8, A9, A10, A11, A12, A13, A14, A15, A16, A17, A18⟩
  ihave HA := (BIBase.Entails.of_eq (kr_four c fun k : Fin 19 => atPos ER (kcell (c, k)) 0 ∅ 0)) $$ [A3 A4 A5 A6]
  · isplitl [A3]; · iexact A3
    isplitl [A4]; · iexact A4
    isplitl [A5]; · iexact A5
    iexact A6
  icases HA with ⟨R0, R1, R2, R3⟩
  ihave Htok := (toks_sort c) $$ Htok
  icases Htok with ⟨Tp, Th, T0, T1⟩
  ihave Th := (BIBase.Entails.of_eq (show (bigSep (Finset.Ico 3 9) fun j => dutyTok ER (cell c (csem (kh j))) 0 0 : sProp 𝕄)
    = iprop(dutyTok ER (cell c (csem (kh 3))) 0 0 ∗ dutyTok ER (cell c (csem (kh 4))) 0 0 ∗ dutyTok ER (cell c (csem (kh 5))) 0 0
      ∗ dutyTok ER (cell c (csem (kh 6))) 0 0 ∗ dutyTok ER (cell c (csem (kh 7))) 0 0 ∗ dutyTok ER (cell c (csem (kh 8))) 0 0) from by
    rw [show Finset.Ico 3 9 = {3, 4, 5, 6, 7, 8} by decide, bigSep_ins _ (by decide), bigSep_ins _ (by decide), bigSep_ins _ (by decide),
      bigSep_ins _ (by decide), bigSep_ins _ (by decide), bigSep_singleton])) $$ Th
  icases Th with ⟨Th3, Th4, Th5, Th6, Th7, Th8⟩
  unfold plain
  icases Hpl with ⟨P0, P1, P2, P3, P4⟩
  unfold creds
  icases Hcr with ⟨C0, ⟨C10, C11, C12, C16, C17, C18⟩, D1, D2, D3⟩
  ihave Hyg := (deal_yg X W c Y Gv) $$ [Hy Hg]
  · isplitl [Hy]; · iexact Hy
    iexact Hg
  icases Hyg with ⟨HB, L0, L1⟩
  ihave Hxb := (xs_cut c Xs) $$ Hxb
  icases Hxb with ⟨X0, X1⟩
  ihave Hyb := (ys_cut c Ys) $$ Hyb
  icases Hyb with ⟨Y0, Y1⟩
  ihave Hx := (owns_halves (c : Thread nD τ) xA fullShare (X c)).1 $$ Hx
  icases Hx with ⟨Hxl, Hxr⟩
  ihave Hw := (owns_halves (c : Thread nD τ) wA fullShare (W c)).1 $$ Hw
  icases Hw with ⟨Hwl, Hwr⟩
  ihave Hwr := (owns_halves (c : Thread nD τ) wA fullShare.right (W c)).1 $$ Hwr
  icases Hwr with ⟨Hwa, Hwb'⟩
  ihave Hwa := (w_cut c fullShare.right.left (W c)) $$ Hwa
  icases Hwa with ⟨Wa0, Wa1⟩
  ihave Hwb' := (w_cut c fullShare.right.right (W c)) $$ Hwb'
  icases Hwb' with ⟨Wb0, Wb1⟩
  isplitr; · iexact HR
  isplitr [R0]
  · unfold bodyPre hs hr wid xid ylS ylF yrP
    isplitl [HO]; · iexact HO
    isplitl [Tp]; · iexact Tp
    isplitl [HB]; · iexact HB
    isplitl [C0 A0]
    · isplitl [C0]; · iexact C0
      iexact A0
    isplitl [Wa0 Wa1 Wb0 Wb1 Hwl]
    · isplitl [Wa0]; · iexact Wa0
      isplitl [Wa1]; · iexact Wa1
      isplitl [Wb0]; · iexact Wb0
      isplitl [Wb1]; · iexact Wb1
      iexact Hwl
    isplitl [Th3 Th4 Th5 Th6 Th7 Th8 A7 A8 A9 A13 A14 A15]
    · isplitl [Th3 A7]
      · isplitl [Th3]; · iexact Th3
        iexact A7
      isplitl [Th4 A13]
      · isplitl [Th4]; · iexact Th4
        iexact A13
      isplitl [Th5 A8]
      · isplitl [Th5]; · iexact Th5
        iexact A8
      isplitl [Th6 A14]
      · isplitl [Th6]; · iexact Th6
        iexact A14
      isplitl [Th7 A9]
      · isplitl [Th7]; · iexact Th7
        iexact A9
      isplitl [Th8]; · iexact Th8
      iexact A15
    isplitl [C10 C11 C12 C16 C17 C18 A10 A11 A12 A16 A17 A18]
    · isplitl [C10 A10]
      · isplitl [C10]; · iexact C10
        iexact A10
      isplitl [C11 A11]
      · isplitl [C11]; · iexact C11
        iexact A11
      isplitl [C12 A12]
      · isplitl [C12]; · iexact C12
        iexact A12
      isplitl [C16 A16]
      · isplitl [C16]; · iexact C16
        iexact A16
      isplitl [C17 A17]
      · isplitl [C17]; · iexact C17
        iexact A17
      isplitl [C18]; · iexact C18
      iexact A18
    isplitl [Hwb P0]
    · isplitl [Hwb]; · iexact Hwb
      iexact P0
    isplitl [X0 P1 Hxl]
    · isplitl [X0]; · iexact X0
      isplitl [P1]; · iexact P1
      iexact Hxl
    isplitl [X1 P2 Hxr]
    · isplitl [X1]; · iexact X1
      isplitl [P2]; · iexact P2
      iexact Hxr
    rw [if_pos rfl, if_pos rfl]
    isplitl [Y0 P3 L0]
    · isplitl [Y0 P3]
      · isplitl [Y0]; · iexact Y0
        iexact P3
      iexact L0
    isplitl [Y1 P4 L1]
    · isplitl [Y1 P4]
      · isplitl [Y1]; · iexact Y1
        iexact P4
      iexact L1
    isplitl [A1 T0]
    · isplitl [A1]; · iexact A1
      isplitr [T0]; · iexact Hr0
      iexact T0
    isplitl [A2 T1]
    · isplitl [A2]; · iexact A2
      isplitr [T1]; · iexact Hr1
      iexact T1
    isplitl [R1 D1]
    · iapply (yst_zero X W c (c + 1)) $$ [R1 D1]
      isplitl [R1]; · iexact R1
      iexact D1
    isplitl [R2 D2]
    · iapply (yst_zero X W c (c + 2)) $$ [R2 D2]
      isplitl [R2]; · iexact R2
      iexact D2
    iapply (yst_zero X W c (c + 3)) $$ [R3 D3]
    isplitl [R3]; · iexact R3
    iexact D3
  iexact R0

/-! ## What it leaves with -/

/-- The round after the last of the cell of device `c`'s `k`-th semaphore. -/
def lastR (c : Dev nD) (k : Fin 19) : ℕ := if k = 1 ∨ k = 2 then 12 else if k = kr c then 0 else 1

/-- How many rounds each semaphore has. -/
theorem dut_table : ∀ (c : Dev nD) (k : Fin 19),
    (smIx (csem k) = 0 ∧ lastR c k = 1) ∨ (6 ≤ smIx (csem k) ∧ smIx (csem k) < 8 ∧ lastR c k = 12)
      ∨ (smIx (csem k) = 8 + c.val ∧ lastR c k = 0) ∨ (8 ≤ smIx (csem k) ∧ lastR c k = 1) := by decide

/-- After its last round nothing more is paid to a semaphore. -/
theorem dut_end (c : Dev nD) (k : Fin 19) (r : ℕ) (h : lastR c k ≤ r) : dut c (smIx (csem k)) r = ∅ := by
  have hc : c.val < 4 := c.isLt
  have ht := dut_table c k
  generalize smIx (csem k) = i at ht ⊢
  generalize lastR c k = n at ht h
  unfold dut
  rcases ht with ⟨h1, h2⟩ | ⟨h1, h2, h3⟩ | ⟨h1, h2⟩ | ⟨h1, h2⟩
  · rw [if_pos h1, if_neg (by omega)]
  · rw [if_neg (by omega), if_neg (by omega), if_pos h2, if_neg (by omega)]
  · rw [if_neg (by omega), if_neg (by omega), if_neg (by omega), if_pos (by omega), if_neg (fun hh => hh.2 h1)]
  · rw [if_neg (by omega), if_neg (by omega), if_neg (by omega)]
    split
    · rw [if_neg (fun hh => by omega)]
    · rw [if_neg (by omega)]

/-- The last rounds of the products' receive semaphores, -/
theorem lastR_kr : ∀ c : Dev nD, lastR c (kr c) = 0 ∧ lastR c (kr (c + 1)) = 1 ∧ lastR c (kr (c + 2)) = 1 ∧ lastR c (kr (c + 3)) = 1 := by decide
/-- and of the others, the two that free the product slots apart. -/
theorem lastR_rest : ∀ c : Dev nD, lastR c 0 = 1 ∧ lastR c 7 = 1 ∧ lastR c 8 = 1 ∧ lastR c 9 = 1 ∧ lastR c 10 = 1 ∧ lastR c 11 = 1 ∧ lastR c 12 = 1
    ∧ lastR c 13 = 1 ∧ lastR c 14 = 1 ∧ lastR c 15 = 1 ∧ lastR c 16 = 1 ∧ lastR c 17 = 1 ∧ lastR c 18 = 1 := by decide

/-- A device's cells, all through, give their counters back at zero. -/
theorem cells_down (c : Dev nD) (K : Dev nD × Fin 19 → ℕ) :
    iprop(recs X W K ∗ bigSep Finset.univ fun k : Fin 19 => atPos ER (cell c (csem k)) (lastR c k) ∅ 0)
      ⊢ (|={Set.univ}=> bigSep Finset.univ fun k : Fin 19 => semVal (kcell (c, k)) 0 : sProp 𝕄) := by
  refine BIBase.Entails.trans ?_ (Rounds.cells_close ER (Rd X W) Finset.univ (fun k : Fin 19 => cell c (csem k)) (fun k => K (c, k))
    (fun _ _ => Set.mem_univ _) (fun _ _ h => h) (lastR c) (fun k _ r hr => dut_end c k r hr))
  exact with_all fun k _ => by
    iintro ⟨HR, H⟩
    isplitl [HR]; · iapply (recs_inv X W K c k) $$ HR
    iexact H

/-- A device's result: each block of each device's rows is the product of those rows of that device's `x` with the device's `w`. -/
def Prod (c : Dev nD) (Yv : S8192x1024.Idx → Elt F .f32) : Prop :=
  ∀ (o : Dev nD) (p : Fin 8) (j : S256x1024.Idx), Yv ((yR o p).emb j) = yBlk (xBlk (X o) p) (W c) j

/-- What the run's end is read from. -/
def fin (c : Dev nD) : sProp 𝕄 :=
  iprop(owns (c : Thread nD τ) xA fullShare.left (X c) ∗ owns (c : Thread nD τ) wA fullShare.left (W c)
    ∗ ∃ Yv, ⌜Prod X W c Yv⌝ ∗ owns (c : Thread nD τ) yA fullShare Yv)

/-- After eight waits the eight blocks of products from device `o` are there. -/
theorem yst_last (c o : Dev nD) : yst X W c o 8
    ⊢ iprop(atPos ER (cell c (csem (kr o))) 1 ∅ 0 ∗ bigSep Finset.univ fun p : Fin 8 => yFull X W c o p) := by
  unfold yst
  rw [if_pos rfl, Finset.range_eq_Ico, show Finset.Ico 0 8 = Finset.Ico 0 (0 + 8) from rfl, ico_fin,
    bigSep_congr fun (p : Fin 8) _ => (show pay (F := F) X W c (8 + o.val) (0 + p.val) = yFull X W c o p from by rw [Nat.zero_add, pay_y])]

/-- After its own loop the device holds the eight blocks of its own rows. -/
theorem own_last (c : Dev nD) : iprop(ylD X W c 0 4 4 ∗ ylD X W c 1 4 4) ⊢ (bigSep Finset.univ fun p : Fin 8 => yFull X W c c p) := by
  unfold ylD
  rw [pIx_cut]
  iintro ⟨⟨H0, -⟩, ⟨H1, -⟩⟩
  isplitl [H0]; · iexact H0
  iexact H1

/-- The result, put together. -/
theorem result_join [∀ e, Nonempty (Elt F e)] (c : Dev nD) :
    (bigSep Finset.univ fun o : Dev nD => bigSep Finset.univ fun p : Fin 8 => yFull X W c o p)
      ⊢ (iprop(∃ Yv, ⌜Prod X W c Yv⌝ ∗ owns (c : Thread nD τ) yA fullShare Yv) : sProp 𝕄) := by
  obtain ⟨Yv, hY⟩ := glue (fun t : Dev nD × Fin 8 => yR t.1 t.2) yR_disj fun t j => yBlk (xBlk (X t.1) t.2) (W c) j
  iintro H
  iexists Yv
  isplitr; · ipureintro; exact fun o p j => hY (o, p) j
  unfold yFull
  iapply (y_join c Yv (fun o p => yBlk (xBlk (X o) p) (W c)) fun o p j => hY (o, p) j) $$ H

/-- Everything the launch wants back from device `c`, out of what the kernel leaves. -/
theorem leave [∀ e, Nonempty (Elt F e)] (c : Dev nD) (K : Dev nD × Fin 19 → ℕ) :
    iprop(recs X W K ∗ bodyPost X W c fullShare.left fullShare.right fullShare.left ∗ atPos ER (cell c (csem (kr c))) 0 ∅ 0)
      ⊢ |={Set.univ}=> iprop(ow c 33 ∗ fin X W c
          ∗ (unscopedSems0 c ∗ Pipeline.ownSems0 (Ix := Unit) (Name := ℕ) (U := UU) (Lvl := ℕ) (Val := Elt F) (τ := τ) osem c) ∗ scr c) := by
  unfold bodyPost wid xid yrP ylP
  iintro ⟨#HR, ⟨HO, A0, ⟨A10, A11, A12, A16, A17, A18⟩, ⟨A7, A13, A8, A14, A9, A15⟩, ⟨A1, -, -⟩, ⟨A2, -, -⟩, Y0, Y1, ⟨Hwb, P0⟩, ⟨X0, P1, Hx⟩, ⟨X1, P2, -⟩, Hw, ⟨P3, L0⟩, ⟨P4, L1⟩, ⟨Z1, Z2, Z3⟩⟩, R0⟩
  ihave Z1 := (yst_last X W c (c + 1)) $$ Z1
  ihave Z2 := (yst_last X W c (c + 2)) $$ Z2
  ihave Z3 := (yst_last X W c (c + 3)) $$ Z3
  icases Z1 with ⟨R1, Z1⟩
  icases Z2 with ⟨R2, Z2⟩
  icases Z3 with ⟨R3, Z3⟩
  obtain ⟨e0, e1, e2, e3⟩ := lastR_kr c
  obtain ⟨f0, f7, f8, f9, f10, f11, f12, f13, f14, f15, f16, f17, f18⟩ := lastR_rest c
  ihave HA := (BIBase.Entails.of_eq (kr_four c fun k : Fin 19 => atPos ER (cell c (csem k)) (lastR c k) ∅ 0).symm) $$ [R0 R1 R2 R3]
  · rw [e0, e1, e2, e3]
    isplitl [R0]; · iexact R0
    isplitl [R1]; · iexact R1
    isplitl [R2]; · iexact R2
    iexact R3
  icases HA with ⟨A3, A4, A5, A6⟩
  imod (cells_down X W c K) $$ [A0 A1 A2 A3 A4 A5 A6 A7 A8 A9 A10 A11 A12 A13 A14 A15 A16 A17 A18] with HS
  · isplitr; · iexact HR
    iapply (BIBase.Entails.of_eq (bigSep_19 fun k : Fin 19 => atPos ER (cell c (csem k)) (lastR c k) ∅ 0).symm)
    rw [f0, f7, f8, f9, f10, f11, f12, f13, f14, f15, f16, f17, f18]
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    iexact A18
  ihave Hyr := (result_join X W c) $$ [L0 L1 Z1 Z2 Z3]
  · iapply (BIBase.Entails.of_eq (ring_four c fun o => bigSep Finset.univ fun p : Fin 8 => yFull X W c o p).symm)
    isplitl [L0 L1]
    · iapply (own_last X W c)
      isplitl [L0]; · iexact L0
      iexact L1
    isplitl [Z1]; · iexact Z1
    isplitl [Z2]; · iexact Z2
    iexact Z3
  ihave Hxb := (xs_join c) $$ [X0 X1]
  · isplitl [X0]; · iexact X0
    iexact X1
  ihave Hyb := (ys_join c) $$ [Y0 Y1]
  · isplitl [Y0]; · iexact Y0
    iexact Y1
  imodintro
  isplitl [HO]; · iexact HO
  isplitl [Hx Hw Hyr]
  · unfold fin
    isplitl [Hx]; · iexact Hx
    isplitl [Hw]; · iexact Hw
    iexact Hyr
  isplitl [HS P0 P1 P2 P3 P4]
  · iapply (sems_back c)
    isplitl [HS]; · iexact HS
    unfold plain
    isplitl [P0]; · iexact P0
    isplitl [P1]; · iexact P1
    isplitl [P2]; · iexact P2
    isplitl [P3]; · iexact P3
    iexact P4
  unfold scr
  isplitl [Hwb]; · iexact Hwb
  isplitl [Hxb]; · iexact Hxb
  iexact Hyb

end Device

end Cert.Proof.K
-- ==== Proof.Launch.lean ====
/-
  The launch on the four devices, and the run.
-/
module

public import proofs.«01_k».proof.Proof.Enter
public import Idealize.ShloMosaic.Lib.Quiescent
public import Idealize.ShloMosaic.Lib.Pipeline.CollectiveSegs

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The devices' blocks of `x` and of `w` at the launch. -/
abbrev Xm (c : Dev nD) : S2048x8192.Idx → Elt F .f32 := m ((c : Thread nD τ).loc main_arg0)
abbrev Wm (c : Dev nD) : S8192x1024.Idx → Elt F .f32 := m ((c : Thread nD τ).loc main_arg1)

/-! ## The region's one point -/

/-- Before the kernel. -/
def Φ₀ (c : Dev nD) : sProp 𝕄 := iprop(start (Xm m) (Wm m) c ∗ scr c)
/-- After it. -/
def Φ₁ (c : Dev nD) : sProp 𝕄 :=
  iprop(fin (Xm m) (Wm m) c ∗ (unscopedSems0 c ∗ Pipeline.ownSems0 (Ix := Unit) (Name := ℕ) (U := UU) (Lvl := ℕ) (Val := Elt F) (τ := τ) osem c) ∗ scr c)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => Orem c 0
    | ⟨_ + 1, _⟩ => 0

/-- The kernel's body does on a device what the launch asks of it. -/
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ _) ⊢ wpK c
    (cc0__body (F := F) xA (Memref.isWhole_whole _) wA (Memref.isWhole_whole _) yA (Memref.isWhole_whole _) gA (Memref.isWhole_whole _)
      wB (Memref.isWhole_whole _) xB (Memref.isWhole_whole _) yB (Memref.isWhole_whole _)
      cc0_scratch3 cc0_scratch4 cc0_scratch5 cc0_scratch6 cc0_scratch7 cc0_scratch8 cc0_scratch9 cc0_scratch10 cc0_scratch11)
    (fun _ => iprop(Φ₁ m c ∗ (dats m 0 c).owesAt () t0_0.succ ∗ _))
  unfold Φ₀ start G' Dat.owesAt Pipeline.owesWithin
  iintro ⟨⟨⟨⟨%K, Htold, Hal⟩, Hcr, Hlev, Hh⟩, Hs⟩, ⟨%Ws, %hWs, HO⟩, -⟩
  ihave H := (enter (Xm m) (Wm m) c K) $$ [HO Htold Hal Hcr Hlev Hh Hs]
  · isplitl [HO]
    · unfold ow; iexists Ws; iexact HO
    isplitl [Htold]; · iexact Htold
    isplitl [Hal]; · iexact Hal
    isplitl [Hcr]; · iexact Hcr
    isplitl [Hlev]; · iexact Hlev
    isplitl [Hh]; · iexact Hh
    iexact Hs
  icases H with ⟨#HR, Hpre, Hown⟩
  iapply (wp_fupd _ _)
  iapply (body_spec (Xm m) (Wm m) K (Memref.isWhole_whole _) (Memref.isWhole_whole _) (Memref.isWhole_whole _) (Memref.isWhole_whole _)
    (Memref.isWhole_whole _) (Memref.isWhole_whole _) (Memref.isWhole_whole _)) $$ [Hpre]
  · isplitr; · iexact HR
    iexact Hpre
  iintro Hpost
  imod (leave (Xm m) (Wm m) c K) $$ [Hpost Hown] with ⟨HO, Hf, Hsem, Hs⟩
  · isplitr; · iexact HR
    isplitl [Hpost]; · iexact Hpost
    iexact Hown
  imodintro
  isplitl [Hf Hsem Hs]
  · unfold Φ₁
    isplitl [Hf]; · iexact Hf
    isplitl [Hsem]; · iexact Hsem
    iexact Hs
  isplitl [HO]
  · unfold ow
    icases HO with ⟨%Ws', HO⟩
    iexists Ws'
    isplitr; · ipureintro; exact fun _ _ => Or.inl trivial
    iapply (BIBase.Entails.of_eq (congrArg (fun O => (owes (c : Thread nD τ) O Ws' : sProp 𝕄)) (Orem_end c))) $$ HO
  rw [Finset.univ_eq_empty, bigSep_empty]
  iempintro

/-! ## The launch -/

/-- The kernel's own semaphores are those listed. -/
theorem ownSemFacts : Pipeline.OwnSemFacts cfg0.spec osem := by decide

/-- Out of what the launch hands device `c`, what it starts from. -/
theorem start_intro (c : Dev nD) :
    iprop(Pipeline.unscopedRestP Pipeline.Prefetch.none cfg0.spec c (fun b => m ((c : Thread nD τ).loc b)) ∗ levAts L lv
        ∗ Pipeline.launchCred (fun d => Orem d 0) c ∗ prngReg c (ρ c) ∗ G' (Xm m) (Wm m) c)
      ⊢ |={Set.univ}=> iprop(start (Xm m) (Wm m) c ∗ emp) := by
  rw [Pipeline.unscopedRestP_none, unscopedRest0_eq]
  iintro ⟨⟨Hx, Hw, Hy, Hg⟩, Hlev, Hcr, -, HG⟩
  ihave Hc := (creds_intro (F := F) c) $$ Hcr
  imodintro
  isplitl
  · unfold start held
    isplitl [HG]; · iexact HG
    isplitl [Hc]; · iexact Hc
    isplitl [Hlev]; · iexact Hlev
    rw [owns_whole, owns_whole]
    isplitl [Hx]; · iexact Hx
    isplitl [Hw]; · iexact Hw
    isplitl [Hy]
    · iexists _; rw [owns_whole]; iexact Hy
    iexists _; rw [owns_whole]; iexact Hg
  · iempintro

/-- The scratch buffers as the launch names them. -/
theorem scr_eq (c : Dev nD) : (Pipeline.scopedRest (cfg0.spec) c : sProp 𝕄) = scr c := by
  rw [scopedRest0_eq]
  unfold scr
  simp only [owns_whole]
  rfl

/-- What the launch hands a device is what its body starts from. -/
theorem phi_in (c : Dev nD) :
    iprop(start (Xm m) (Wm m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

/-- What the run's end is read from: the arrays, and the runtime's semaphore at zero. -/
def Yend (c : Dev nD) : sProp 𝕄 := iprop(fin (Xm m) (Wm m) c ∗ unscopedSems0 c)

/-- What the body ends with is what the launch takes back. -/
theorem phi_out (c : Dev nD) :
    (dats m 0 c).Φ (Fin.last cfg0.N) ⊢ iprop(Yend m c ∗ Pipeline.ownSems0 osem c ∗ Pipeline.scopedRest cfg0.spec c) := by
  rw [show (dats m 0 c).Φ (Fin.last cfg0.N) = Φ₁ m c from rfl, scr_eq]
  unfold Φ₁ Yend
  iintro ⟨Hf, ⟨Hu, Ho⟩, Hs⟩
  isplitl [Hf Hu]
  · isplitl [Hf]; · iexact Hf
    iexact Hu
  isplitl [Ho]; · iexact Ho
  iexact Hs

/-- The launch has no windows to wait for. -/
theorem waits (c : Dev nD) : (levAts L lv : sProp 𝕄) ⊢ Pipeline.cellsWaits cfgs (dats m) () 0 c :=
  Pipeline.cellsWaits_intro cfgs (dats m) () 0 c fun w => w.elim0

/-- What a run leaves on device `c`: the products in its result, its arguments as they were, the runtime's semaphore at zero. -/
def End (c : Dev nD) (s : MemSt nD τ sig (Elt F)) : Prop :=
  (Prod (Xm m) (Wm m) c (s.mem ((c : Thread nD τ).loc main_v1_0))
    ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

/-- A buffer that is held has in memory the contents it is held at. -/
theorem read_whole (c : Dev nD) (b : Ref sig .tc) (q : PosShare TreeShare) (f : Buf (Elt F) ((c : Thread nD τ).loc b)) (s' : Phys nD τ sig (Elt F)) :
    iprop(SI s' ∗ (((c : Thread nD τ).loc b) ↦{q} f)) ⊢ (⌜s'.mem.mem ((c : Thread nD τ).loc b) = f⌝ : sProp 𝕄) := by
  iintro H
  ihave %h := (SI_pointsTo_agree) $$ H
  ipureintro
  exact funext fun i => h i (Finset.mem_univ i)

/-- What a device holds at the end, read in memory. -/
theorem end_read (c : Dev nD) (s' : Phys nD τ sig (Elt F)) :
    iprop(Yend m c ∗ emp ∗ SI s') ⊢ |={Set.univ}=> (iprop(⌜End m c s'.mem⌝ ∗ SI s') : sProp 𝕄) := by
  unfold Yend fin
  iintro ⟨⟨⟨Hx, Hw, ⟨%Yv, %hY, Hy⟩⟩, Hu⟩, -, HSI⟩
  ihave Hx := (BIBase.Entails.of_eq (owns_whole (c : Thread nD τ) main_arg0 _ _)) $$ Hx
  ihave Hw := (BIBase.Entails.of_eq (owns_whole (c : Thread nD τ) main_arg1 _ _)) $$ Hw
  ihave Hy := (BIBase.Entails.of_eq (owns_whole (c : Thread nD τ) main_v1_0 _ _)) $$ Hy
  icombine HSI Hx gives %h0
  icombine HSI Hw gives %h1
  icombine HSI Hy gives %h2
  imod (Pipeline.unscopedSems0_read (X := unscopedSems0 c) (c := c) fupd_intro s') $$ [Hu HSI] with ⟨%h3, HSI⟩
  · isplitl [Hu]; · iexact Hu
    iexact HSI
  imodintro
  isplitr
  · ipureintro
    refine ⟨⟨?_, ?_, ?_⟩, h3⟩
    · rw [show s'.mem.mem ((c : Thread nD τ).loc main_v1_0) = Yv from funext fun i => h2 i (Finset.mem_univ i)]; exact hY
    · exact funext fun i => h0 i (Finset.mem_univ i)
    · exact funext fun i => h1 i (Finset.mem_univ i)
  iexact HSI

/-- From any memory with zero counters, over any float values: every weakly fair execution of @main on the four devices
    terminates, and ends with every device's result made of the products of all devices' rows of `x` with its own columns
    of `w`, its arguments as they were, and every semaphore at zero. -/
theorem run_main : θ_run defs (onTc (τ := τ) (main (F := F))) ⟨m, fun _ => 0, ρ⟩ (fun r =>
    (∀ c : Dev nD, Prod (Xm m) (Wm m) c (r.2.mem ((c : Thread nD τ).loc main_v1_0))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := fun d => Orem d 0) (howed₀ := fun _ => rfl) (howedN := fun _ => rfl)
    (L := L) (lv := lv) (hL := L_of_ne) (hwaits := waits m)
    (G := G (Xm m) (Wm m)) (G' := G' (Xm m) (Wm m)) (u₀ := u₀)
    (hu₀ := by
      unfold u₀
      iintro Hu
      ihave H := (ownU_pair _ _) $$ Hu
      icases H with ⟨HP, HX⟩
      ihave HX := (ownR (F := F) _) $$ HX
      imod (fund_all (Xm m) (Wm m)) $$ HX with HG
      imodintro
      isplitl [HP]; · iexact HP
      iexact HG)
    (hglob := glob (Xm m) (Wm m))
    (hA := fun _ _ => rfl) (hpf := fun _ k => k.elim0)
    (X := start (Xm m) (Wm m)) (Y := Yend m) (Z := fun _ => iprop(emp))
    (hX := start_intro m ρ) (hin := phi_in m) (hout := phi_out m)
    (QY := End m) (hY := end_read m)
    (hQ := fun _ h hs => ⟨fun c => (h c).2.2.1, sem_eq_zero hs fun c => (h c).2.2.2⟩)

end Cert.Proof.K
-- ==== Proof.Ref.lean ====
/-
  The reference's run: one host product of the whole `x` with the whole `w`.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.R

open Cert.ReferenceIdeal Cert.ReferenceIdeal.Gen
open Idealize.ShloMosaic Idealize.ShloMosaic.TcCoe Idealize.ShloMosaic.StableHlo Idealize.SL.Sem

variable {F : FTy → Type} [FloatOps F]

/-- The reference's result: the product of the whole arrays. -/
def whole (x : FVec F S8192x8192 .f32) (w : FVec F S8192x4096 .f32) : FVec F S8192x4096 .f32 :=
  Host.dotGeneral dot_S8192x8192_S8192x4096_S8192x4096_1_0_0_1_n_n none x w

/-- The one operation of @main. -/
abbrev prog : List (HloOp τ sig (Elt F)) := [binary main_arg0 main_arg1 main_v0 (fun l r => whole l r)]

/-- The reference is one product. -/
theorem main_prog (c : Dev nD) : main (F := F) c = seq prog := rfl

/-- It has no buffers of its own, -/
theorem no_scoped_refs : (Finset.univ.filter fun b : Ref sig .tc => b.isScoped) = ∅ := by decide
/-- and no semaphores. -/
theorem no_scoped_sems : (Finset.univ.filter fun sm : SemLoc sig => sm.isScoped .tc) = ∅ := by decide

/-- It touches only its buffers. -/
theorem prog_bufs : (prog : List (HloOp τ sig (Elt F))).Forall fun op => op.bufs ⊆ tcRefs τ sig := binary_bufs_sub ..

/-- Its result is the product of its arguments, -/
theorem prog_result (V : Valuation τ sig (Elt F)) :
    after prog V (main_v0 : DevRef τ sig) = whole (V (main_arg0 : DevRef τ sig)) (V (main_arg1 : DevRef τ sig)) := by
  after_results
/-- its first argument is kept, -/
theorem prog_arg0 (V : Valuation τ sig (Elt F)) : after prog V (main_arg0 : DevRef τ sig) = V (main_arg0 : DevRef τ sig) := by
  after_results
/-- and its second. -/
theorem prog_arg1 (V : Valuation τ sig (Elt F)) : after prog V (main_arg1 : DevRef τ sig) = V (main_arg1 : DevRef τ sig) := by
  after_results

/-- From any memory with zero counters the reference terminates, with its result the product of its arguments, its arguments
    as they were, and no semaphore up. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = whole (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h c main_v0).trans (prog_result _), (h c main_arg0).trans (prog_arg0 _), (h c main_arg1).trans (prog_arg1 _)⟩,
      sem_eq_zero_of_no_sems rfl r.2⟩)
    (run_seq no_scoped_refs no_scoped_sems defs main (fun _ => prog) main_prog (fun _ => prog_bufs) m ρ)

end Cert.Proof.R
-- ==== Proof.Value.lean ====
/-
  At the ideal values: a device's array made of the kernel's products is its block of the reference's product.
-/
module

public import proofs.«01_k».proof.Proof.Enter
public import proofs.«01_k».proof.Proof.Ref
public import Idealize.ShloMosaic.Lib.Layout
public import Idealize.ShloMosaic.Lib.Pointwise
public import Idealize.ShloMosaic.PureOps.Ideal.Laws

@[expose] public section

noncomputable section

namespace Cert.Proof.V

open Idealize.ShloMosaic
open Cert.Proof.K (xR yR xBlk yBlk Prod yR_cov)

/-- An entry of the kernel's product of 256 rows with `w`, as a sum. -/
theorem yBlk_sum (X : Cert.KernelIdeal.S256x8192.Idx → Elt Ideal .f32) (W : Cert.KernelIdeal.S8192x1024.Idx → Elt Ideal .f32)
    (j : Cert.KernelIdeal.S256x1024.Idx) :
    yBlk (F := Ideal) X W j = (∑ k : Fin 8192, (X (ix2 (j 0) k) * W (ix2 k (j 1)) : EReal)) := by
  unfold yBlk
  pointwise

/-- An entry of the reference's product, as a sum. -/
theorem whole_sum (x : FVec Ideal Cert.ReferenceIdeal.S8192x8192 .f32) (w : FVec Ideal Cert.ReferenceIdeal.S8192x4096 .f32)
    (i : Cert.ReferenceIdeal.S8192x4096.Idx) :
    R.whole (F := Ideal) x w i = (∑ k : Fin 8192, (x (ix2 (i 0) k) * w (ix2 k (i 1)) : EReal)) := by
  unfold R.whole
  pointwise

/-- Every entry of a device's result lies in one of the 256-row blocks. -/
theorem in_block (i : Cert.KernelIdeal.S8192x1024.Idx) : ∃ (o : Fin 4) (p : Fin 8) (j : Cert.KernelIdeal.S256x1024.Idx), i = (yR o p).emb j := by
  have h := (Finset.mem_biUnion.mp (by rw [yR_cov]; exact Finset.mem_univ i))
  obtain ⟨t, -, ht⟩ := h
  obtain ⟨j, hj⟩ := LoadRect.exists_idx_of_mem _ ht
  exact ⟨t.1, t.2, j, hj.symm⟩

/-- If each device holds its block of rows of `x` and its block of columns of `w`, an array made of the kernel's products
    is that device's block of columns of the whole product. -/
theorem prod_block (X : Fin 4 → Cert.KernelIdeal.S2048x8192.Idx → Elt Ideal .f32) (W : Fin 4 → Cert.KernelIdeal.S8192x1024.Idx → Elt Ideal .f32)
    (x : FVec Ideal Cert.ReferenceIdeal.S8192x8192 .f32) (w : FVec Ideal Cert.ReferenceIdeal.S8192x4096 .f32)
    (hX : ∀ c, X c = Layout.block ⟨2, ![2048, 8192]⟩ ⟨2, ![8192, 8192]⟩ 0 4 c x)
    (hW : ∀ c, W c = Layout.block ⟨2, ![8192, 1024]⟩ ⟨2, ![8192, 4096]⟩ 1 4 c w)
    (c : Fin 4) (Yv : Cert.KernelIdeal.S8192x1024.Idx → Elt Ideal .f32) (hY : Prod (F := Ideal) X W c Yv) :
    Yv = Layout.block ⟨2, ![8192, 1024]⟩ ⟨2, ![8192, 4096]⟩ 1 4 c (R.whole x w) := by
  funext i
  obtain ⟨o, p, j, rfl⟩ := in_block i
  rw [hY o p j, yBlk_sum, Layout.block_apply, whole_sum]
  refine Finset.sum_congr rfl fun k _ => ?_
  unfold xBlk
  rw [hX, hW, Layout.block_apply, Layout.block_apply]
  refine congrArg₂ (fun a b : EReal => a * b) (congrArg x ?_) (congrArg w ?_)
  · funext a
    refine Fin.ext ?_
    fin_cases a
    · show o.val * 2048 + (256 * p.val + 1 * (j 0).val) = 2048 * o.val + 256 * p.val + 1 * (j 0).val; omega
    · show 0 + 1 * k.val = k.val; omega
  · funext a
    refine Fin.ext ?_
    fin_cases a
    · show k.val = k.val; rfl
    · show c.val * 1024 + (j 1).val = c.val * 1024 + (0 + 1 * (j 1).val); omega

end Cert.Proof.V
-- ==== Proof.lean ====
/-
  The certificate's claims. The run of the kernel is stated once, over any float values (Proof/Launch.lean); both frames are
  that run, at floats as words of bits and at the ideal ones, and the value claim reads it through Proof/Value.lean.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Value

@[expose] public section

noncomputable section

namespace Cert.Proof

open Idealize.ShloMosaic Idealize.SL.Sem

/-- The idealized kernel's run at the ideal values ends with its arguments as they were and every semaphore at zero. -/
theorem frame_ideal : Cert.quiescent_KernelIdeal := fun m ρ _ =>
  (θ_run Cert.KernelIdeal.defs _ _).mono (fun _ h => ⟨fun c => (h.1 c).2, h.2⟩) (K.run_main (F := Ideal) m ρ)

/-- The kernel's run at floats as words of bits: its text is the idealized kernel's. -/
theorem frame_kernel : Cert.quiescent_Kernel := fun m ρ _ =>
  (θ_run Cert.KernelIdeal.defs _ _).mono (fun _ h => ⟨fun c => (h.1 c).2, h.2⟩) (K.run_main (F := Bits) m ρ)

/-- The reference's run ends with its arguments as they were and every semaphore at zero. -/
theorem frame_reference : Cert.quiescent_ReferenceIdeal := fun m ρ _ =>
  (θ_run Cert.ReferenceIdeal.defs _ _).mono (fun _ h => ⟨fun c => (h.1 c).2, h.2⟩) (R.run (F := Ideal) m ρ)

/-- At the ideal values each device's result is its block of columns of the whole product. -/
theorem value : Cert.algebraic_KernelIdeal_ReferenceIdeal := fun m ρ m' ρ' _ hargs =>
  ⟨R.whole (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨V.prod_block (K.Xm m) (K.Wm m) _ _ (fun c => (hargs c).1) (fun c => (hargs c).2) c _ (h.1 c).1, (h.1 c).2.1, (h.1 c).2.2⟩)
      (K.run_main (F := Ideal) m ρ),
    (θ_run Cert.ReferenceIdeal.defs _ _).mono (fun _ h => h.1 0) (R.run (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
